-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_InputGrad1 (m : (ℓ : Loc Cert.InputGrad1.nD Cert.InputGrad1.τ Cert.InputGrad1.sig) → Buf (Elt Bits) ℓ) : Prop :=
  True

def Pre_InputGrad1Ideal (m : (ℓ : Loc Cert.InputGrad1Ideal.nD Cert.InputGrad1Ideal.τ Cert.InputGrad1Ideal.sig) → Buf (Elt Ideal) ℓ) : Prop :=
  True

def Pre_InputGrad1RefIdeal (m : (ℓ : Loc Cert.InputGrad1RefIdeal.nD Cert.InputGrad1RefIdeal.τ Cert.InputGrad1RefIdeal.sig) → Buf (Elt Ideal) ℓ) : Prop :=
  True

def Pre_WeightGrad1 (m : (ℓ : Loc Cert.WeightGrad1.nD Cert.WeightGrad1.τ Cert.WeightGrad1.sig) → Buf (Elt Bits) ℓ) : Prop :=
  True

def Pre_WeightGrad1Ideal (m : (ℓ : Loc Cert.WeightGrad1Ideal.nD Cert.WeightGrad1Ideal.τ Cert.WeightGrad1Ideal.sig) → Buf (Elt Ideal) ℓ) : Prop :=
  True

def Pre_WeightGrad1RefIdeal (m : (ℓ : Loc Cert.WeightGrad1RefIdeal.nD Cert.WeightGrad1RefIdeal.τ Cert.WeightGrad1RefIdeal.sig) → Buf (Elt Ideal) ℓ) : Prop :=
  True

def Pre_InputGrad0 (m : (ℓ : Loc Cert.InputGrad0.nD Cert.InputGrad0.τ Cert.InputGrad0.sig) → Buf (Elt Bits) ℓ) : Prop :=
  True

def Pre_InputGrad0Ideal (m : (ℓ : Loc Cert.InputGrad0Ideal.nD Cert.InputGrad0Ideal.τ Cert.InputGrad0Ideal.sig) → Buf (Elt Ideal) ℓ) : Prop :=
  True

def Pre_InputGrad0RefIdeal (m : (ℓ : Loc Cert.InputGrad0RefIdeal.nD Cert.InputGrad0RefIdeal.τ Cert.InputGrad0RefIdeal.sig) → Buf (Elt Ideal) ℓ) : Prop :=
  True

def Pre_WeightGrad0 (m : (ℓ : Loc Cert.WeightGrad0.nD Cert.WeightGrad0.τ Cert.WeightGrad0.sig) → Buf (Elt Bits) ℓ) : Prop :=
  True

def Pre_WeightGrad0Ideal (m : (ℓ : Loc Cert.WeightGrad0Ideal.nD Cert.WeightGrad0Ideal.τ Cert.WeightGrad0Ideal.sig) → Buf (Elt Ideal) ℓ) : Prop :=
  True

def Pre_WeightGrad0RefIdeal (m : (ℓ : Loc Cert.WeightGrad0RefIdeal.nD Cert.WeightGrad0RefIdeal.τ Cert.WeightGrad0RefIdeal.sig) → Buf (Elt Ideal) ℓ) : Prop :=
  True

def Pre_MixGrad (m : (ℓ : Loc Cert.MixGrad.nD Cert.MixGrad.τ Cert.MixGrad.sig) → Buf (Elt Bits) ℓ) : Prop :=
  True

def Pre_MixGradIdeal (m : (ℓ : Loc Cert.MixGradIdeal.nD Cert.MixGradIdeal.τ Cert.MixGradIdeal.sig) → Buf (Elt Ideal) ℓ) : Prop :=
  True

def Pre_MixGradRefIdeal (m : (ℓ : Loc Cert.MixGradRefIdeal.nD Cert.MixGradRefIdeal.τ Cert.MixGradRefIdeal.sig) → Buf (Elt Ideal) ℓ) : Prop :=
  True

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutGradRefIdeal (m : (ℓ : Loc Cert.OutGradRefIdeal.nD Cert.OutGradRefIdeal.τ Cert.OutGradRefIdeal.sig) → Buf (Elt Ideal) ℓ) : Prop :=
  True

def Pre_InProj1 (m : (ℓ : Loc Cert.InProj1.nD Cert.InProj1.τ Cert.InProj1.sig) → Buf (Elt Bits) ℓ) : Prop :=
  True

def Pre_InProj1Ideal (m : (ℓ : Loc Cert.InProj1Ideal.nD Cert.InProj1Ideal.τ Cert.InProj1Ideal.sig) → Buf (Elt Ideal) ℓ) : Prop :=
  True

def Pre_InProj1RefIdeal (m : (ℓ : Loc Cert.InProj1RefIdeal.nD Cert.InProj1RefIdeal.τ Cert.InProj1RefIdeal.sig) → Buf (Elt Ideal) ℓ) : Prop :=
  True

def Pre_InProj0 (m : (ℓ : Loc Cert.InProj0.nD Cert.InProj0.τ Cert.InProj0.sig) → Buf (Elt Bits) ℓ) : Prop :=
  True

def Pre_InProj0Ideal (m : (ℓ : Loc Cert.InProj0Ideal.nD Cert.InProj0Ideal.τ Cert.InProj0Ideal.sig) → Buf (Elt Ideal) ℓ) : Prop :=
  True

def Pre_InProj0RefIdeal (m : (ℓ : Loc Cert.InProj0RefIdeal.nD Cert.InProj0RefIdeal.τ Cert.InProj0RefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_scores [hPre_finite_scores : Cert.Pre_finite_scores.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_scores.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).1 = (fun _ => 1#1)
    ∧ (Cert.Pre_finite_scores.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite_scores [hPre_finite_scores : Cert.Pre_finite_scores.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite_scores.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).1 = (fun _ => 1#1)
    ∧ (Cert.Pre_finite_scores.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_InputGrad1 [hInputGrad1 : Cert.InputGrad1.Facts] : Prop :=
  ∀ (m : (ℓ : Loc Cert.InputGrad1.nD Cert.InputGrad1.τ Cert.InputGrad1.sig) → Buf (Elt Bits) ℓ) (g : Dev Cert.InputGrad1.nD → PrngReg), Pre_InputGrad1 m →
    θ_run (Cert.InputGrad1.defs (F := Bits)) (onTc (τ := Cert.InputGrad1.τ) (Cert.InputGrad1.main (F := Bits))) ⟨m, fun _ => 0, g⟩ (fun r => (∀ c : Dev Cert.InputGrad1.nD,
      r.2.mem ((c.tc : Thread Cert.InputGrad1.nD Cert.InputGrad1.τ).loc Cert.InputGrad1.main_arg0) = m ((c.tc : Thread Cert.InputGrad1.nD Cert.InputGrad1.τ).loc Cert.InputGrad1.main_arg0)
      ∧ r.2.mem ((c.tc : Thread Cert.InputGrad1.nD Cert.InputGrad1.τ).loc Cert.InputGrad1.main_arg1) = m ((c.tc : Thread Cert.InputGrad1.nD Cert.InputGrad1.τ).loc Cert.InputGrad1.main_arg1)
      ∧ r.2.mem ((c.tc : Thread Cert.InputGrad1.nD Cert.InputGrad1.τ).loc Cert.InputGrad1.main_arg2) = m ((c.tc : Thread Cert.InputGrad1.nD Cert.InputGrad1.τ).loc Cert.InputGrad1.main_arg2))
      ∧ r.2.sem = fun _ => 0)

def quiescent_InputGrad1Ideal [hInputGrad1Ideal : Cert.InputGrad1Ideal.Facts] : Prop :=
  ∀ (m : (ℓ : Loc Cert.InputGrad1Ideal.nD Cert.InputGrad1Ideal.τ Cert.InputGrad1Ideal.sig) → Buf (Elt Ideal) ℓ) (g : Dev Cert.InputGrad1Ideal.nD → PrngReg), Pre_InputGrad1Ideal m →
    θ_run (Cert.InputGrad1Ideal.defs (F := Ideal)) (onTc (τ := Cert.InputGrad1Ideal.τ) (Cert.InputGrad1Ideal.main (F := Ideal))) ⟨m, fun _ => 0, g⟩ (fun r => (∀ c : Dev Cert.InputGrad1Ideal.nD,
      r.2.mem ((c.tc : Thread Cert.InputGrad1Ideal.nD Cert.InputGrad1Ideal.τ).loc Cert.InputGrad1Ideal.main_arg0) = m ((c.tc : Thread Cert.InputGrad1Ideal.nD Cert.InputGrad1Ideal.τ).loc Cert.InputGrad1Ideal.main_arg0)
      ∧ r.2.mem ((c.tc : Thread Cert.InputGrad1Ideal.nD Cert.InputGrad1Ideal.τ).loc Cert.InputGrad1Ideal.main_arg1) = m ((c.tc : Thread Cert.InputGrad1Ideal.nD Cert.InputGrad1Ideal.τ).loc Cert.InputGrad1Ideal.main_arg1)
      ∧ r.2.mem ((c.tc : Thread Cert.InputGrad1Ideal.nD Cert.InputGrad1Ideal.τ).loc Cert.InputGrad1Ideal.main_arg2) = m ((c.tc : Thread Cert.InputGrad1Ideal.nD Cert.InputGrad1Ideal.τ).loc Cert.InputGrad1Ideal.main_arg2))
      ∧ r.2.sem = fun _ => 0)

def quiescent_InputGrad1RefIdeal [hInputGrad1RefIdeal : Cert.InputGrad1RefIdeal.Facts] : Prop :=
  ∀ (m : (ℓ : Loc Cert.InputGrad1RefIdeal.nD Cert.InputGrad1RefIdeal.τ Cert.InputGrad1RefIdeal.sig) → Buf (Elt Ideal) ℓ) (g : Dev Cert.InputGrad1RefIdeal.nD → PrngReg), Pre_InputGrad1RefIdeal m →
    θ_run (Cert.InputGrad1RefIdeal.defs (F := Ideal)) (onTc (τ := Cert.InputGrad1RefIdeal.τ) (Cert.InputGrad1RefIdeal.main (F := Ideal))) ⟨m, fun _ => 0, g⟩ (fun r => (∀ c : Dev Cert.InputGrad1RefIdeal.nD,
      r.2.mem ((c.tc : Thread Cert.InputGrad1RefIdeal.nD Cert.InputGrad1RefIdeal.τ).loc Cert.InputGrad1RefIdeal.main_arg0) = m ((c.tc : Thread Cert.InputGrad1RefIdeal.nD Cert.InputGrad1RefIdeal.τ).loc Cert.InputGrad1RefIdeal.main_arg0)
      ∧ r.2.mem ((c.tc : Thread Cert.InputGrad1RefIdeal.nD Cert.InputGrad1RefIdeal.τ).loc Cert.InputGrad1RefIdeal.main_arg1) = m ((c.tc : Thread Cert.InputGrad1RefIdeal.nD Cert.InputGrad1RefIdeal.τ).loc Cert.InputGrad1RefIdeal.main_arg1)
      ∧ r.2.mem ((c.tc : Thread Cert.InputGrad1RefIdeal.nD Cert.InputGrad1RefIdeal.τ).loc Cert.InputGrad1RefIdeal.main_arg2) = m ((c.tc : Thread Cert.InputGrad1RefIdeal.nD Cert.InputGrad1RefIdeal.τ).loc Cert.InputGrad1RefIdeal.main_arg2))
      ∧ r.2.sem = fun _ => 0)

def quiescent_WeightGrad1 [hWeightGrad1 : Cert.WeightGrad1.Facts] : Prop :=
  ∀ (m : (ℓ : Loc Cert.WeightGrad1.nD Cert.WeightGrad1.τ Cert.WeightGrad1.sig) → Buf (Elt Bits) ℓ) (g : Dev Cert.WeightGrad1.nD → PrngReg), Pre_WeightGrad1 m →
    θ_run (Cert.WeightGrad1.defs (F := Bits)) (onTc (τ := Cert.WeightGrad1.τ) (Cert.WeightGrad1.main (F := Bits))) ⟨m, fun _ => 0, g⟩ (fun r => (∀ c : Dev Cert.WeightGrad1.nD,
      r.2.mem ((c.tc : Thread Cert.WeightGrad1.nD Cert.WeightGrad1.τ).loc Cert.WeightGrad1.main_arg0) = m ((c.tc : Thread Cert.WeightGrad1.nD Cert.WeightGrad1.τ).loc Cert.WeightGrad1.main_arg0)
      ∧ r.2.mem ((c.tc : Thread Cert.WeightGrad1.nD Cert.WeightGrad1.τ).loc Cert.WeightGrad1.main_arg1) = m ((c.tc : Thread Cert.WeightGrad1.nD Cert.WeightGrad1.τ).loc Cert.WeightGrad1.main_arg1)
      ∧ r.2.mem ((c.tc : Thread Cert.WeightGrad1.nD Cert.WeightGrad1.τ).loc Cert.WeightGrad1.main_arg2) = m ((c.tc : Thread Cert.WeightGrad1.nD Cert.WeightGrad1.τ).loc Cert.WeightGrad1.main_arg2))
      ∧ r.2.sem = fun _ => 0)

def quiescent_WeightGrad1Ideal [hWeightGrad1Ideal : Cert.WeightGrad1Ideal.Facts] : Prop :=
  ∀ (m : (ℓ : Loc Cert.WeightGrad1Ideal.nD Cert.WeightGrad1Ideal.τ Cert.WeightGrad1Ideal.sig) → Buf (Elt Ideal) ℓ) (g : Dev Cert.WeightGrad1Ideal.nD → PrngReg), Pre_WeightGrad1Ideal m →
    θ_run (Cert.WeightGrad1Ideal.defs (F := Ideal)) (onTc (τ := Cert.WeightGrad1Ideal.τ) (Cert.WeightGrad1Ideal.main (F := Ideal))) ⟨m, fun _ => 0, g⟩ (fun r => (∀ c : Dev Cert.WeightGrad1Ideal.nD,
      r.2.mem ((c.tc : Thread Cert.WeightGrad1Ideal.nD Cert.WeightGrad1Ideal.τ).loc Cert.WeightGrad1Ideal.main_arg0) = m ((c.tc : Thread Cert.WeightGrad1Ideal.nD Cert.WeightGrad1Ideal.τ).loc Cert.WeightGrad1Ideal.main_arg0)
      ∧ r.2.mem ((c.tc : Thread Cert.WeightGrad1Ideal.nD Cert.WeightGrad1Ideal.τ).loc Cert.WeightGrad1Ideal.main_arg1) = m ((c.tc : Thread Cert.WeightGrad1Ideal.nD Cert.WeightGrad1Ideal.τ).loc Cert.WeightGrad1Ideal.main_arg1)
      ∧ r.2.mem ((c.tc : Thread Cert.WeightGrad1Ideal.nD Cert.WeightGrad1Ideal.τ).loc Cert.WeightGrad1Ideal.main_arg2) = m ((c.tc : Thread Cert.WeightGrad1Ideal.nD Cert.WeightGrad1Ideal.τ).loc Cert.WeightGrad1Ideal.main_arg2))
      ∧ r.2.sem = fun _ => 0)

def quiescent_WeightGrad1RefIdeal [hWeightGrad1RefIdeal : Cert.WeightGrad1RefIdeal.Facts] : Prop :=
  ∀ (m : (ℓ : Loc Cert.WeightGrad1RefIdeal.nD Cert.WeightGrad1RefIdeal.τ Cert.WeightGrad1RefIdeal.sig) → Buf (Elt Ideal) ℓ) (g : Dev Cert.WeightGrad1RefIdeal.nD → PrngReg), Pre_WeightGrad1RefIdeal m →
    θ_run (Cert.WeightGrad1RefIdeal.defs (F := Ideal)) (onTc (τ := Cert.WeightGrad1RefIdeal.τ) (Cert.WeightGrad1RefIdeal.main (F := Ideal))) ⟨m, fun _ => 0, g⟩ (fun r => (∀ c : Dev Cert.WeightGrad1RefIdeal.nD,
      r.2.mem ((c.tc : Thread Cert.WeightGrad1RefIdeal.nD Cert.WeightGrad1RefIdeal.τ).loc Cert.WeightGrad1RefIdeal.main_arg0) = m ((c.tc : Thread Cert.WeightGrad1RefIdeal.nD Cert.WeightGrad1RefIdeal.τ).loc Cert.WeightGrad1RefIdeal.main_arg0)
      ∧ r.2.mem ((c.tc : Thread Cert.WeightGrad1RefIdeal.nD Cert.WeightGrad1RefIdeal.τ).loc Cert.WeightGrad1RefIdeal.main_arg1) = m ((c.tc : Thread Cert.WeightGrad1RefIdeal.nD Cert.WeightGrad1RefIdeal.τ).loc Cert.WeightGrad1RefIdeal.main_arg1)
      ∧ r.2.mem ((c.tc : Thread Cert.WeightGrad1RefIdeal.nD Cert.WeightGrad1RefIdeal.τ).loc Cert.WeightGrad1RefIdeal.main_arg2) = m ((c.tc : Thread Cert.WeightGrad1RefIdeal.nD Cert.WeightGrad1RefIdeal.τ).loc Cert.WeightGrad1RefIdeal.main_arg2))
      ∧ r.2.sem = fun _ => 0)

def quiescent_InputGrad0 [hInputGrad0 : Cert.InputGrad0.Facts] : Prop :=
  ∀ (m : (ℓ : Loc Cert.InputGrad0.nD Cert.InputGrad0.τ Cert.InputGrad0.sig) → Buf (Elt Bits) ℓ) (g : Dev Cert.InputGrad0.nD → PrngReg), Pre_InputGrad0 m →
    θ_run (Cert.InputGrad0.defs (F := Bits)) (onTc (τ := Cert.InputGrad0.τ) (Cert.InputGrad0.main (F := Bits))) ⟨m, fun _ => 0, g⟩ (fun r => (∀ c : Dev Cert.InputGrad0.nD,
      r.2.mem ((c.tc : Thread Cert.InputGrad0.nD Cert.InputGrad0.τ).loc Cert.InputGrad0.main_arg0) = m ((c.tc : Thread Cert.InputGrad0.nD Cert.InputGrad0.τ).loc Cert.InputGrad0.main_arg0)
      ∧ r.2.mem ((c.tc : Thread Cert.InputGrad0.nD Cert.InputGrad0.τ).loc Cert.InputGrad0.main_arg1) = m ((c.tc : Thread Cert.InputGrad0.nD Cert.InputGrad0.τ).loc Cert.InputGrad0.main_arg1)
      ∧ r.2.mem ((c.tc : Thread Cert.InputGrad0.nD Cert.InputGrad0.τ).loc Cert.InputGrad0.main_arg2) = m ((c.tc : Thread Cert.InputGrad0.nD Cert.InputGrad0.τ).loc Cert.InputGrad0.main_arg2))
      ∧ r.2.sem = fun _ => 0)

def quiescent_InputGrad0Ideal [hInputGrad0Ideal : Cert.InputGrad0Ideal.Facts] : Prop :=
  ∀ (m : (ℓ : Loc Cert.InputGrad0Ideal.nD Cert.InputGrad0Ideal.τ Cert.InputGrad0Ideal.sig) → Buf (Elt Ideal) ℓ) (g : Dev Cert.InputGrad0Ideal.nD → PrngReg), Pre_InputGrad0Ideal m →
    θ_run (Cert.InputGrad0Ideal.defs (F := Ideal)) (onTc (τ := Cert.InputGrad0Ideal.τ) (Cert.InputGrad0Ideal.main (F := Ideal))) ⟨m, fun _ => 0, g⟩ (fun r => (∀ c : Dev Cert.InputGrad0Ideal.nD,
      r.2.mem ((c.tc : Thread Cert.InputGrad0Ideal.nD Cert.InputGrad0Ideal.τ).loc Cert.InputGrad0Ideal.main_arg0) = m ((c.tc : Thread Cert.InputGrad0Ideal.nD Cert.InputGrad0Ideal.τ).loc Cert.InputGrad0Ideal.main_arg0)
      ∧ r.2.mem ((c.tc : Thread Cert.InputGrad0Ideal.nD Cert.InputGrad0Ideal.τ).loc Cert.InputGrad0Ideal.main_arg1) = m ((c.tc : Thread Cert.InputGrad0Ideal.nD Cert.InputGrad0Ideal.τ).loc Cert.InputGrad0Ideal.main_arg1)
      ∧ r.2.mem ((c.tc : Thread Cert.InputGrad0Ideal.nD Cert.InputGrad0Ideal.τ).loc Cert.InputGrad0Ideal.main_arg2) = m ((c.tc : Thread Cert.InputGrad0Ideal.nD Cert.InputGrad0Ideal.τ).loc Cert.InputGrad0Ideal.main_arg2))
      ∧ r.2.sem = fun _ => 0)

def quiescent_InputGrad0RefIdeal [hInputGrad0RefIdeal : Cert.InputGrad0RefIdeal.Facts] : Prop :=
  ∀ (m : (ℓ : Loc Cert.InputGrad0RefIdeal.nD Cert.InputGrad0RefIdeal.τ Cert.InputGrad0RefIdeal.sig) → Buf (Elt Ideal) ℓ) (g : Dev Cert.InputGrad0RefIdeal.nD → PrngReg), Pre_InputGrad0RefIdeal m →
    θ_run (Cert.InputGrad0RefIdeal.defs (F := Ideal)) (onTc (τ := Cert.InputGrad0RefIdeal.τ) (Cert.InputGrad0RefIdeal.main (F := Ideal))) ⟨m, fun _ => 0, g⟩ (fun r => (∀ c : Dev Cert.InputGrad0RefIdeal.nD,
      r.2.mem ((c.tc : Thread Cert.InputGrad0RefIdeal.nD Cert.InputGrad0RefIdeal.τ).loc Cert.InputGrad0RefIdeal.main_arg0) = m ((c.tc : Thread Cert.InputGrad0RefIdeal.nD Cert.InputGrad0RefIdeal.τ).loc Cert.InputGrad0RefIdeal.main_arg0)
      ∧ r.2.mem ((c.tc : Thread Cert.InputGrad0RefIdeal.nD Cert.InputGrad0RefIdeal.τ).loc Cert.InputGrad0RefIdeal.main_arg1) = m ((c.tc : Thread Cert.InputGrad0RefIdeal.nD Cert.InputGrad0RefIdeal.τ).loc Cert.InputGrad0RefIdeal.main_arg1)
      ∧ r.2.mem ((c.tc : Thread Cert.InputGrad0RefIdeal.nD Cert.InputGrad0RefIdeal.τ).loc Cert.InputGrad0RefIdeal.main_arg2) = m ((c.tc : Thread Cert.InputGrad0RefIdeal.nD Cert.InputGrad0RefIdeal.τ).loc Cert.InputGrad0RefIdeal.main_arg2))
      ∧ r.2.sem = fun _ => 0)

def quiescent_WeightGrad0 [hWeightGrad0 : Cert.WeightGrad0.Facts] : Prop :=
  ∀ (m : (ℓ : Loc Cert.WeightGrad0.nD Cert.WeightGrad0.τ Cert.WeightGrad0.sig) → Buf (Elt Bits) ℓ) (g : Dev Cert.WeightGrad0.nD → PrngReg), Pre_WeightGrad0 m →
    θ_run (Cert.WeightGrad0.defs (F := Bits)) (onTc (τ := Cert.WeightGrad0.τ) (Cert.WeightGrad0.main (F := Bits))) ⟨m, fun _ => 0, g⟩ (fun r => (∀ c : Dev Cert.WeightGrad0.nD,
      r.2.mem ((c.tc : Thread Cert.WeightGrad0.nD Cert.WeightGrad0.τ).loc Cert.WeightGrad0.main_arg0) = m ((c.tc : Thread Cert.WeightGrad0.nD Cert.WeightGrad0.τ).loc Cert.WeightGrad0.main_arg0)
      ∧ r.2.mem ((c.tc : Thread Cert.WeightGrad0.nD Cert.WeightGrad0.τ).loc Cert.WeightGrad0.main_arg1) = m ((c.tc : Thread Cert.WeightGrad0.nD Cert.WeightGrad0.τ).loc Cert.WeightGrad0.main_arg1)
      ∧ r.2.mem ((c.tc : Thread Cert.WeightGrad0.nD Cert.WeightGrad0.τ).loc Cert.WeightGrad0.main_arg2) = m ((c.tc : Thread Cert.WeightGrad0.nD Cert.WeightGrad0.τ).loc Cert.WeightGrad0.main_arg2))
      ∧ r.2.sem = fun _ => 0)

def quiescent_WeightGrad0Ideal [hWeightGrad0Ideal : Cert.WeightGrad0Ideal.Facts] : Prop :=
  ∀ (m : (ℓ : Loc Cert.WeightGrad0Ideal.nD Cert.WeightGrad0Ideal.τ Cert.WeightGrad0Ideal.sig) → Buf (Elt Ideal) ℓ) (g : Dev Cert.WeightGrad0Ideal.nD → PrngReg), Pre_WeightGrad0Ideal m →
    θ_run (Cert.WeightGrad0Ideal.defs (F := Ideal)) (onTc (τ := Cert.WeightGrad0Ideal.τ) (Cert.WeightGrad0Ideal.main (F := Ideal))) ⟨m, fun _ => 0, g⟩ (fun r => (∀ c : Dev Cert.WeightGrad0Ideal.nD,
      r.2.mem ((c.tc : Thread Cert.WeightGrad0Ideal.nD Cert.WeightGrad0Ideal.τ).loc Cert.WeightGrad0Ideal.main_arg0) = m ((c.tc : Thread Cert.WeightGrad0Ideal.nD Cert.WeightGrad0Ideal.τ).loc Cert.WeightGrad0Ideal.main_arg0)
      ∧ r.2.mem ((c.tc : Thread Cert.WeightGrad0Ideal.nD Cert.WeightGrad0Ideal.τ).loc Cert.WeightGrad0Ideal.main_arg1) = m ((c.tc : Thread Cert.WeightGrad0Ideal.nD Cert.WeightGrad0Ideal.τ).loc Cert.WeightGrad0Ideal.main_arg1)
      ∧ r.2.mem ((c.tc : Thread Cert.WeightGrad0Ideal.nD Cert.WeightGrad0Ideal.τ).loc Cert.WeightGrad0Ideal.main_arg2) = m ((c.tc : Thread Cert.WeightGrad0Ideal.nD Cert.WeightGrad0Ideal.τ).loc Cert.WeightGrad0Ideal.main_arg2))
      ∧ r.2.sem = fun _ => 0)

def quiescent_WeightGrad0RefIdeal [hWeightGrad0RefIdeal : Cert.WeightGrad0RefIdeal.Facts] : Prop :=
  ∀ (m : (ℓ : Loc Cert.WeightGrad0RefIdeal.nD Cert.WeightGrad0RefIdeal.τ Cert.WeightGrad0RefIdeal.sig) → Buf (Elt Ideal) ℓ) (g : Dev Cert.WeightGrad0RefIdeal.nD → PrngReg), Pre_WeightGrad0RefIdeal m →
    θ_run (Cert.WeightGrad0RefIdeal.defs (F := Ideal)) (onTc (τ := Cert.WeightGrad0RefIdeal.τ) (Cert.WeightGrad0RefIdeal.main (F := Ideal))) ⟨m, fun _ => 0, g⟩ (fun r => (∀ c : Dev Cert.WeightGrad0RefIdeal.nD,
      r.2.mem ((c.tc : Thread Cert.WeightGrad0RefIdeal.nD Cert.WeightGrad0RefIdeal.τ).loc Cert.WeightGrad0RefIdeal.main_arg0) = m ((c.tc : Thread Cert.WeightGrad0RefIdeal.nD Cert.WeightGrad0RefIdeal.τ).loc Cert.WeightGrad0RefIdeal.main_arg0)
      ∧ r.2.mem ((c.tc : Thread Cert.WeightGrad0RefIdeal.nD Cert.WeightGrad0RefIdeal.τ).loc Cert.WeightGrad0RefIdeal.main_arg1) = m ((c.tc : Thread Cert.WeightGrad0RefIdeal.nD Cert.WeightGrad0RefIdeal.τ).loc Cert.WeightGrad0RefIdeal.main_arg1)
      ∧ r.2.mem ((c.tc : Thread Cert.WeightGrad0RefIdeal.nD Cert.WeightGrad0RefIdeal.τ).loc Cert.WeightGrad0RefIdeal.main_arg2) = m ((c.tc : Thread Cert.WeightGrad0RefIdeal.nD Cert.WeightGrad0RefIdeal.τ).loc Cert.WeightGrad0RefIdeal.main_arg2))
      ∧ r.2.sem = fun _ => 0)

def quiescent_MixGrad [hMixGrad : Cert.MixGrad.Facts] : Prop :=
  ∀ (m : (ℓ : Loc Cert.MixGrad.nD Cert.MixGrad.τ Cert.MixGrad.sig) → Buf (Elt Bits) ℓ) (g : Dev Cert.MixGrad.nD → PrngReg), Pre_MixGrad m →
    θ_run (Cert.MixGrad.defs (F := Bits)) (onTc (τ := Cert.MixGrad.τ) (Cert.MixGrad.main (F := Bits))) ⟨m, fun _ => 0, g⟩ (fun r => (∀ c : Dev Cert.MixGrad.nD,
      r.2.mem ((c.tc : Thread Cert.MixGrad.nD Cert.MixGrad.τ).loc Cert.MixGrad.main_arg0) = m ((c.tc : Thread Cert.MixGrad.nD Cert.MixGrad.τ).loc Cert.MixGrad.main_arg0)
      ∧ r.2.mem ((c.tc : Thread Cert.MixGrad.nD Cert.MixGrad.τ).loc Cert.MixGrad.main_arg1) = m ((c.tc : Thread Cert.MixGrad.nD Cert.MixGrad.τ).loc Cert.MixGrad.main_arg1)
      ∧ r.2.mem ((c.tc : Thread Cert.MixGrad.nD Cert.MixGrad.τ).loc Cert.MixGrad.main_arg2) = m ((c.tc : Thread Cert.MixGrad.nD Cert.MixGrad.τ).loc Cert.MixGrad.main_arg2))
      ∧ r.2.sem = fun _ => 0)

def quiescent_MixGradIdeal [hMixGradIdeal : Cert.MixGradIdeal.Facts] : Prop :=
  ∀ (m : (ℓ : Loc Cert.MixGradIdeal.nD Cert.MixGradIdeal.τ Cert.MixGradIdeal.sig) → Buf (Elt Ideal) ℓ) (g : Dev Cert.MixGradIdeal.nD → PrngReg), Pre_MixGradIdeal m →
    θ_run (Cert.MixGradIdeal.defs (F := Ideal)) (onTc (τ := Cert.MixGradIdeal.τ) (Cert.MixGradIdeal.main (F := Ideal))) ⟨m, fun _ => 0, g⟩ (fun r => (∀ c : Dev Cert.MixGradIdeal.nD,
      r.2.mem ((c.tc : Thread Cert.MixGradIdeal.nD Cert.MixGradIdeal.τ).loc Cert.MixGradIdeal.main_arg0) = m ((c.tc : Thread Cert.MixGradIdeal.nD Cert.MixGradIdeal.τ).loc Cert.MixGradIdeal.main_arg0)
      ∧ r.2.mem ((c.tc : Thread Cert.MixGradIdeal.nD Cert.MixGradIdeal.τ).loc Cert.MixGradIdeal.main_arg1) = m ((c.tc : Thread Cert.MixGradIdeal.nD Cert.MixGradIdeal.τ).loc Cert.MixGradIdeal.main_arg1)
      ∧ r.2.mem ((c.tc : Thread Cert.MixGradIdeal.nD Cert.MixGradIdeal.τ).loc Cert.MixGradIdeal.main_arg2) = m ((c.tc : Thread Cert.MixGradIdeal.nD Cert.MixGradIdeal.τ).loc Cert.MixGradIdeal.main_arg2))
      ∧ r.2.sem = fun _ => 0)

def quiescent_MixGradRefIdeal [hMixGradRefIdeal : Cert.MixGradRefIdeal.Facts] : Prop :=
  ∀ (m : (ℓ : Loc Cert.MixGradRefIdeal.nD Cert.MixGradRefIdeal.τ Cert.MixGradRefIdeal.sig) → Buf (Elt Ideal) ℓ) (g : Dev Cert.MixGradRefIdeal.nD → PrngReg), Pre_MixGradRefIdeal m →
    θ_run (Cert.MixGradRefIdeal.defs (F := Ideal)) (onTc (τ := Cert.MixGradRefIdeal.τ) (Cert.MixGradRefIdeal.main (F := Ideal))) ⟨m, fun _ => 0, g⟩ (fun r => (∀ c : Dev Cert.MixGradRefIdeal.nD,
      r.2.mem ((c.tc : Thread Cert.MixGradRefIdeal.nD Cert.MixGradRefIdeal.τ).loc Cert.MixGradRefIdeal.main_arg0) = m ((c.tc : Thread Cert.MixGradRefIdeal.nD Cert.MixGradRefIdeal.τ).loc Cert.MixGradRefIdeal.main_arg0)
      ∧ r.2.mem ((c.tc : Thread Cert.MixGradRefIdeal.nD Cert.MixGradRefIdeal.τ).loc Cert.MixGradRefIdeal.main_arg1) = m ((c.tc : Thread Cert.MixGradRefIdeal.nD Cert.MixGradRefIdeal.τ).loc Cert.MixGradRefIdeal.main_arg1)
      ∧ r.2.mem ((c.tc : Thread Cert.MixGradRefIdeal.nD Cert.MixGradRefIdeal.τ).loc Cert.MixGradRefIdeal.main_arg2) = m ((c.tc : Thread Cert.MixGradRefIdeal.nD Cert.MixGradRefIdeal.τ).loc Cert.MixGradRefIdeal.main_arg2))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1)
      ∧ r.2.mem ((c.tc : Thread Cert.OutGrad.nD Cert.OutGrad.τ).loc Cert.OutGrad.main_arg2) = m ((c.tc : Thread Cert.OutGrad.nD Cert.OutGrad.τ).loc Cert.OutGrad.main_arg2))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1)
      ∧ r.2.mem ((c.tc : Thread Cert.OutGradIdeal.nD Cert.OutGradIdeal.τ).loc Cert.OutGradIdeal.main_arg2) = m ((c.tc : Thread Cert.OutGradIdeal.nD Cert.OutGradIdeal.τ).loc Cert.OutGradIdeal.main_arg2))
      ∧ r.2.sem = fun _ => 0)

def quiescent_OutGradRefIdeal [hOutGradRefIdeal : Cert.OutGradRefIdeal.Facts] : Prop :=
  ∀ (m : (ℓ : Loc Cert.OutGradRefIdeal.nD Cert.OutGradRefIdeal.τ Cert.OutGradRefIdeal.sig) → Buf (Elt Ideal) ℓ) (g : Dev Cert.OutGradRefIdeal.nD → PrngReg), Pre_OutGradRefIdeal m →
    θ_run (Cert.OutGradRefIdeal.defs (F := Ideal)) (onTc (τ := Cert.OutGradRefIdeal.τ) (Cert.OutGradRefIdeal.main (F := Ideal))) ⟨m, fun _ => 0, g⟩ (fun r => (∀ c : Dev Cert.OutGradRefIdeal.nD,
      r.2.mem ((c.tc : Thread Cert.OutGradRefIdeal.nD Cert.OutGradRefIdeal.τ).loc Cert.OutGradRefIdeal.main_arg0) = m ((c.tc : Thread Cert.OutGradRefIdeal.nD Cert.OutGradRefIdeal.τ).loc Cert.OutGradRefIdeal.main_arg0)
      ∧ r.2.mem ((c.tc : Thread Cert.OutGradRefIdeal.nD Cert.OutGradRefIdeal.τ).loc Cert.OutGradRefIdeal.main_arg1) = m ((c.tc : Thread Cert.OutGradRefIdeal.nD Cert.OutGradRefIdeal.τ).loc Cert.OutGradRefIdeal.main_arg1)
      ∧ r.2.mem ((c.tc : Thread Cert.OutGradRefIdeal.nD Cert.OutGradRefIdeal.τ).loc Cert.OutGradRefIdeal.main_arg2) = m ((c.tc : Thread Cert.OutGradRefIdeal.nD Cert.OutGradRefIdeal.τ).loc Cert.OutGradRefIdeal.main_arg2))
      ∧ r.2.sem = fun _ => 0)

def quiescent_InProj1 [hInProj1 : Cert.InProj1.Facts] : Prop :=
  ∀ (m : (ℓ : Loc Cert.InProj1.nD Cert.InProj1.τ Cert.InProj1.sig) → Buf (Elt Bits) ℓ) (g : Dev Cert.InProj1.nD → PrngReg), Pre_InProj1 m →
    θ_run (Cert.InProj1.defs (F := Bits)) (onTc (τ := Cert.InProj1.τ) (Cert.InProj1.main (F := Bits))) ⟨m, fun _ => 0, g⟩ (fun r => (∀ c : Dev Cert.InProj1.nD,
      r.2.mem ((c.tc : Thread Cert.InProj1.nD Cert.InProj1.τ).loc Cert.InProj1.main_arg0) = m ((c.tc : Thread Cert.InProj1.nD Cert.InProj1.τ).loc Cert.InProj1.main_arg0)
      ∧ r.2.mem ((c.tc : Thread Cert.InProj1.nD Cert.InProj1.τ).loc Cert.InProj1.main_arg1) = m ((c.tc : Thread Cert.InProj1.nD Cert.InProj1.τ).loc Cert.InProj1.main_arg1))
      ∧ r.2.sem = fun _ => 0)

def quiescent_InProj1Ideal [hInProj1Ideal : Cert.InProj1Ideal.Facts] : Prop :=
  ∀ (m : (ℓ : Loc Cert.InProj1Ideal.nD Cert.InProj1Ideal.τ Cert.InProj1Ideal.sig) → Buf (Elt Ideal) ℓ) (g : Dev Cert.InProj1Ideal.nD → PrngReg), Pre_InProj1Ideal m →
    θ_run (Cert.InProj1Ideal.defs (F := Ideal)) (onTc (τ := Cert.InProj1Ideal.τ) (Cert.InProj1Ideal.main (F := Ideal))) ⟨m, fun _ => 0, g⟩ (fun r => (∀ c : Dev Cert.InProj1Ideal.nD,
      r.2.mem ((c.tc : Thread Cert.InProj1Ideal.nD Cert.InProj1Ideal.τ).loc Cert.InProj1Ideal.main_arg0) = m ((c.tc : Thread Cert.InProj1Ideal.nD Cert.InProj1Ideal.τ).loc Cert.InProj1Ideal.main_arg0)
      ∧ r.2.mem ((c.tc : Thread Cert.InProj1Ideal.nD Cert.InProj1Ideal.τ).loc Cert.InProj1Ideal.main_arg1) = m ((c.tc : Thread Cert.InProj1Ideal.nD Cert.InProj1Ideal.τ).loc Cert.InProj1Ideal.main_arg1))
      ∧ r.2.sem = fun _ => 0)

def quiescent_InProj1RefIdeal [hInProj1RefIdeal : Cert.InProj1RefIdeal.Facts] : Prop :=
  ∀ (m : (ℓ : Loc Cert.InProj1RefIdeal.nD Cert.InProj1RefIdeal.τ Cert.InProj1RefIdeal.sig) → Buf (Elt Ideal) ℓ) (g : Dev Cert.InProj1RefIdeal.nD → PrngReg), Pre_InProj1RefIdeal m →
    θ_run (Cert.InProj1RefIdeal.defs (F := Ideal)) (onTc (τ := Cert.InProj1RefIdeal.τ) (Cert.InProj1RefIdeal.main (F := Ideal))) ⟨m, fun _ => 0, g⟩ (fun r => (∀ c : Dev Cert.InProj1RefIdeal.nD,
      r.2.mem ((c.tc : Thread Cert.InProj1RefIdeal.nD Cert.InProj1RefIdeal.τ).loc Cert.InProj1RefIdeal.main_arg0) = m ((c.tc : Thread Cert.InProj1RefIdeal.nD Cert.InProj1RefIdeal.τ).loc Cert.InProj1RefIdeal.main_arg0)
      ∧ r.2.mem ((c.tc : Thread Cert.InProj1RefIdeal.nD Cert.InProj1RefIdeal.τ).loc Cert.InProj1RefIdeal.main_arg1) = m ((c.tc : Thread Cert.InProj1RefIdeal.nD Cert.InProj1RefIdeal.τ).loc Cert.InProj1RefIdeal.main_arg1))
      ∧ r.2.sem = fun _ => 0)

def quiescent_InProj0 [hInProj0 : Cert.InProj0.Facts] : Prop :=
  ∀ (m : (ℓ : Loc Cert.InProj0.nD Cert.InProj0.τ Cert.InProj0.sig) → Buf (Elt Bits) ℓ) (g : Dev Cert.InProj0.nD → PrngReg), Pre_InProj0 m →
    θ_run (Cert.InProj0.defs (F := Bits)) (onTc (τ := Cert.InProj0.τ) (Cert.InProj0.main (F := Bits))) ⟨m, fun _ => 0, g⟩ (fun r => (∀ c : Dev Cert.InProj0.nD,
      r.2.mem ((c.tc : Thread Cert.InProj0.nD Cert.InProj0.τ).loc Cert.InProj0.main_arg0) = m ((c.tc : Thread Cert.InProj0.nD Cert.InProj0.τ).loc Cert.InProj0.main_arg0)
      ∧ r.2.mem ((c.tc : Thread Cert.InProj0.nD Cert.InProj0.τ).loc Cert.InProj0.main_arg1) = m ((c.tc : Thread Cert.InProj0.nD Cert.InProj0.τ).loc Cert.InProj0.main_arg1))
      ∧ r.2.sem = fun _ => 0)

def quiescent_InProj0Ideal [hInProj0Ideal : Cert.InProj0Ideal.Facts] : Prop :=
  ∀ (m : (ℓ : Loc Cert.InProj0Ideal.nD Cert.InProj0Ideal.τ Cert.InProj0Ideal.sig) → Buf (Elt Ideal) ℓ) (g : Dev Cert.InProj0Ideal.nD → PrngReg), Pre_InProj0Ideal m →
    θ_run (Cert.InProj0Ideal.defs (F := Ideal)) (onTc (τ := Cert.InProj0Ideal.τ) (Cert.InProj0Ideal.main (F := Ideal))) ⟨m, fun _ => 0, g⟩ (fun r => (∀ c : Dev Cert.InProj0Ideal.nD,
      r.2.mem ((c.tc : Thread Cert.InProj0Ideal.nD Cert.InProj0Ideal.τ).loc Cert.InProj0Ideal.main_arg0) = m ((c.tc : Thread Cert.InProj0Ideal.nD Cert.InProj0Ideal.τ).loc Cert.InProj0Ideal.main_arg0)
      ∧ r.2.mem ((c.tc : Thread Cert.InProj0Ideal.nD Cert.InProj0Ideal.τ).loc Cert.InProj0Ideal.main_arg1) = m ((c.tc : Thread Cert.InProj0Ideal.nD Cert.InProj0Ideal.τ).loc Cert.InProj0Ideal.main_arg1))
      ∧ r.2.sem = fun _ => 0)

def quiescent_InProj0RefIdeal [hInProj0RefIdeal : Cert.InProj0RefIdeal.Facts] : Prop :=
  ∀ (m : (ℓ : Loc Cert.InProj0RefIdeal.nD Cert.InProj0RefIdeal.τ Cert.InProj0RefIdeal.sig) → Buf (Elt Ideal) ℓ) (g : Dev Cert.InProj0RefIdeal.nD → PrngReg), Pre_InProj0RefIdeal m →
    θ_run (Cert.InProj0RefIdeal.defs (F := Ideal)) (onTc (τ := Cert.InProj0RefIdeal.τ) (Cert.InProj0RefIdeal.main (F := Ideal))) ⟨m, fun _ => 0, g⟩ (fun r => (∀ c : Dev Cert.InProj0RefIdeal.nD,
      r.2.mem ((c.tc : Thread Cert.InProj0RefIdeal.nD Cert.InProj0RefIdeal.τ).loc Cert.InProj0RefIdeal.main_arg0) = m ((c.tc : Thread Cert.InProj0RefIdeal.nD Cert.InProj0RefIdeal.τ).loc Cert.InProj0RefIdeal.main_arg0)
      ∧ r.2.mem ((c.tc : Thread Cert.InProj0RefIdeal.nD Cert.InProj0RefIdeal.τ).loc Cert.InProj0RefIdeal.main_arg1) = m ((c.tc : Thread Cert.InProj0RefIdeal.nD Cert.InProj0RefIdeal.τ).loc Cert.InProj0RefIdeal.main_arg1))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdIdeal_pre_finite_scores [hAttnFwdIdeal : Cert.AttnFwdIdeal.Facts] [hPre_finite_scores : Cert.Pre_finite_scores.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_scores m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_AttnFwdRefIdeal_pre_finite_scores [hAttnFwdRefIdeal : Cert.AttnFwdRefIdeal.Facts] [hPre_finite_scores : Cert.Pre_finite_scores.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite_scores m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v64_0)) (v1 : (c : Dev Cert.KernelIdeal.nD) → Buf (Elt Ideal) ((c.tc : Thread Cert.KernelIdeal.nD Cert.KernelIdeal.τ).loc Cert.KernelIdeal.main_v64_1)) (v2 : (c : Dev Cert.KernelIdeal.nD) → Buf (Elt Ideal) ((c.tc : Thread Cert.KernelIdeal.nD Cert.KernelIdeal.τ).loc Cert.KernelIdeal.main_v64_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64_0) = v0 c
          ∧ r.2.mem ((c.tc : Thread Cert.KernelIdeal.nD Cert.KernelIdeal.τ).loc Cert.KernelIdeal.main_v64_1) = v1 c
          ∧ r.2.mem ((c.tc : Thread Cert.KernelIdeal.nD Cert.KernelIdeal.τ).loc Cert.KernelIdeal.main_v64_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_InputGrad1_InputGrad1Ideal : Prop :=
  True

def algebraic_InputGrad1Ideal_InputGrad1RefIdeal [hInputGrad1Ideal : Cert.InputGrad1Ideal.Facts] [hInputGrad1RefIdeal : Cert.InputGrad1RefIdeal.Facts] : Prop :=
  ∀ (m : (ℓ : Loc Cert.InputGrad1Ideal.nD Cert.InputGrad1Ideal.τ Cert.InputGrad1Ideal.sig) → Buf (Elt Ideal) ℓ) (g : Dev Cert.InputGrad1Ideal.nD → PrngReg)
    (m' : (ℓ : Loc Cert.InputGrad1RefIdeal.nD Cert.InputGrad1RefIdeal.τ Cert.InputGrad1RefIdeal.sig) → Buf (Elt Ideal) ℓ) (g' : Dev Cert.InputGrad1RefIdeal.nD → PrngReg), Pre_InputGrad1Ideal m →
    (∀ c : Dev Cert.InputGrad1Ideal.nD,
      m' ((c.tc : Thread Cert.InputGrad1RefIdeal.nD Cert.InputGrad1RefIdeal.τ).loc Cert.InputGrad1RefIdeal.main_arg0) = m ((c.tc : Thread Cert.InputGrad1Ideal.nD Cert.InputGrad1Ideal.τ).loc Cert.InputGrad1Ideal.main_arg0)
      ∧ m' ((c.tc : Thread Cert.InputGrad1RefIdeal.nD Cert.InputGrad1RefIdeal.τ).loc Cert.InputGrad1RefIdeal.main_arg1) = m ((c.tc : Thread Cert.InputGrad1Ideal.nD Cert.InputGrad1Ideal.τ).loc Cert.InputGrad1Ideal.main_arg1)
      ∧ m' ((c.tc : Thread Cert.InputGrad1RefIdeal.nD Cert.InputGrad1RefIdeal.τ).loc Cert.InputGrad1RefIdeal.main_arg2) = m ((c.tc : Thread Cert.InputGrad1Ideal.nD Cert.InputGrad1Ideal.τ).loc Cert.InputGrad1Ideal.main_arg2)) →
    ∃ (v0 : (c : Dev Cert.InputGrad1Ideal.nD) → Buf (Elt Ideal) ((c.tc : Thread Cert.InputGrad1Ideal.nD Cert.InputGrad1Ideal.τ).loc Cert.InputGrad1Ideal.main_v2)),
      θ_run (Cert.InputGrad1Ideal.defs (F := Ideal)) (onTc (τ := Cert.InputGrad1Ideal.τ) (Cert.InputGrad1Ideal.main (F := Ideal))) ⟨m, fun _ => 0, g⟩ (fun r => ∀ c : Dev Cert.InputGrad1Ideal.nD,
          r.2.mem ((c.tc : Thread Cert.InputGrad1Ideal.nD Cert.InputGrad1Ideal.τ).loc Cert.InputGrad1Ideal.main_v2) = v0 c
          ∧ r.2.mem ((c.tc : Thread Cert.InputGrad1Ideal.nD Cert.InputGrad1Ideal.τ).loc Cert.InputGrad1Ideal.main_arg0) = m ((c.tc : Thread Cert.InputGrad1Ideal.nD Cert.InputGrad1Ideal.τ).loc Cert.InputGrad1Ideal.main_arg0)
          ∧ r.2.mem ((c.tc : Thread Cert.InputGrad1Ideal.nD Cert.InputGrad1Ideal.τ).loc Cert.InputGrad1Ideal.main_arg1) = m ((c.tc : Thread Cert.InputGrad1Ideal.nD Cert.InputGrad1Ideal.τ).loc Cert.InputGrad1Ideal.main_arg1)
          ∧ r.2.mem ((c.tc : Thread Cert.InputGrad1Ideal.nD Cert.InputGrad1Ideal.τ).loc Cert.InputGrad1Ideal.main_arg2) = m ((c.tc : Thread Cert.InputGrad1Ideal.nD Cert.InputGrad1Ideal.τ).loc Cert.InputGrad1Ideal.main_arg2))
      ∧ θ_run (Cert.InputGrad1RefIdeal.defs (F := Ideal)) (onTc (τ := Cert.InputGrad1RefIdeal.τ) (Cert.InputGrad1RefIdeal.main (F := Ideal))) ⟨m', fun _ => 0, g'⟩ (fun r => ∀ c : Dev Cert.InputGrad1RefIdeal.nD,
          r.2.mem ((c.tc : Thread Cert.InputGrad1RefIdeal.nD Cert.InputGrad1RefIdeal.τ).loc Cert.InputGrad1RefIdeal.main_v1) = v0 c
          ∧ r.2.mem ((c.tc : Thread Cert.InputGrad1RefIdeal.nD Cert.InputGrad1RefIdeal.τ).loc Cert.InputGrad1RefIdeal.main_arg0) = m' ((c.tc : Thread Cert.InputGrad1RefIdeal.nD Cert.InputGrad1RefIdeal.τ).loc Cert.InputGrad1RefIdeal.main_arg0)
          ∧ r.2.mem ((c.tc : Thread Cert.InputGrad1RefIdeal.nD Cert.InputGrad1RefIdeal.τ).loc Cert.InputGrad1RefIdeal.main_arg1) = m' ((c.tc : Thread Cert.InputGrad1RefIdeal.nD Cert.InputGrad1RefIdeal.τ).loc Cert.InputGrad1RefIdeal.main_arg1)
          ∧ r.2.mem ((c.tc : Thread Cert.InputGrad1RefIdeal.nD Cert.InputGrad1RefIdeal.τ).loc Cert.InputGrad1RefIdeal.main_arg2) = m' ((c.tc : Thread Cert.InputGrad1RefIdeal.nD Cert.InputGrad1RefIdeal.τ).loc Cert.InputGrad1RefIdeal.main_arg2))

def preserves_WeightGrad1_WeightGrad1Ideal : Prop :=
  True

def algebraic_WeightGrad1Ideal_WeightGrad1RefIdeal [hWeightGrad1Ideal : Cert.WeightGrad1Ideal.Facts] [hWeightGrad1RefIdeal : Cert.WeightGrad1RefIdeal.Facts] : Prop :=
  ∀ (m : (ℓ : Loc Cert.WeightGrad1Ideal.nD Cert.WeightGrad1Ideal.τ Cert.WeightGrad1Ideal.sig) → Buf (Elt Ideal) ℓ) (g : Dev Cert.WeightGrad1Ideal.nD → PrngReg)
    (m' : (ℓ : Loc Cert.WeightGrad1RefIdeal.nD Cert.WeightGrad1RefIdeal.τ Cert.WeightGrad1RefIdeal.sig) → Buf (Elt Ideal) ℓ) (g' : Dev Cert.WeightGrad1RefIdeal.nD → PrngReg), Pre_WeightGrad1Ideal m →
    (∀ c : Dev Cert.WeightGrad1Ideal.nD,
      m' ((c.tc : Thread Cert.WeightGrad1RefIdeal.nD Cert.WeightGrad1RefIdeal.τ).loc Cert.WeightGrad1RefIdeal.main_arg0) = m ((c.tc : Thread Cert.WeightGrad1Ideal.nD Cert.WeightGrad1Ideal.τ).loc Cert.WeightGrad1Ideal.main_arg0)
      ∧ m' ((c.tc : Thread Cert.WeightGrad1RefIdeal.nD Cert.WeightGrad1RefIdeal.τ).loc Cert.WeightGrad1RefIdeal.main_arg1) = m ((c.tc : Thread Cert.WeightGrad1Ideal.nD Cert.WeightGrad1Ideal.τ).loc Cert.WeightGrad1Ideal.main_arg1)
      ∧ m' ((c.tc : Thread Cert.WeightGrad1RefIdeal.nD Cert.WeightGrad1RefIdeal.τ).loc Cert.WeightGrad1RefIdeal.main_arg2) = m ((c.tc : Thread Cert.WeightGrad1Ideal.nD Cert.WeightGrad1Ideal.τ).loc Cert.WeightGrad1Ideal.main_arg2)) →
    ∃ (v0 : (c : Dev Cert.WeightGrad1Ideal.nD) → Buf (Elt Ideal) ((c.tc : Thread Cert.WeightGrad1Ideal.nD Cert.WeightGrad1Ideal.τ).loc Cert.WeightGrad1Ideal.main_v2)),
      θ_run (Cert.WeightGrad1Ideal.defs (F := Ideal)) (onTc (τ := Cert.WeightGrad1Ideal.τ) (Cert.WeightGrad1Ideal.main (F := Ideal))) ⟨m, fun _ => 0, g⟩ (fun r => ∀ c : Dev Cert.WeightGrad1Ideal.nD,
          r.2.mem ((c.tc : Thread Cert.WeightGrad1Ideal.nD Cert.WeightGrad1Ideal.τ).loc Cert.WeightGrad1Ideal.main_v2) = v0 c
          ∧ r.2.mem ((c.tc : Thread Cert.WeightGrad1Ideal.nD Cert.WeightGrad1Ideal.τ).loc Cert.WeightGrad1Ideal.main_arg0) = m ((c.tc : Thread Cert.WeightGrad1Ideal.nD Cert.WeightGrad1Ideal.τ).loc Cert.WeightGrad1Ideal.main_arg0)
          ∧ r.2.mem ((c.tc : Thread Cert.WeightGrad1Ideal.nD Cert.WeightGrad1Ideal.τ).loc Cert.WeightGrad1Ideal.main_arg1) = m ((c.tc : Thread Cert.WeightGrad1Ideal.nD Cert.WeightGrad1Ideal.τ).loc Cert.WeightGrad1Ideal.main_arg1)
          ∧ r.2.mem ((c.tc : Thread Cert.WeightGrad1Ideal.nD Cert.WeightGrad1Ideal.τ).loc Cert.WeightGrad1Ideal.main_arg2) = m ((c.tc : Thread Cert.WeightGrad1Ideal.nD Cert.WeightGrad1Ideal.τ).loc Cert.WeightGrad1Ideal.main_arg2))
      ∧ θ_run (Cert.WeightGrad1RefIdeal.defs (F := Ideal)) (onTc (τ := Cert.WeightGrad1RefIdeal.τ) (Cert.WeightGrad1RefIdeal.main (F := Ideal))) ⟨m', fun _ => 0, g'⟩ (fun r => ∀ c : Dev Cert.WeightGrad1RefIdeal.nD,
          r.2.mem ((c.tc : Thread Cert.WeightGrad1RefIdeal.nD Cert.WeightGrad1RefIdeal.τ).loc Cert.WeightGrad1RefIdeal.main_v5) = v0 c
          ∧ r.2.mem ((c.tc : Thread Cert.WeightGrad1RefIdeal.nD Cert.WeightGrad1RefIdeal.τ).loc Cert.WeightGrad1RefIdeal.main_arg0) = m' ((c.tc : Thread Cert.WeightGrad1RefIdeal.nD Cert.WeightGrad1RefIdeal.τ).loc Cert.WeightGrad1RefIdeal.main_arg0)
          ∧ r.2.mem ((c.tc : Thread Cert.WeightGrad1RefIdeal.nD Cert.WeightGrad1RefIdeal.τ).loc Cert.WeightGrad1RefIdeal.main_arg1) = m' ((c.tc : Thread Cert.WeightGrad1RefIdeal.nD Cert.WeightGrad1RefIdeal.τ).loc Cert.WeightGrad1RefIdeal.main_arg1)
          ∧ r.2.mem ((c.tc : Thread Cert.WeightGrad1RefIdeal.nD Cert.WeightGrad1RefIdeal.τ).loc Cert.WeightGrad1RefIdeal.main_arg2) = m' ((c.tc : Thread Cert.WeightGrad1RefIdeal.nD Cert.WeightGrad1RefIdeal.τ).loc Cert.WeightGrad1RefIdeal.main_arg2))

def preserves_InputGrad0_InputGrad0Ideal : Prop :=
  True

def algebraic_InputGrad0Ideal_InputGrad0RefIdeal [hInputGrad0Ideal : Cert.InputGrad0Ideal.Facts] [hInputGrad0RefIdeal : Cert.InputGrad0RefIdeal.Facts] : Prop :=
  ∀ (m : (ℓ : Loc Cert.InputGrad0Ideal.nD Cert.InputGrad0Ideal.τ Cert.InputGrad0Ideal.sig) → Buf (Elt Ideal) ℓ) (g : Dev Cert.InputGrad0Ideal.nD → PrngReg)
    (m' : (ℓ : Loc Cert.InputGrad0RefIdeal.nD Cert.InputGrad0RefIdeal.τ Cert.InputGrad0RefIdeal.sig) → Buf (Elt Ideal) ℓ) (g' : Dev Cert.InputGrad0RefIdeal.nD → PrngReg), Pre_InputGrad0Ideal m →
    (∀ c : Dev Cert.InputGrad0Ideal.nD,
      m' ((c.tc : Thread Cert.InputGrad0RefIdeal.nD Cert.InputGrad0RefIdeal.τ).loc Cert.InputGrad0RefIdeal.main_arg0) = m ((c.tc : Thread Cert.InputGrad0Ideal.nD Cert.InputGrad0Ideal.τ).loc Cert.InputGrad0Ideal.main_arg0)
      ∧ m' ((c.tc : Thread Cert.InputGrad0RefIdeal.nD Cert.InputGrad0RefIdeal.τ).loc Cert.InputGrad0RefIdeal.main_arg1) = m ((c.tc : Thread Cert.InputGrad0Ideal.nD Cert.InputGrad0Ideal.τ).loc Cert.InputGrad0Ideal.main_arg1)
      ∧ m' ((c.tc : Thread Cert.InputGrad0RefIdeal.nD Cert.InputGrad0RefIdeal.τ).loc Cert.InputGrad0RefIdeal.main_arg2) = m ((c.tc : Thread Cert.InputGrad0Ideal.nD Cert.InputGrad0Ideal.τ).loc Cert.InputGrad0Ideal.main_arg2)) →
    ∃ (v0 : (c : Dev Cert.InputGrad0Ideal.nD) → Buf (Elt Ideal) ((c.tc : Thread Cert.InputGrad0Ideal.nD Cert.InputGrad0Ideal.τ).loc Cert.InputGrad0Ideal.main_v2)),
      θ_run (Cert.InputGrad0Ideal.defs (F := Ideal)) (onTc (τ := Cert.InputGrad0Ideal.τ) (Cert.InputGrad0Ideal.main (F := Ideal))) ⟨m, fun _ => 0, g⟩ (fun r => ∀ c : Dev Cert.InputGrad0Ideal.nD,
          r.2.mem ((c.tc : Thread Cert.InputGrad0Ideal.nD Cert.InputGrad0Ideal.τ).loc Cert.InputGrad0Ideal.main_v2) = v0 c
          ∧ r.2.mem ((c.tc : Thread Cert.InputGrad0Ideal.nD Cert.InputGrad0Ideal.τ).loc Cert.InputGrad0Ideal.main_arg0) = m ((c.tc : Thread Cert.InputGrad0Ideal.nD Cert.InputGrad0Ideal.τ).loc Cert.InputGrad0Ideal.main_arg0)
          ∧ r.2.mem ((c.tc : Thread Cert.InputGrad0Ideal.nD Cert.InputGrad0Ideal.τ).loc Cert.InputGrad0Ideal.main_arg1) = m ((c.tc : Thread Cert.InputGrad0Ideal.nD Cert.InputGrad0Ideal.τ).loc Cert.InputGrad0Ideal.main_arg1)
          ∧ r.2.mem ((c.tc : Thread Cert.InputGrad0Ideal.nD Cert.InputGrad0Ideal.τ).loc Cert.InputGrad0Ideal.main_arg2) = m ((c.tc : Thread Cert.InputGrad0Ideal.nD Cert.InputGrad0Ideal.τ).loc Cert.InputGrad0Ideal.main_arg2))
      ∧ θ_run (Cert.InputGrad0RefIdeal.defs (F := Ideal)) (onTc (τ := Cert.InputGrad0RefIdeal.τ) (Cert.InputGrad0RefIdeal.main (F := Ideal))) ⟨m', fun _ => 0, g'⟩ (fun r => ∀ c : Dev Cert.InputGrad0RefIdeal.nD,
          r.2.mem ((c.tc : Thread Cert.InputGrad0RefIdeal.nD Cert.InputGrad0RefIdeal.τ).loc Cert.InputGrad0RefIdeal.main_v1) = v0 c
          ∧ r.2.mem ((c.tc : Thread Cert.InputGrad0RefIdeal.nD Cert.InputGrad0RefIdeal.τ).loc Cert.InputGrad0RefIdeal.main_arg0) = m' ((c.tc : Thread Cert.InputGrad0RefIdeal.nD Cert.InputGrad0RefIdeal.τ).loc Cert.InputGrad0RefIdeal.main_arg0)
          ∧ r.2.mem ((c.tc : Thread Cert.InputGrad0RefIdeal.nD Cert.InputGrad0RefIdeal.τ).loc Cert.InputGrad0RefIdeal.main_arg1) = m' ((c.tc : Thread Cert.InputGrad0RefIdeal.nD Cert.InputGrad0RefIdeal.τ).loc Cert.InputGrad0RefIdeal.main_arg1)
          ∧ r.2.mem ((c.tc : Thread Cert.InputGrad0RefIdeal.nD Cert.InputGrad0RefIdeal.τ).loc Cert.InputGrad0RefIdeal.main_arg2) = m' ((c.tc : Thread Cert.InputGrad0RefIdeal.nD Cert.InputGrad0RefIdeal.τ).loc Cert.InputGrad0RefIdeal.main_arg2))

def preserves_WeightGrad0_WeightGrad0Ideal : Prop :=
  True

def algebraic_WeightGrad0Ideal_WeightGrad0RefIdeal [hWeightGrad0Ideal : Cert.WeightGrad0Ideal.Facts] [hWeightGrad0RefIdeal : Cert.WeightGrad0RefIdeal.Facts] : Prop :=
  ∀ (m : (ℓ : Loc Cert.WeightGrad0Ideal.nD Cert.WeightGrad0Ideal.τ Cert.WeightGrad0Ideal.sig) → Buf (Elt Ideal) ℓ) (g : Dev Cert.WeightGrad0Ideal.nD → PrngReg)
    (m' : (ℓ : Loc Cert.WeightGrad0RefIdeal.nD Cert.WeightGrad0RefIdeal.τ Cert.WeightGrad0RefIdeal.sig) → Buf (Elt Ideal) ℓ) (g' : Dev Cert.WeightGrad0RefIdeal.nD → PrngReg), Pre_WeightGrad0Ideal m →
    (∀ c : Dev Cert.WeightGrad0Ideal.nD,
      m' ((c.tc : Thread Cert.WeightGrad0RefIdeal.nD Cert.WeightGrad0RefIdeal.τ).loc Cert.WeightGrad0RefIdeal.main_arg0) = m ((c.tc : Thread Cert.WeightGrad0Ideal.nD Cert.WeightGrad0Ideal.τ).loc Cert.WeightGrad0Ideal.main_arg0)
      ∧ m' ((c.tc : Thread Cert.WeightGrad0RefIdeal.nD Cert.WeightGrad0RefIdeal.τ).loc Cert.WeightGrad0RefIdeal.main_arg1) = m ((c.tc : Thread Cert.WeightGrad0Ideal.nD Cert.WeightGrad0Ideal.τ).loc Cert.WeightGrad0Ideal.main_arg1)
      ∧ m' ((c.tc : Thread Cert.WeightGrad0RefIdeal.nD Cert.WeightGrad0RefIdeal.τ).loc Cert.WeightGrad0RefIdeal.main_arg2) = m ((c.tc : Thread Cert.WeightGrad0Ideal.nD Cert.WeightGrad0Ideal.τ).loc Cert.WeightGrad0Ideal.main_arg2)) →
    ∃ (v0 : (c : Dev Cert.WeightGrad0Ideal.nD) → Buf (Elt Ideal) ((c.tc : Thread Cert.WeightGrad0Ideal.nD Cert.WeightGrad0Ideal.τ).loc Cert.WeightGrad0Ideal.main_v2)),
      θ_run (Cert.WeightGrad0Ideal.defs (F := Ideal)) (onTc (τ := Cert.WeightGrad0Ideal.τ) (Cert.WeightGrad0Ideal.main (F := Ideal))) ⟨m, fun _ => 0, g⟩ (fun r => ∀ c : Dev Cert.WeightGrad0Ideal.nD,
          r.2.mem ((c.tc : Thread Cert.WeightGrad0Ideal.nD Cert.WeightGrad0Ideal.τ).loc Cert.WeightGrad0Ideal.main_v2) = v0 c
          ∧ r.2.mem ((c.tc : Thread Cert.WeightGrad0Ideal.nD Cert.WeightGrad0Ideal.τ).loc Cert.WeightGrad0Ideal.main_arg0) = m ((c.tc : Thread Cert.WeightGrad0Ideal.nD Cert.WeightGrad0Ideal.τ).loc Cert.WeightGrad0Ideal.main_arg0)
          ∧ r.2.mem ((c.tc : Thread Cert.WeightGrad0Ideal.nD Cert.WeightGrad0Ideal.τ).loc Cert.WeightGrad0Ideal.main_arg1) = m ((c.tc : Thread Cert.WeightGrad0Ideal.nD Cert.WeightGrad0Ideal.τ).loc Cert.WeightGrad0Ideal.main_arg1)
          ∧ r.2.mem ((c.tc : Thread Cert.WeightGrad0Ideal.nD Cert.WeightGrad0Ideal.τ).loc Cert.WeightGrad0Ideal.main_arg2) = m ((c.tc : Thread Cert.WeightGrad0Ideal.nD Cert.WeightGrad0Ideal.τ).loc Cert.WeightGrad0Ideal.main_arg2))
      ∧ θ_run (Cert.WeightGrad0RefIdeal.defs (F := Ideal)) (onTc (τ := Cert.WeightGrad0RefIdeal.τ) (Cert.WeightGrad0RefIdeal.main (F := Ideal))) ⟨m', fun _ => 0, g'⟩ (fun r => ∀ c : Dev Cert.WeightGrad0RefIdeal.nD,
          r.2.mem ((c.tc : Thread Cert.WeightGrad0RefIdeal.nD Cert.WeightGrad0RefIdeal.τ).loc Cert.WeightGrad0RefIdeal.main_v2) = v0 c
          ∧ r.2.mem ((c.tc : Thread Cert.WeightGrad0RefIdeal.nD Cert.WeightGrad0RefIdeal.τ).loc Cert.WeightGrad0RefIdeal.main_arg0) = m' ((c.tc : Thread Cert.WeightGrad0RefIdeal.nD Cert.WeightGrad0RefIdeal.τ).loc Cert.WeightGrad0RefIdeal.main_arg0)
          ∧ r.2.mem ((c.tc : Thread Cert.WeightGrad0RefIdeal.nD Cert.WeightGrad0RefIdeal.τ).loc Cert.WeightGrad0RefIdeal.main_arg1) = m' ((c.tc : Thread Cert.WeightGrad0RefIdeal.nD Cert.WeightGrad0RefIdeal.τ).loc Cert.WeightGrad0RefIdeal.main_arg1)
          ∧ r.2.mem ((c.tc : Thread Cert.WeightGrad0RefIdeal.nD Cert.WeightGrad0RefIdeal.τ).loc Cert.WeightGrad0RefIdeal.main_arg2) = m' ((c.tc : Thread Cert.WeightGrad0RefIdeal.nD Cert.WeightGrad0RefIdeal.τ).loc Cert.WeightGrad0RefIdeal.main_arg2))

def preserves_MixGrad_MixGradIdeal : Prop :=
  True

def algebraic_MixGradIdeal_MixGradRefIdeal [hMixGradIdeal : Cert.MixGradIdeal.Facts] [hMixGradRefIdeal : Cert.MixGradRefIdeal.Facts] : Prop :=
  ∀ (m : (ℓ : Loc Cert.MixGradIdeal.nD Cert.MixGradIdeal.τ Cert.MixGradIdeal.sig) → Buf (Elt Ideal) ℓ) (g : Dev Cert.MixGradIdeal.nD → PrngReg)
    (m' : (ℓ : Loc Cert.MixGradRefIdeal.nD Cert.MixGradRefIdeal.τ Cert.MixGradRefIdeal.sig) → Buf (Elt Ideal) ℓ) (g' : Dev Cert.MixGradRefIdeal.nD → PrngReg), Pre_MixGradIdeal m →
    (∀ c : Dev Cert.MixGradIdeal.nD,
      m' ((c.tc : Thread Cert.MixGradRefIdeal.nD Cert.MixGradRefIdeal.τ).loc Cert.MixGradRefIdeal.main_arg0) = m ((c.tc : Thread Cert.MixGradIdeal.nD Cert.MixGradIdeal.τ).loc Cert.MixGradIdeal.main_arg0)
      ∧ m' ((c.tc : Thread Cert.MixGradRefIdeal.nD Cert.MixGradRefIdeal.τ).loc Cert.MixGradRefIdeal.main_arg1) = m ((c.tc : Thread Cert.MixGradIdeal.nD Cert.MixGradIdeal.τ).loc Cert.MixGradIdeal.main_arg1)
      ∧ m' ((c.tc : Thread Cert.MixGradRefIdeal.nD Cert.MixGradRefIdeal.τ).loc Cert.MixGradRefIdeal.main_arg2) = m ((c.tc : Thread Cert.MixGradIdeal.nD Cert.MixGradIdeal.τ).loc Cert.MixGradIdeal.main_arg2)) →
    ∃ (v0 : (c : Dev Cert.MixGradIdeal.nD) → Buf (Elt Ideal) ((c.tc : Thread Cert.MixGradIdeal.nD Cert.MixGradIdeal.τ).loc Cert.MixGradIdeal.main_v2)),
      θ_run (Cert.MixGradIdeal.defs (F := Ideal)) (onTc (τ := Cert.MixGradIdeal.τ) (Cert.MixGradIdeal.main (F := Ideal))) ⟨m, fun _ => 0, g⟩ (fun r => ∀ c : Dev Cert.MixGradIdeal.nD,
          r.2.mem ((c.tc : Thread Cert.MixGradIdeal.nD Cert.MixGradIdeal.τ).loc Cert.MixGradIdeal.main_v2) = v0 c
          ∧ r.2.mem ((c.tc : Thread Cert.MixGradIdeal.nD Cert.MixGradIdeal.τ).loc Cert.MixGradIdeal.main_arg0) = m ((c.tc : Thread Cert.MixGradIdeal.nD Cert.MixGradIdeal.τ).loc Cert.MixGradIdeal.main_arg0)
          ∧ r.2.mem ((c.tc : Thread Cert.MixGradIdeal.nD Cert.MixGradIdeal.τ).loc Cert.MixGradIdeal.main_arg1) = m ((c.tc : Thread Cert.MixGradIdeal.nD Cert.MixGradIdeal.τ).loc Cert.MixGradIdeal.main_arg1)
          ∧ r.2.mem ((c.tc : Thread Cert.MixGradIdeal.nD Cert.MixGradIdeal.τ).loc Cert.MixGradIdeal.main_arg2) = m ((c.tc : Thread Cert.MixGradIdeal.nD Cert.MixGradIdeal.τ).loc Cert.MixGradIdeal.main_arg2))
      ∧ θ_run (Cert.MixGradRefIdeal.defs (F := Ideal)) (onTc (τ := Cert.MixGradRefIdeal.τ) (Cert.MixGradRefIdeal.main (F := Ideal))) ⟨m', fun _ => 0, g'⟩ (fun r => ∀ c : Dev Cert.MixGradRefIdeal.nD,
          r.2.mem ((c.tc : Thread Cert.MixGradRefIdeal.nD Cert.MixGradRefIdeal.τ).loc Cert.MixGradRefIdeal.main_v1) = v0 c
          ∧ r.2.mem ((c.tc : Thread Cert.MixGradRefIdeal.nD Cert.MixGradRefIdeal.τ).loc Cert.MixGradRefIdeal.main_arg0) = m' ((c.tc : Thread Cert.MixGradRefIdeal.nD Cert.MixGradRefIdeal.τ).loc Cert.MixGradRefIdeal.main_arg0)
          ∧ r.2.mem ((c.tc : Thread Cert.MixGradRefIdeal.nD Cert.MixGradRefIdeal.τ).loc Cert.MixGradRefIdeal.main_arg1) = m' ((c.tc : Thread Cert.MixGradRefIdeal.nD Cert.MixGradRefIdeal.τ).loc Cert.MixGradRefIdeal.main_arg1)
          ∧ r.2.mem ((c.tc : Thread Cert.MixGradRefIdeal.nD Cert.MixGradRefIdeal.τ).loc Cert.MixGradRefIdeal.main_arg2) = m' ((c.tc : Thread Cert.MixGradRefIdeal.nD Cert.MixGradRefIdeal.τ).loc Cert.MixGradRefIdeal.main_arg2))

def preserves_OutGrad_OutGradIdeal : Prop :=
  True

def algebraic_OutGradIdeal_OutGradRefIdeal [hOutGradIdeal : Cert.OutGradIdeal.Facts] [hOutGradRefIdeal : Cert.OutGradRefIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradRefIdeal.nD Cert.OutGradRefIdeal.τ Cert.OutGradRefIdeal.sig) → Buf (Elt Ideal) ℓ) (g' : Dev Cert.OutGradRefIdeal.nD → PrngReg), Pre_OutGradIdeal m →
    (∀ c : Dev Cert.OutGradIdeal.nD,
      m' ((c.tc : Thread Cert.OutGradRefIdeal.nD Cert.OutGradRefIdeal.τ).loc Cert.OutGradRefIdeal.main_arg0) = m ((c.tc : Thread Cert.OutGradIdeal.nD Cert.OutGradIdeal.τ).loc Cert.OutGradIdeal.main_arg0)
      ∧ m' ((c.tc : Thread Cert.OutGradRefIdeal.nD Cert.OutGradRefIdeal.τ).loc Cert.OutGradRefIdeal.main_arg1) = m ((c.tc : Thread Cert.OutGradIdeal.nD Cert.OutGradIdeal.τ).loc Cert.OutGradIdeal.main_arg1)
      ∧ m' ((c.tc : Thread Cert.OutGradRefIdeal.nD Cert.OutGradRefIdeal.τ).loc Cert.OutGradRefIdeal.main_arg2) = m ((c.tc : Thread Cert.OutGradIdeal.nD Cert.OutGradIdeal.τ).loc Cert.OutGradIdeal.main_arg2)) →
    ∃ (v0 : (c : Dev Cert.OutGradIdeal.nD) → Buf (Elt Ideal) ((c.tc : Thread Cert.OutGradIdeal.nD Cert.OutGradIdeal.τ).loc Cert.OutGradIdeal.main_v2)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v2) = v0 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1)
          ∧ r.2.mem ((c.tc : Thread Cert.OutGradIdeal.nD Cert.OutGradIdeal.τ).loc Cert.OutGradIdeal.main_arg2) = m ((c.tc : Thread Cert.OutGradIdeal.nD Cert.OutGradIdeal.τ).loc Cert.OutGradIdeal.main_arg2))
      ∧ θ_run (Cert.OutGradRefIdeal.defs (F := Ideal)) (onTc (τ := Cert.OutGradRefIdeal.τ) (Cert.OutGradRefIdeal.main (F := Ideal))) ⟨m', fun _ => 0, g'⟩ (fun r => ∀ c : Dev Cert.OutGradRefIdeal.nD,
          r.2.mem ((c.tc : Thread Cert.OutGradRefIdeal.nD Cert.OutGradRefIdeal.τ).loc Cert.OutGradRefIdeal.main_v3) = v0 c
          ∧ r.2.mem ((c.tc : Thread Cert.OutGradRefIdeal.nD Cert.OutGradRefIdeal.τ).loc Cert.OutGradRefIdeal.main_arg0) = m' ((c.tc : Thread Cert.OutGradRefIdeal.nD Cert.OutGradRefIdeal.τ).loc Cert.OutGradRefIdeal.main_arg0)
          ∧ r.2.mem ((c.tc : Thread Cert.OutGradRefIdeal.nD Cert.OutGradRefIdeal.τ).loc Cert.OutGradRefIdeal.main_arg1) = m' ((c.tc : Thread Cert.OutGradRefIdeal.nD Cert.OutGradRefIdeal.τ).loc Cert.OutGradRefIdeal.main_arg1)
          ∧ r.2.mem ((c.tc : Thread Cert.OutGradRefIdeal.nD Cert.OutGradRefIdeal.τ).loc Cert.OutGradRefIdeal.main_arg2) = m' ((c.tc : Thread Cert.OutGradRefIdeal.nD Cert.OutGradRefIdeal.τ).loc Cert.OutGradRefIdeal.main_arg2))

def preserves_InProj1_InProj1Ideal : Prop :=
  True

def algebraic_InProj1Ideal_InProj1RefIdeal [hInProj1Ideal : Cert.InProj1Ideal.Facts] [hInProj1RefIdeal : Cert.InProj1RefIdeal.Facts] : Prop :=
  ∀ (m : (ℓ : Loc Cert.InProj1Ideal.nD Cert.InProj1Ideal.τ Cert.InProj1Ideal.sig) → Buf (Elt Ideal) ℓ) (g : Dev Cert.InProj1Ideal.nD → PrngReg)
    (m' : (ℓ : Loc Cert.InProj1RefIdeal.nD Cert.InProj1RefIdeal.τ Cert.InProj1RefIdeal.sig) → Buf (Elt Ideal) ℓ) (g' : Dev Cert.InProj1RefIdeal.nD → PrngReg), Pre_InProj1Ideal m →
    (∀ c : Dev Cert.InProj1Ideal.nD,
      m' ((c.tc : Thread Cert.InProj1RefIdeal.nD Cert.InProj1RefIdeal.τ).loc Cert.InProj1RefIdeal.main_arg0) = m ((c.tc : Thread Cert.InProj1Ideal.nD Cert.InProj1Ideal.τ).loc Cert.InProj1Ideal.main_arg0)
      ∧ m' ((c.tc : Thread Cert.InProj1RefIdeal.nD Cert.InProj1RefIdeal.τ).loc Cert.InProj1RefIdeal.main_arg1) = m ((c.tc : Thread Cert.InProj1Ideal.nD Cert.InProj1Ideal.τ).loc Cert.InProj1Ideal.main_arg1)) →
    ∃ (v0 : (c : Dev Cert.InProj1Ideal.nD) → Buf (Elt Ideal) ((c.tc : Thread Cert.InProj1Ideal.nD Cert.InProj1Ideal.τ).loc Cert.InProj1Ideal.main_v2)),
      θ_run (Cert.InProj1Ideal.defs (F := Ideal)) (onTc (τ := Cert.InProj1Ideal.τ) (Cert.InProj1Ideal.main (F := Ideal))) ⟨m, fun _ => 0, g⟩ (fun r => ∀ c : Dev Cert.InProj1Ideal.nD,
          r.2.mem ((c.tc : Thread Cert.InProj1Ideal.nD Cert.InProj1Ideal.τ).loc Cert.InProj1Ideal.main_v2) = v0 c
          ∧ r.2.mem ((c.tc : Thread Cert.InProj1Ideal.nD Cert.InProj1Ideal.τ).loc Cert.InProj1Ideal.main_arg0) = m ((c.tc : Thread Cert.InProj1Ideal.nD Cert.InProj1Ideal.τ).loc Cert.InProj1Ideal.main_arg0)
          ∧ r.2.mem ((c.tc : Thread Cert.InProj1Ideal.nD Cert.InProj1Ideal.τ).loc Cert.InProj1Ideal.main_arg1) = m ((c.tc : Thread Cert.InProj1Ideal.nD Cert.InProj1Ideal.τ).loc Cert.InProj1Ideal.main_arg1))
      ∧ θ_run (Cert.InProj1RefIdeal.defs (F := Ideal)) (onTc (τ := Cert.InProj1RefIdeal.τ) (Cert.InProj1RefIdeal.main (F := Ideal))) ⟨m', fun _ => 0, g'⟩ (fun r => ∀ c : Dev Cert.InProj1RefIdeal.nD,
          r.2.mem ((c.tc : Thread Cert.InProj1RefIdeal.nD Cert.InProj1RefIdeal.τ).loc Cert.InProj1RefIdeal.main_v0) = v0 c
          ∧ r.2.mem ((c.tc : Thread Cert.InProj1RefIdeal.nD Cert.InProj1RefIdeal.τ).loc Cert.InProj1RefIdeal.main_arg0) = m' ((c.tc : Thread Cert.InProj1RefIdeal.nD Cert.InProj1RefIdeal.τ).loc Cert.InProj1RefIdeal.main_arg0)
          ∧ r.2.mem ((c.tc : Thread Cert.InProj1RefIdeal.nD Cert.InProj1RefIdeal.τ).loc Cert.InProj1RefIdeal.main_arg1) = m' ((c.tc : Thread Cert.InProj1RefIdeal.nD Cert.InProj1RefIdeal.τ).loc Cert.InProj1RefIdeal.main_arg1))

def preserves_InProj0_InProj0Ideal : Prop :=
  True

def algebraic_InProj0Ideal_InProj0RefIdeal [hInProj0Ideal : Cert.InProj0Ideal.Facts] [hInProj0RefIdeal : Cert.InProj0RefIdeal.Facts] : Prop :=
  ∀ (m : (ℓ : Loc Cert.InProj0Ideal.nD Cert.InProj0Ideal.τ Cert.InProj0Ideal.sig) → Buf (Elt Ideal) ℓ) (g : Dev Cert.InProj0Ideal.nD → PrngReg)
    (m' : (ℓ : Loc Cert.InProj0RefIdeal.nD Cert.InProj0RefIdeal.τ Cert.InProj0RefIdeal.sig) → Buf (Elt Ideal) ℓ) (g' : Dev Cert.InProj0RefIdeal.nD → PrngReg), Pre_InProj0Ideal m →
    (∀ c : Dev Cert.InProj0Ideal.nD,
      m' ((c.tc : Thread Cert.InProj0RefIdeal.nD Cert.InProj0RefIdeal.τ).loc Cert.InProj0RefIdeal.main_arg0) = m ((c.tc : Thread Cert.InProj0Ideal.nD Cert.InProj0Ideal.τ).loc Cert.InProj0Ideal.main_arg0)
      ∧ m' ((c.tc : Thread Cert.InProj0RefIdeal.nD Cert.InProj0RefIdeal.τ).loc Cert.InProj0RefIdeal.main_arg1) = m ((c.tc : Thread Cert.InProj0Ideal.nD Cert.InProj0Ideal.τ).loc Cert.InProj0Ideal.main_arg1)) →
    ∃ (v0 : (c : Dev Cert.InProj0Ideal.nD) → Buf (Elt Ideal) ((c.tc : Thread Cert.InProj0Ideal.nD Cert.InProj0Ideal.τ).loc Cert.InProj0Ideal.main_v2)),
      θ_run (Cert.InProj0Ideal.defs (F := Ideal)) (onTc (τ := Cert.InProj0Ideal.τ) (Cert.InProj0Ideal.main (F := Ideal))) ⟨m, fun _ => 0, g⟩ (fun r => ∀ c : Dev Cert.InProj0Ideal.nD,
          r.2.mem ((c.tc : Thread Cert.InProj0Ideal.nD Cert.InProj0Ideal.τ).loc Cert.InProj0Ideal.main_v2) = v0 c
          ∧ r.2.mem ((c.tc : Thread Cert.InProj0Ideal.nD Cert.InProj0Ideal.τ).loc Cert.InProj0Ideal.main_arg0) = m ((c.tc : Thread Cert.InProj0Ideal.nD Cert.InProj0Ideal.τ).loc Cert.InProj0Ideal.main_arg0)
          ∧ r.2.mem ((c.tc : Thread Cert.InProj0Ideal.nD Cert.InProj0Ideal.τ).loc Cert.InProj0Ideal.main_arg1) = m ((c.tc : Thread Cert.InProj0Ideal.nD Cert.InProj0Ideal.τ).loc Cert.InProj0Ideal.main_arg1))
      ∧ θ_run (Cert.InProj0RefIdeal.defs (F := Ideal)) (onTc (τ := Cert.InProj0RefIdeal.τ) (Cert.InProj0RefIdeal.main (F := Ideal))) ⟨m', fun _ => 0, g'⟩ (fun r => ∀ c : Dev Cert.InProj0RefIdeal.nD,
          r.2.mem ((c.tc : Thread Cert.InProj0RefIdeal.nD Cert.InProj0RefIdeal.τ).loc Cert.InProj0RefIdeal.main_v0) = v0 c
          ∧ r.2.mem ((c.tc : Thread Cert.InProj0RefIdeal.nD Cert.InProj0RefIdeal.τ).loc Cert.InProj0RefIdeal.main_arg0) = m' ((c.tc : Thread Cert.InProj0RefIdeal.nD Cert.InProj0RefIdeal.τ).loc Cert.InProj0RefIdeal.main_arg0)
          ∧ r.2.mem ((c.tc : Thread Cert.InProj0RefIdeal.nD Cert.InProj0RefIdeal.τ).loc Cert.InProj0RefIdeal.main_arg1) = m' ((c.tc : Thread Cert.InProj0RefIdeal.nD Cert.InProj0RefIdeal.τ).loc Cert.InProj0RefIdeal.main_arg1))

def preserves_AttnFwd_AttnFwdIdeal : Prop :=
  IdealRules.named_const.Statement Cert.AttnFwdIdeal.κ "log2_e" .f32 0x3FB8AA3B#32 (((Real.log 2)⁻¹ : ℝ) : EReal)

def algebraic_AttnFwdIdeal_AttnFwdRefIdeal_pre_finite_scores [hAttnFwdIdeal : Cert.AttnFwdIdeal.Facts] [hAttnFwdRefIdeal : Cert.AttnFwdRefIdeal.Facts] [hPre_finite_scores : Cert.Pre_finite_scores.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite_scores m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)
      ∧ m' ((c.tc : Thread Cert.AttnFwdRefIdeal.nD Cert.AttnFwdRefIdeal.τ).loc Cert.AttnFwdRefIdeal.main_arg3) = m ((c.tc : Thread Cert.AttnFwdIdeal.nD Cert.AttnFwdIdeal.τ).loc Cert.AttnFwdIdeal.main_arg3)) →
    ∃ (v0 : (c : Dev Cert.AttnFwdIdeal.nD) → Buf (Elt Ideal) ((c.tc : Thread Cert.AttnFwdIdeal.nD Cert.AttnFwdIdeal.τ).loc Cert.AttnFwdIdeal.main_v15_0)) (v1 : (c : Dev Cert.AttnFwdIdeal.nD) → Buf (Elt Ideal) ((c.tc : Thread Cert.AttnFwdIdeal.nD Cert.AttnFwdIdeal.τ).loc Cert.AttnFwdIdeal.main_v16)) (v2 : (c : Dev Cert.AttnFwdIdeal.nD) → Buf (Elt Ideal) ((c.tc : Thread Cert.AttnFwdIdeal.nD Cert.AttnFwdIdeal.τ).loc Cert.AttnFwdIdeal.main_v15_2)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v15_0) = v0 c
          ∧ r.2.mem ((c.tc : Thread Cert.AttnFwdIdeal.nD Cert.AttnFwdIdeal.τ).loc Cert.AttnFwdIdeal.main_v16) = v1 c
          ∧ r.2.mem ((c.tc : Thread Cert.AttnFwdIdeal.nD Cert.AttnFwdIdeal.τ).loc Cert.AttnFwdIdeal.main_v15_2) = v2 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v39) = v0 c
          ∧ r.2.mem ((c.tc : Thread Cert.AttnFwdRefIdeal.nD Cert.AttnFwdRefIdeal.τ).loc Cert.AttnFwdRefIdeal.main_v42) = v1 c
          ∧ r.2.mem ((c.tc : Thread Cert.AttnFwdRefIdeal.nD Cert.AttnFwdRefIdeal.τ).loc Cert.AttnFwdRefIdeal.main_v43) = v2 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2)
          ∧ r.2.mem ((c.tc : Thread Cert.AttnFwdRefIdeal.nD Cert.AttnFwdRefIdeal.τ).loc Cert.AttnFwdRefIdeal.main_arg3) = m' ((c.tc : Thread Cert.AttnFwdRefIdeal.nD Cert.AttnFwdRefIdeal.τ).loc Cert.AttnFwdRefIdeal.main_arg3))

def Claim : Prop :=
  ∃ (hKernel : Cert.Kernel.Facts) (hKernelIdeal : Cert.KernelIdeal.Facts) (hReferenceIdeal : Cert.ReferenceIdeal.Facts) (hInputGrad1 : Cert.InputGrad1.Facts) (hInputGrad1Ideal : Cert.InputGrad1Ideal.Facts) (hInputGrad1RefIdeal : Cert.InputGrad1RefIdeal.Facts) (hWeightGrad1 : Cert.WeightGrad1.Facts) (hWeightGrad1Ideal : Cert.WeightGrad1Ideal.Facts) (hWeightGrad1RefIdeal : Cert.WeightGrad1RefIdeal.Facts) (hInputGrad0 : Cert.InputGrad0.Facts) (hInputGrad0Ideal : Cert.InputGrad0Ideal.Facts) (hInputGrad0RefIdeal : Cert.InputGrad0RefIdeal.Facts) (hWeightGrad0 : Cert.WeightGrad0.Facts) (hWeightGrad0Ideal : Cert.WeightGrad0Ideal.Facts) (hWeightGrad0RefIdeal : Cert.WeightGrad0RefIdeal.Facts) (hMixGrad : Cert.MixGrad.Facts) (hMixGradIdeal : Cert.MixGradIdeal.Facts) (hMixGradRefIdeal : Cert.MixGradRefIdeal.Facts) (hOutGrad : Cert.OutGrad.Facts) (hOutGradIdeal : Cert.OutGradIdeal.Facts) (hOutGradRefIdeal : Cert.OutGradRefIdeal.Facts) (hInProj1 : Cert.InProj1.Facts) (hInProj1Ideal : Cert.InProj1Ideal.Facts) (hInProj1RefIdeal : Cert.InProj1RefIdeal.Facts) (hInProj0 : Cert.InProj0.Facts) (hInProj0Ideal : Cert.InProj0Ideal.Facts) (hInProj0RefIdeal : Cert.InProj0RefIdeal.Facts) (hAttnFwd : Cert.AttnFwd.Facts) (hAttnFwdIdeal : Cert.AttnFwdIdeal.Facts) (hAttnFwdRefIdeal : Cert.AttnFwdRefIdeal.Facts) (hPre_finite : Cert.Pre_finite.Facts) (hPre_finite_scores : Cert.Pre_finite_scores.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InputGrad1 (hInputGrad1 := hInputGrad1)
    ∧ quiescent_InputGrad1Ideal (hInputGrad1Ideal := hInputGrad1Ideal)
    ∧ quiescent_InputGrad1RefIdeal (hInputGrad1RefIdeal := hInputGrad1RefIdeal)
    ∧ quiescent_WeightGrad1 (hWeightGrad1 := hWeightGrad1)
    ∧ quiescent_WeightGrad1Ideal (hWeightGrad1Ideal := hWeightGrad1Ideal)
    ∧ quiescent_WeightGrad1RefIdeal (hWeightGrad1RefIdeal := hWeightGrad1RefIdeal)
    ∧ quiescent_InputGrad0 (hInputGrad0 := hInputGrad0)
    ∧ quiescent_InputGrad0Ideal (hInputGrad0Ideal := hInputGrad0Ideal)
    ∧ quiescent_InputGrad0RefIdeal (hInputGrad0RefIdeal := hInputGrad0RefIdeal)
    ∧ quiescent_WeightGrad0 (hWeightGrad0 := hWeightGrad0)
    ∧ quiescent_WeightGrad0Ideal (hWeightGrad0Ideal := hWeightGrad0Ideal)
    ∧ quiescent_WeightGrad0RefIdeal (hWeightGrad0RefIdeal := hWeightGrad0RefIdeal)
    ∧ quiescent_MixGrad (hMixGrad := hMixGrad)
    ∧ quiescent_MixGradIdeal (hMixGradIdeal := hMixGradIdeal)
    ∧ quiescent_MixGradRefIdeal (hMixGradRefIdeal := hMixGradRefIdeal)
    ∧ quiescent_OutGrad (hOutGrad := hOutGrad)
    ∧ quiescent_OutGradIdeal (hOutGradIdeal := hOutGradIdeal)
    ∧ quiescent_OutGradRefIdeal (hOutGradRefIdeal := hOutGradRefIdeal)
    ∧ quiescent_InProj1 (hInProj1 := hInProj1)
    ∧ quiescent_InProj1Ideal (hInProj1Ideal := hInProj1Ideal)
    ∧ quiescent_InProj1RefIdeal (hInProj1RefIdeal := hInProj1RefIdeal)
    ∧ quiescent_InProj0 (hInProj0 := hInProj0)
    ∧ quiescent_InProj0Ideal (hInProj0Ideal := hInProj0Ideal)
    ∧ quiescent_InProj0RefIdeal (hInProj0RefIdeal := hInProj0RefIdeal)
    ∧ quiescent_AttnFwd (hAttnFwd := hAttnFwd)
    ∧ quiescent_AttnFwdIdeal (hAttnFwdIdeal := hAttnFwdIdeal)
    ∧ quiescent_AttnFwdIdeal_pre_finite_scores (hAttnFwdIdeal := hAttnFwdIdeal) (hPre_finite_scores := hPre_finite_scores)
    ∧ quiescent_AttnFwdRefIdeal (hAttnFwdRefIdeal := hAttnFwdRefIdeal)
    ∧ quiescent_AttnFwdRefIdeal_pre_finite_scores (hAttnFwdRefIdeal := hAttnFwdRefIdeal) (hPre_finite_scores := hPre_finite_scores)
    ∧ preserves_Kernel_KernelIdeal
    ∧ algebraic_KernelIdeal_ReferenceIdeal_pre_finite (hKernelIdeal := hKernelIdeal) (hReferenceIdeal := hReferenceIdeal) (hPre_finite := hPre_finite)
    ∧ preserves_InputGrad1_InputGrad1Ideal
    ∧ algebraic_InputGrad1Ideal_InputGrad1RefIdeal (hInputGrad1Ideal := hInputGrad1Ideal) (hInputGrad1RefIdeal := hInputGrad1RefIdeal)
    ∧ preserves_WeightGrad1_WeightGrad1Ideal
    ∧ algebraic_WeightGrad1Ideal_WeightGrad1RefIdeal (hWeightGrad1Ideal := hWeightGrad1Ideal) (hWeightGrad1RefIdeal := hWeightGrad1RefIdeal)
    ∧ preserves_InputGrad0_InputGrad0Ideal
    ∧ algebraic_InputGrad0Ideal_InputGrad0RefIdeal (hInputGrad0Ideal := hInputGrad0Ideal) (hInputGrad0RefIdeal := hInputGrad0RefIdeal)
    ∧ preserves_WeightGrad0_WeightGrad0Ideal
    ∧ algebraic_WeightGrad0Ideal_WeightGrad0RefIdeal (hWeightGrad0Ideal := hWeightGrad0Ideal) (hWeightGrad0RefIdeal := hWeightGrad0RefIdeal)
    ∧ preserves_MixGrad_MixGradIdeal
    ∧ algebraic_MixGradIdeal_MixGradRefIdeal (hMixGradIdeal := hMixGradIdeal) (hMixGradRefIdeal := hMixGradRefIdeal)
    ∧ preserves_OutGrad_OutGradIdeal
    ∧ algebraic_OutGradIdeal_OutGradRefIdeal (hOutGradIdeal := hOutGradIdeal) (hOutGradRefIdeal := hOutGradRefIdeal)
    ∧ preserves_InProj1_InProj1Ideal
    ∧ algebraic_InProj1Ideal_InProj1RefIdeal (hInProj1Ideal := hInProj1Ideal) (hInProj1RefIdeal := hInProj1RefIdeal)
    ∧ preserves_InProj0_InProj0Ideal
    ∧ algebraic_InProj0Ideal_InProj0RefIdeal (hInProj0Ideal := hInProj0Ideal) (hInProj0RefIdeal := hInProj0RefIdeal)
    ∧ preserves_AttnFwd_AttnFwdIdeal
    ∧ algebraic_AttnFwdIdeal_AttnFwdRefIdeal_pre_finite_scores (hAttnFwdIdeal := hAttnFwdIdeal) (hAttnFwdRefIdeal := hAttnFwdRefIdeal) (hPre_finite_scores := hPre_finite_scores)
-- ==== Pre_finite.lean ====
abbrev S8192x1024 : Shape := ⟨2, ![8192, 1024]⟩
abbrev S8448x256 : Shape := ⟨2, ![8448, 256]⟩
abbrev S_ : Shape := ⟨0, ![]⟩

class Facts : Prop where
  bcast_S_S8192x1024 : S_.BroadcastsInDim S8192x1024 (![] : Fin 0 → Fin S8192x1024.rank)
  bcast_S_S8448x256 : S_.BroadcastsInDim S8448x256 (![] : Fin 0 → Fin S8448x256.rank)

variable [Facts]

def fn {F : FTy → Type} [FloatOps F] (main_arg0 : FVec F S8192x1024 .f32) (main_arg1 : FVec F S8448x256 .f32) (main_arg2 : FVec F S8448x256 .f32) (main_arg3 : FVec F S8192x1024 .f32) : IVec S8192x1024 1 × IVec S8448x256 1 × IVec S8448x256 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8448x256 .f32 := Host.absf main_arg1
  let main_cst_0 : FVec F S_ .f32 := constant S_ .f32 0x7F800000#32
  let main_v4 : FVec F S8448x256 .f32 := broadcastInDim S8448x256 ![] bcast_S_S8448x256 main_cst_0
  let main_v5 : IVec S8448x256 1 := cmpf .olt main_v3 main_v4
  let main_v6 : FVec F S8448x256 .f32 := Host.absf main_arg2
  let main_cst_1 : FVec F S_ .f32 := constant S_ .f32 0x7F800000#32
  let main_v7 : FVec F S8448x256 .f32 := broadcastInDim S8448x256 ![] bcast_S_S8448x256 main_cst_1
  let main_v8 : IVec S8448x256 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Pre_finite_scores.lean ====
abbrev S8192x1024 : Shape := ⟨2, ![8192, 1024]⟩
abbrev S8448x256 : Shape := ⟨2, ![8448, 256]⟩
abbrev S8192x5632 : Shape := ⟨2, ![8192, 5632]⟩
abbrev S_ : Shape := ⟨0, ![]⟩

class Facts : Prop where
  bcast_S_S8192x1024 : S_.BroadcastsInDim S8192x1024 (![] : Fin 0 → Fin S8192x1024.rank)
  bcast_S_S8448x256 : S_.BroadcastsInDim S8448x256 (![] : Fin 0 → Fin S8448x256.rank)

variable [Facts]

def fn {F : FTy → Type} [FloatOps F] (main_arg0 : FVec F S8192x1024 .f32) (main_arg1 : FVec F S8448x256 .f32) (main_arg2 : FVec F S8448x256 .f32) (main_arg3 : FVec F S8192x5632 .f32) : IVec S8192x1024 1 × IVec S8448x256 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8448x256 .f32 := Host.absf main_arg1
  let main_cst_0 : FVec F S_ .f32 := constant S_ .f32 0x7F800000#32
  let main_v4 : FVec F S8448x256 .f32 := broadcastInDim S8448x256 ![] bcast_S_S8448x256 main_cst_0
  let main_v5 : IVec S8448x256 1 := cmpf .olt main_v3 main_v4
  (main_v2, main_v5)
-- ==== Kernel.lean ====
abbrev S8192x1024 : Shape := ⟨2, ![8192, 1024]⟩
abbrev S8448x256 : Shape := ⟨2, ![8448, 256]⟩
abbrev S_ : Shape := ⟨0, ![]⟩
abbrev S8448x128 : Shape := ⟨2, ![8448, 128]⟩
abbrev S8448x512 : Shape := ⟨2, ![8448, 512]⟩
abbrev S8192x2x4x128 : Shape := ⟨4, ![8192, 2, 4, 128]⟩
abbrev S8448x2x128 : Shape := ⟨3, ![8448, 2, 128]⟩
abbrev S2x8448x8192x4 : Shape := ⟨4, ![2, 8448, 8192, 4]⟩
abbrev S2x4x8192x8448 : Shape := ⟨4, ![2, 4, 8192, 8448]⟩
abbrev S2x4x8192 : Shape := ⟨3, ![2, 4, 8192]⟩
abbrev S2x4x8192x1 : Shape := ⟨4, ![2, 4, 8192, 1]⟩
abbrev S2x128x4x8192 : Shape := ⟨4, ![2, 128, 4, 8192]⟩
abbrev S8192x8x128 : Shape := ⟨3, ![8192, 8, 128]⟩
abbrev S8192x8 : Shape := ⟨2, ![8192, 8]⟩
abbrev S8x8192 : Shape := ⟨2, ![8, 8192]⟩
abbrev S8x1x8192 : Shape := ⟨3, ![8, 1, 8192]⟩
abbrev S1024x128 : Shape := ⟨2, ![1024, 128]⟩
abbrev S1x1x1024 : Shape := ⟨3, ![1, 1, 1024]⟩
abbrev S1x1024 : Shape := ⟨2, ![1, 1024]⟩
abbrev S1024x1024 : Shape := ⟨2, ![1024, 1024]⟩
abbrev S256x128 : Shape := ⟨2, ![256, 128]⟩
abbrev S256x1024 : Shape := ⟨2, ![256, 1024]⟩

abbrev nBuf : Space → Nat
  | .hbm => 86
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8448x256, .f32⟩
  | .hbm, ⟨2, _⟩ => ⟨S8448x256, .f32⟩
  | .hbm, ⟨3, _⟩ => ⟨S8192x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .bf16⟩
  | .hbm, ⟨11, _⟩ => ⟨S8448x256, .bf16⟩
  | .hbm, ⟨12, _⟩ => ⟨S8448x128, .i32⟩
  | .hbm, ⟨13, _⟩ => ⟨S_, .i32⟩
  | .hbm, ⟨14, _⟩ => ⟨S8448x128, .i32⟩
  | .hbm, ⟨15, _⟩ => ⟨S8448x128, .i1⟩
  | .hbm, ⟨16, _⟩ => ⟨S_, .f32⟩
  | .hbm, ⟨17, _⟩ => ⟨S_, .f32⟩
  | .hbm, ⟨18, _⟩ => ⟨S8448x128, .f32⟩
  | .hbm, ⟨19, _⟩ => ⟨S8448x128, .f32⟩
  | .hbm, ⟨20, _⟩ => ⟨S8448x128, .f32⟩
  | .hbm, ⟨21, _⟩ => ⟨S8448x128, .f32⟩
  | .hbm, ⟨22, _⟩ => ⟨S8448x128, .f32⟩
  | .hbm, ⟨23, _⟩ => ⟨S8448x128, .f32⟩
  | .hbm, ⟨24, _⟩ => ⟨S8448x512, .f32⟩
  | .hbm, ⟨25, _⟩ => ⟨S8448x512, .bf16⟩
  | .hbm, ⟨26, _⟩ => ⟨S8192x2x4x128, .f32⟩
  | .hbm, ⟨27, _⟩ => ⟨S8448x2x128, .f32⟩
  | .hbm, ⟨28, _⟩ => ⟨S2x8448x8192x4, .f32⟩
  | .hbm, ⟨29, _⟩ => ⟨S2x4x8192x8448, .f32⟩
  | .hbm, ⟨30, _⟩ => ⟨S_, .f32⟩
  | .hbm, ⟨31, _⟩ => ⟨S2x4x8192x8448, .f32⟩
  | .hbm, ⟨32, _⟩ => ⟨S2x4x8192x8448, .f32⟩
  | .hbm, ⟨33, _⟩ => ⟨S_, .f32⟩
  | .hbm, ⟨34, _⟩ => ⟨S2x4x8192, .f32⟩
  | .hbm, ⟨35, _⟩ => ⟨S2x4x8192x1, .f32⟩
  | .hbm, ⟨36, _⟩ => ⟨S2x4x8192x8448, .f32⟩
  | .hbm, ⟨37, _⟩ => ⟨S2x4x8192x8448, .f32⟩
  | .hbm, ⟨38, _⟩ => ⟨S2x4x8192x8448, .f32⟩
  | .hbm, ⟨39, _⟩ => ⟨S_, .f32⟩
  | .hbm, ⟨40, _⟩ => ⟨S2x4x8192, .f32⟩
  | .hbm, ⟨41, _⟩ => ⟨S2x4x8192, .f32⟩
  | .hbm, ⟨42, _⟩ => ⟨S2x4x8192, .f32⟩
  | .hbm, ⟨43, _⟩ => ⟨S2x4x8192, .f32⟩
  | .hbm, ⟨44, _⟩ => ⟨S2x4x8192, .f32⟩
  | .hbm, ⟨45, _⟩ => ⟨S8192x2x4x128, .f32⟩
  | .hbm, ⟨46, _⟩ => ⟨S8448x2x128, .f32⟩
  | .hbm, ⟨47, _⟩ => ⟨S8448x2x128, .f32⟩
  | .hbm, ⟨48, _⟩ => ⟨S2x8448x8192x4, .f32⟩
  | .hbm, ⟨49, _⟩ => ⟨S2x4x8192x8448, .f32⟩
  | .hbm, ⟨50, _⟩ => ⟨S_, .f32⟩
  | .hbm, ⟨51, _⟩ => ⟨S2x4x8192x8448, .f32⟩
  | .hbm, ⟨52, _⟩ => ⟨S2x4x8192x8448, .f32⟩
  | .hbm, ⟨53, _⟩ => ⟨S_, .f32⟩
  | .hbm, ⟨54, _⟩ => ⟨S2x4x8192, .f32⟩
  | .hbm, ⟨55, _⟩ => ⟨S_, .f32⟩
  | .hbm, ⟨56, _⟩ => ⟨S2x4x8192, .f32⟩
  | .hbm, ⟨57, _⟩ => ⟨S2x4x8192, .f32⟩
  | .hbm, ⟨58, _⟩ => ⟨S2x4x8192x1, .f32⟩
  | .hbm, ⟨59, _⟩ => ⟨S2x4x8192x8448, .f32⟩
  | .hbm, ⟨60, _⟩ => ⟨S2x4x8192x8448, .f32⟩
  | .hbm, ⟨61, _⟩ => ⟨S2x4x8192x8448, .f32⟩
  | .hbm, ⟨62, _⟩ => ⟨S_, .f32⟩
  | .hbm, ⟨63, _⟩ => ⟨S2x4x8192, .f32⟩
  | .hbm, ⟨64, _⟩ => ⟨S2x4x8192x1, .f32⟩
  | .hbm, ⟨65, _⟩ => ⟨S2x4x8192x8448, .f32⟩
  | .hbm, ⟨66, _⟩ => ⟨S2x4x8192x8448, .f32⟩
  | .hbm, ⟨67, _⟩ => ⟨S2x128x4x8192, .f32⟩
  | .hbm, ⟨68, _⟩ => ⟨S8192x2x4x128, .f32⟩
  | .hbm, ⟨69, _⟩ => ⟨S8192x1024, .f32⟩
  | .hbm, ⟨70, _⟩ => ⟨S8192x1024, .f32⟩
  | .hbm, ⟨71, _⟩ => ⟨S8192x8x128, .f32⟩
  | .hbm, ⟨72, _⟩ => ⟨S_, .f32⟩
  | .hbm, ⟨73, _⟩ => ⟨S8192x8, .f32⟩
  | .hbm, ⟨74, _⟩ => ⟨S8x8192, .f32⟩
  | .hbm, ⟨75, _⟩ => ⟨S8x8192, .f32⟩
  | .hbm, ⟨76, _⟩ => ⟨S8x8192, .f32⟩
  | .hbm, ⟨77, _⟩ => ⟨S8192x1024, .bf16⟩
  | .hbm, ⟨78, _⟩ => ⟨S8192x1024, .f32⟩
  | .hbm, ⟨79, _⟩ => ⟨S8192x1024, .f32⟩
  | .hbm, ⟨80, _⟩ => ⟨S8192x1024, .bf16⟩
  | .hbm, ⟨81, _⟩ => ⟨S8x1x8192, .f32⟩
  | .hbm, ⟨82, _⟩ => ⟨S8x1x8192, .f32⟩
  | .hbm, ⟨83, _⟩ => ⟨S8192x1024, .f32⟩
  | .hbm, ⟨84, _⟩ => ⟨S8448x256, .f32⟩
  | .hbm, ⟨85, _⟩ => ⟨S8448x256, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S8448x128, .bf16⟩
  | .local _ .vmem, ⟨11, _⟩ => ⟨S8448x128, .bf16⟩
  | .local _ .vmem, ⟨12, _⟩ => ⟨S8448x128, .bf16⟩
  | .local _ .vmem, ⟨13, _⟩ => ⟨S8448x128, .bf16⟩
  | .local _ .vmem, ⟨14, _⟩ => ⟨S1024x128, .f32⟩
  | .local _ .vmem, ⟨15, _⟩ => ⟨S1024x128, .f32⟩
  | .local _ .vmem, ⟨16, _⟩ => ⟨S8448x128, .f32⟩
  | .local _ .vmem, ⟨17, _⟩ => ⟨S8448x128, .f32⟩
  | .local _ .vmem, ⟨18, _⟩ => ⟨S8448x128, .f32⟩
  | .local _ .vmem, ⟨19, _⟩ => ⟨S8448x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64_0 : Ref sig .tc := ⟨.hbm, 83, rfl⟩
abbrev main_v64_1 : Ref sig .tc := ⟨.hbm, 84, rfl⟩
abbrev main_v64_2 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S8448x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S8448x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S8448x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S8448x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]
-- ==== ReferenceIdeal.lean ====
abbrev S8192x1024 : Shape := ⟨2, ![8192, 1024]⟩
abbrev S8448x256 : Shape := ⟨2, ![8448, 256]⟩
abbrev S8192x2x4x128 : Shape := ⟨4, ![8192, 2, 4, 128]⟩
abbrev S8448x2x128 : Shape := ⟨3, ![8448, 2, 128]⟩
abbrev S2x8448x8192x4 : Shape := ⟨4, ![2, 8448, 8192, 4]⟩
abbrev S2x4x8192x8448 : Shape := ⟨4, ![2, 4, 8192, 8448]⟩
abbrev S_ : Shape := ⟨0, ![]⟩
abbrev S2x4x8192 : Shape := ⟨3, ![2, 4, 8192]⟩
abbrev S2x4x8192x1 : Shape := ⟨4, ![2, 4, 8192, 1]⟩
abbrev S2x128x4x8192 : Shape := ⟨4, ![2, 128, 4, 8192]⟩
abbrev S2x128x8448 : Shape := ⟨3, ![2, 128, 8448]⟩
abbrev S2x8192x4x128 : Shape := ⟨4, ![2, 8192, 4, 128]⟩
abbrev S2x8448x128 : Shape := ⟨3, ![2, 8448, 128]⟩

abbrev nBuf : Space → Nat
  | .hbm => 89
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8448x256, .f32⟩
  | .hbm, ⟨2, _⟩ => ⟨S8448x256, .f32⟩
  | .hbm, ⟨3, _⟩ => ⟨S8192x1024, .f32⟩
  | .hbm, ⟨4, _⟩ => ⟨S8192x2x4x128, .f32⟩
  | .hbm, ⟨5, _⟩ => ⟨S8448x2x128, .f32⟩
  | .hbm, ⟨6, _⟩ => ⟨S8448x2x128, .f32⟩
  | .hbm, ⟨7, _⟩ => ⟨S2x8448x8192x4, .f32⟩
  | .hbm, ⟨8, _⟩ => ⟨S2x4x8192x8448, .f32⟩
  | .hbm, ⟨9, _⟩ => ⟨S_, .f32⟩
  | .hbm, ⟨10, _⟩ => ⟨S2x4x8192x8448, .f32⟩
  | .hbm, ⟨11, _⟩ => ⟨S2x4x8192x8448, .f32⟩
  | .hbm, ⟨12, _⟩ => ⟨S_, .f32⟩
  | .hbm, ⟨13, _⟩ => ⟨S2x4x8192, .f32⟩
  | .hbm, ⟨14, _⟩ => ⟨S2x4x8192x1, .f32⟩
  | .hbm, ⟨15, _⟩ => ⟨S2x4x8192x8448, .f32⟩
  | .hbm, ⟨16, _⟩ => ⟨S2x4x8192x8448, .i1⟩
  | .hbm, ⟨17, _⟩ => ⟨S2x4x8192x8448, .f32⟩
  | .hbm, ⟨18, _⟩ => ⟨S_, .f32⟩
  | .hbm, ⟨19, _⟩ => ⟨S2x4x8192, .f32⟩
  | .hbm, ⟨20, _⟩ => ⟨S_, .f32⟩
  | .hbm, ⟨21, _⟩ => ⟨S2x4x8192, .f32⟩
  | .hbm, ⟨22, _⟩ => ⟨S2x4x8192, .f32⟩
  | .hbm, ⟨23, _⟩ => ⟨S_, .f32⟩
  | .hbm, ⟨24, _⟩ => ⟨S2x4x8192, .f32⟩
  | .hbm, ⟨25, _⟩ => ⟨S2x4x8192, .i1⟩
  | .hbm, ⟨26, _⟩ => ⟨S_, .f32⟩
  | .hbm, ⟨27, _⟩ => ⟨S2x4x8192, .f32⟩
  | .hbm, ⟨28, _⟩ => ⟨S2x4x8192, .i1⟩
  | .hbm, ⟨29, _⟩ => ⟨S_, .f32⟩
  | .hbm, ⟨30, _⟩ => ⟨S2x4x8192, .f32⟩
  | .hbm, ⟨31, _⟩ => ⟨S_, .f32⟩
  | .hbm, ⟨32, _⟩ => ⟨S2x4x8192, .f32⟩
  | .hbm, ⟨33, _⟩ => ⟨S_, .f32⟩
  | .hbm, ⟨34, _⟩ => ⟨S2x4x8192, .f32⟩
  | .hbm, ⟨35, _⟩ => ⟨S2x4x8192, .f32⟩
  | .hbm, ⟨36, _⟩ => ⟨S2x4x8192, .f32⟩
  | .hbm, ⟨37, _⟩ => ⟨S2x4x8192x1, .f32⟩
  | .hbm, ⟨38, _⟩ => ⟨S2x4x8192x8448, .f32⟩
  | .hbm, ⟨39, _⟩ => ⟨S2x4x8192x8448, .f32⟩
  | .hbm, ⟨40, _⟩ => ⟨S2x4x8192x8448, .f32⟩
  | .hbm, ⟨41, _⟩ => ⟨S_, .f32⟩
  | .hbm, ⟨42, _⟩ => ⟨S2x4x8192, .f32⟩
  | .hbm, ⟨43, _⟩ => ⟨S2x4x8192x1, .f32⟩
  | .hbm, ⟨44, _⟩ => ⟨S2x4x8192x8448, .f32⟩
  | .hbm, ⟨45, _⟩ => ⟨S2x4x8192x8448, .f32⟩
  | .hbm, ⟨46, _⟩ => ⟨S2x4x8192x1, .f32⟩
  | .hbm, ⟨47, _⟩ => ⟨S_, .f32⟩
  | .hbm, ⟨48, _⟩ => ⟨S2x4x8192x1, .f32⟩
  | .hbm, ⟨49, _⟩ => ⟨S2x4x8192x1, .f32⟩
  | .hbm, ⟨50, _⟩ => ⟨S2x128x4x8192, .f32⟩
  | .hbm, ⟨51, _⟩ => ⟨S8192x2x4x128, .f32⟩
  | .hbm, ⟨52, _⟩ => ⟨S8192x1024, .f32⟩
  | .hbm, ⟨53, _⟩ => ⟨S8192x2x4x128, .f32⟩
  | .hbm, ⟨54, _⟩ => ⟨S2x128x4x8192, .f32⟩
  | .hbm, ⟨55, _⟩ => ⟨S2x4x8192x8448, .f32⟩
  | .hbm, ⟨56, _⟩ => ⟨S2x128x8448, .f32⟩
  | .hbm, ⟨57, _⟩ => ⟨S8448x2x128, .f32⟩
  | .hbm, ⟨58, _⟩ => ⟨S2x4x8192x8448, .f32⟩
  | .hbm, ⟨59, _⟩ => ⟨S2x4x8192x8448, .f32⟩
  | .hbm, ⟨60, _⟩ => ⟨S2x4x8192x8448, .f32⟩
  | .hbm, ⟨61, _⟩ => ⟨S_, .f32⟩
  | .hbm, ⟨62, _⟩ => ⟨S2x4x8192, .f32⟩
  | .hbm, ⟨63, _⟩ => ⟨S2x4x8192x1, .f32⟩
  | .hbm, ⟨64, _⟩ => ⟨S2x4x8192x1, .f32⟩
  | .hbm, ⟨65, _⟩ => ⟨S2x4x8192x8448, .f32⟩
  | .hbm, ⟨66, _⟩ => ⟨S2x4x8192x8448, .f32⟩
  | .hbm, ⟨67, _⟩ => ⟨S_, .f32⟩
  | .hbm, ⟨68, _⟩ => ⟨S2x4x8192, .f32⟩
  | .hbm, ⟨69, _⟩ => ⟨S2x4x8192x8448, .f32⟩
  | .hbm, ⟨70, _⟩ => ⟨S2x4x8192x8448, .f32⟩
  | .hbm, ⟨71, _⟩ => ⟨S2x4x8192x8448, .f32⟩
  | .hbm, ⟨72, _⟩ => ⟨S_, .f32⟩
  | .hbm, ⟨73, _⟩ => ⟨S2x4x8192x8448, .f32⟩
  | .hbm, ⟨74, _⟩ => ⟨S2x4x8192x8448, .f32⟩
  | .hbm, ⟨75, _⟩ => ⟨S2x8448x8192x4, .f32⟩
  | .hbm, ⟨76, _⟩ => ⟨S2x8192x4x128, .f32⟩
  | .hbm, ⟨77, _⟩ => ⟨S8192x2x4x128, .f32⟩
  | .hbm, ⟨78, _⟩ => ⟨S2x8448x128, .f32⟩
  | .hbm, ⟨79, _⟩ => ⟨S8448x2x128, .f32⟩
  | .hbm, ⟨80, _⟩ => ⟨S8448x256, .f32⟩
  | .hbm, ⟨81, _⟩ => ⟨S8448x256, .f32⟩
  | .hbm, ⟨82, _⟩ => ⟨S8192x1024, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S8192x1024, .f32⟩
  | .hbm, ⟨88, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_11 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_12 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_13 : Ref sig .tc := ⟨.hbm, 83, rfl⟩
abbrev main_v65 : Ref sig .tc := ⟨.hbm, 84, rfl⟩
abbrev main_cst_14 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩

abbrev nD : Nat := 1
abbrev τ : Topo := Topo.v7x

variable {F : FTy → Type} [FloatOps F]
-- ==== InputGrad1.lean ====
abbrev S8192x2048 : Shape := ⟨2, ![8192, 2048]⟩
abbrev S2048x6144 : Shape := ⟨2, ![2048, 6144]⟩
abbrev S8192x6144 : Shape := ⟨2, ![8192, 6144]⟩
abbrev S1024x6144 : Shape := ⟨2, ![1024, 6144]⟩
abbrev S512x6144 : Shape := ⟨2, ![512, 6144]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x6144, .f32⟩
  | .hbm, ⟨2, _⟩ => ⟨S8192x6144, .f32⟩
  | .hbm, ⟨3, _⟩ => ⟨S8192x6144, .bf16⟩
  | .hbm, ⟨4, _⟩ => ⟨S2048x6144, .bf16⟩
  | .hbm, ⟨5, _⟩ => ⟨S8192x2048, .f32⟩
  | .local _ .vmem, ⟨0, _⟩ => ⟨S1024x6144, .bf16⟩
  | .local _ .vmem, ⟨1, _⟩ => ⟨S1024x6144, .bf16⟩
  | .local _ .vmem, ⟨2, _⟩ => ⟨S512x6144, .bf16⟩
  | .local _ .vmem, ⟨3, _⟩ => ⟨S512x6144, .bf16⟩
  | .local _ .vmem, ⟨4, _⟩ => ⟨S1024x512, .f32⟩
  | .local _ .vmem, ⟨5, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InputGrad1RefIdeal.lean ====
abbrev S8192x2048 : Shape := ⟨2, ![8192, 2048]⟩
abbrev S2048x6144 : Shape := ⟨2, ![2048, 6144]⟩
abbrev S8192x6144 : Shape := ⟨2, ![8192, 6144]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x6144, .f32⟩
  | .hbm, ⟨2, _⟩ => ⟨S8192x6144, .f32⟩
  | .hbm, ⟨3, _⟩ => ⟨S8192x6144, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== WeightGrad1.lean ====
abbrev S8192x2048 : Shape := ⟨2, ![8192, 2048]⟩
abbrev S2048x6144 : Shape := ⟨2, ![2048, 6144]⟩
abbrev S8192x6144 : Shape := ⟨2, ![8192, 6144]⟩
abbrev S8x2048x768 : Shape := ⟨3, ![8, 2048, 768]⟩
abbrev S2048x2048 : Shape := ⟨2, ![2048, 2048]⟩
abbrev S2048x768 : Shape := ⟨2, ![2048, 768]⟩
abbrev S1x2048x768 : Shape := ⟨3, ![1, 2048, 768]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x6144, .f32⟩
  | .hbm, ⟨2, _⟩ => ⟨S8192x6144, .f32⟩
  | .hbm, ⟨3, _⟩ => ⟨S8192x2048, .bf16⟩
  | .hbm, ⟨4, _⟩ => ⟨S8192x6144, .bf16⟩
  | .hbm, ⟨5, _⟩ => ⟨S8x2048x768, .bf16⟩
  | .local _ .vmem, ⟨0, _⟩ => ⟨S2048x2048, .bf16⟩
  | .local _ .vmem, ⟨1, _⟩ => ⟨S2048x2048, .bf16⟩
  | .local _ .vmem, ⟨2, _⟩ => ⟨S2048x768, .bf16⟩
  | .local _ .vmem, ⟨3, _⟩ => ⟨S2048x768, .bf16⟩
  | .local _ .vmem, ⟨4, _⟩ => ⟨S1x2048x768, .bf16⟩
  | .local _ .vmem, ⟨5, _⟩ => ⟨S1x2048x768, .bf16⟩
  | .local _ .vmem, ⟨6, _⟩ => ⟨S2048x768, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WeightGrad1RefIdeal.lean ====
abbrev S8192x2048 : Shape := ⟨2, ![8192, 2048]⟩
abbrev S2048x6144 : Shape := ⟨2, ![2048, 6144]⟩
abbrev S8192x6144 : Shape := ⟨2, ![8192, 6144]⟩
abbrev S6144x2048 : Shape := ⟨2, ![6144, 2048]⟩
abbrev S2048x8x768 : Shape := ⟨3, ![2048, 8, 768]⟩
abbrev S8x2048x768 : Shape := ⟨3, ![8, 2048, 768]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x6144, .f32⟩
  | .hbm, ⟨2, _⟩ => ⟨S8192x6144, .f32⟩
  | .hbm, ⟨3, _⟩ => ⟨S8192x6144, .f32⟩
  | .hbm, ⟨4, _⟩ => ⟨S6144x2048, .f32⟩
  | .hbm, ⟨5, _⟩ => ⟨S2048x6144, .f32⟩
  | .hbm, ⟨6, _⟩ => ⟨S2048x8x768, .f32⟩
  | .hbm, ⟨7, _⟩ => ⟨S8x2048x768, .f32⟩
  | .hbm, ⟨8, _⟩ => ⟨S8x2048x768, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InputGrad0.lean ====
abbrev S8192x2048 : Shape := ⟨2, ![8192, 2048]⟩
abbrev S2048x5632 : Shape := ⟨2, ![2048, 5632]⟩
abbrev S8192x5632 : Shape := ⟨2, ![8192, 5632]⟩
abbrev S1024x5632 : Shape := ⟨2, ![1024, 5632]⟩
abbrev S512x5632 : Shape := ⟨2, ![512, 5632]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S8192x5632, .f32⟩
  | .hbm, ⟨3, _⟩ => ⟨S8192x5632, .bf16⟩
  | .hbm, ⟨4, _⟩ => ⟨S2048x5632, .bf16⟩
  | .hbm, ⟨5, _⟩ => ⟨S8192x2048, .f32⟩
  | .local _ .vmem, ⟨0, _⟩ => ⟨S1024x5632, .bf16⟩
  | .local _ .vmem, ⟨1, _⟩ => ⟨S1024x5632, .bf16⟩
  | .local _ .vmem, ⟨2, _⟩ => ⟨S512x5632, .bf16⟩
  | .local _ .vmem, ⟨3, _⟩ => ⟨S512x5632, .bf16⟩
  | .local _ .vmem, ⟨4, _⟩ => ⟨S1024x512, .f32⟩
  | .local _ .vmem, ⟨5, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InputGrad0RefIdeal.lean ====
abbrev S8192x2048 : Shape := ⟨2, ![8192, 2048]⟩
abbrev S2048x5632 : Shape := ⟨2, ![2048, 5632]⟩
abbrev S8192x5632 : Shape := ⟨2, ![8192, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S8192x5632, .f32⟩
  | .hbm, ⟨3, _⟩ => ⟨S8192x5632, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== WeightGrad0.lean ====
abbrev S8192x2048 : Shape := ⟨2, ![8192, 2048]⟩
abbrev S2048x5632 : Shape := ⟨2, ![2048, 5632]⟩
abbrev S8192x5632 : Shape := ⟨2, ![8192, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S8192x5632, .f32⟩
  | .hbm, ⟨3, _⟩ => ⟨S8192x2048, .bf16⟩
  | .hbm, ⟨4, _⟩ => ⟨S8192x5632, .bf16⟩
  | .hbm, ⟨5, _⟩ => ⟨S2048x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WeightGrad0RefIdeal.lean ====
abbrev S8192x2048 : Shape := ⟨2, ![8192, 2048]⟩
abbrev S2048x5632 : Shape := ⟨2, ![2048, 5632]⟩
abbrev S8192x5632 : Shape := ⟨2, ![8192, 5632]⟩
abbrev S5632x2048 : Shape := ⟨2, ![5632, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S8192x5632, .f32⟩
  | .hbm, ⟨3, _⟩ => ⟨S8192x5632, .f32⟩
  | .hbm, ⟨4, _⟩ => ⟨S5632x2048, .f32⟩
  | .hbm, ⟨5, _⟩ => ⟨S2048x5632, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MixGrad.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S2048x2048, .bf16⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixGradRefIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== OutGrad.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S8192x2048, .bf16⟩
  | .hbm, ⟨5, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutGradRefIdeal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InProj1.lean ====
abbrev S8192x2048 : Shape := ⟨2, ![8192, 2048]⟩
abbrev S2048x6144 : Shape := ⟨2, ![2048, 6144]⟩
abbrev S8192x6144 : Shape := ⟨2, ![8192, 6144]⟩
abbrev S1024x2048 : Shape := ⟨2, ![1024, 2048]⟩
abbrev S2048x1536 : Shape := ⟨2, ![2048, 1536]⟩
abbrev S1024x1536 : Shape := ⟨2, ![1024, 1536]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x6144, .f32⟩
  | .hbm, ⟨2, _⟩ => ⟨S8192x2048, .bf16⟩
  | .hbm, ⟨3, _⟩ => ⟨S2048x6144, .bf16⟩
  | .hbm, ⟨4, _⟩ => ⟨S8192x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .f32⟩
  | .local _ .vmem, ⟨5, _⟩ => ⟨S1024x1536, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProj1RefIdeal.lean ====
abbrev S8192x2048 : Shape := ⟨2, ![8192, 2048]⟩
abbrev S2048x6144 : Shape := ⟨2, ![2048, 6144]⟩
abbrev S8192x6144 : Shape := ⟨2, ![8192, 6144]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x6144, .f32⟩
  | .hbm, ⟨2, _⟩ => ⟨S8192x6144, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InProj0.lean ====
abbrev S8192x2048 : Shape := ⟨2, ![8192, 2048]⟩
abbrev S2048x5632 : Shape := ⟨2, ![2048, 5632]⟩
abbrev S8192x5632 : Shape := ⟨2, ![8192, 5632]⟩
abbrev S1024x2048 : Shape := ⟨2, ![1024, 2048]⟩
abbrev S2048x1408 : Shape := ⟨2, ![2048, 1408]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S8192x2048, .bf16⟩
  | .hbm, ⟨3, _⟩ => ⟨S2048x5632, .bf16⟩
  | .hbm, ⟨4, _⟩ => ⟨S8192x5632, .f32⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProj0RefIdeal.lean ====
abbrev S8192x2048 : Shape := ⟨2, ![8192, 2048]⟩
abbrev S2048x5632 : Shape := ⟨2, ![2048, 5632]⟩
abbrev S8192x5632 : Shape := ⟨2, ![8192, 5632]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S8192x5632, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AttnFwd.lean ====
abbrev S8192x1024 : Shape := ⟨2, ![8192, 1024]⟩
abbrev S8448x256 : Shape := ⟨2, ![8448, 256]⟩
abbrev S8192x5632 : Shape := ⟨2, ![8192, 5632]⟩
abbrev S_ : Shape := ⟨0, ![]⟩
abbrev S8448x128 : Shape := ⟨2, ![8448, 128]⟩
abbrev S8448x512 : Shape := ⟨2, ![8448, 512]⟩
abbrev S8192x2048 : Shape := ⟨2, ![8192, 2048]⟩
abbrev S8x1x8192 : Shape := ⟨3, ![8, 1, 8192]⟩
abbrev S512x128 : Shape := ⟨2, ![512, 128]⟩
abbrev S1x1x512 : Shape := ⟨3, ![1, 1, 512]⟩
abbrev S512x1 : Shape := ⟨2, ![512, 1]⟩
abbrev S512x256 : Shape := ⟨2, ![512, 256]⟩
abbrev S1024x128 : Shape := ⟨2, ![1024, 128]⟩
abbrev S1024x256 : Shape := ⟨2, ![1024, 256]⟩
abbrev S512x1024 : Shape := ⟨2, ![512, 1024]⟩
abbrev S512 : Shape := ⟨1, ![512]⟩
abbrev S256x128 : Shape := ⟨2, ![256, 128]⟩
abbrev S256x256 : Shape := ⟨2, ![256, 256]⟩
abbrev S128x512 : Shape := ⟨2, ![128, 512]⟩
abbrev S1x512 : Shape := ⟨2, ![1, 512]⟩

abbrev nBuf : Space → Nat
  | .hbm => 30
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8448x256, .f32⟩
  | .hbm, ⟨2, _⟩ => ⟨S8448x256, .f32⟩
  | .hbm, ⟨3, _⟩ => ⟨S8192x5632, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .bf16⟩
  | .hbm, ⟨11, _⟩ => ⟨S8448x128, .i32⟩
  | .hbm, ⟨12, _⟩ => ⟨S_, .i32⟩
  | .hbm, ⟨13, _⟩ => ⟨S8448x128, .i32⟩
  | .hbm, ⟨14, _⟩ => ⟨S8448x128, .i1⟩
  | .hbm, ⟨15, _⟩ => ⟨S_, .f32⟩
  | .hbm, ⟨16, _⟩ => ⟨S_, .f32⟩
  | .hbm, ⟨17, _⟩ => ⟨S8448x128, .f32⟩
  | .hbm, ⟨18, _⟩ => ⟨S8448x128, .f32⟩
  | .hbm, ⟨19, _⟩ => ⟨S8448x128, .f32⟩
  | .hbm, ⟨20, _⟩ => ⟨S8448x128, .f32⟩
  | .hbm, ⟨21, _⟩ => ⟨S8448x128, .f32⟩
  | .hbm, ⟨22, _⟩ => ⟨S8448x128, .f32⟩
  | .hbm, ⟨23, _⟩ => ⟨S8448x512, .f32⟩
  | .hbm, ⟨24, _⟩ => ⟨S8448x512, .bf16⟩
  | .hbm, ⟨25, _⟩ => ⟨S8448x256, .bf16⟩
  | .hbm, ⟨26, _⟩ => ⟨S8192x1024, .bf16⟩
  | .hbm, ⟨27, _⟩ => ⟨S8192x2048, .bf16⟩
  | .hbm, ⟨28, _⟩ => ⟨S8x1x8192, .f32⟩
  | .hbm, ⟨29, _⟩ => ⟨S8192x1024, .bf16⟩
  | .local _ .vmem, ⟨0, _⟩ => ⟨S512x128, .bf16⟩
  | .local _ .vmem, ⟨1, _⟩ => ⟨S512x128, .bf16⟩
  | .local _ .vmem, ⟨2, _⟩ => ⟨S8448x128, .bf16⟩
  | .local _ .vmem, ⟨3, _⟩ => ⟨S8448x128, .bf16⟩
  | .local _ .vmem, ⟨4, _⟩ => ⟨S8448x256, .bf16⟩
  | .local _ .vmem, ⟨5, _⟩ => ⟨S8448x256, .bf16⟩
  | .local _ .vmem, ⟨6, _⟩ => ⟨S512x128, .f32⟩
  | .local _ .vmem, ⟨7, _⟩ => ⟨S512x128, .f32⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S1x1x512, .f32⟩
  | .local _ .vmem, ⟨13, _⟩ => ⟨S1x1x512, .f32⟩
  | .local _ .vmem, ⟨14, _⟩ => ⟨S512x1, .f32⟩
  | .local _ .vmem, ⟨15, _⟩ => ⟨S512x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8448x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnFwdIdeal.lean ====
variable {F : FTy → Type} [FloatOps F] [Named F]
def κ : String → Option EReal := fun
  | "log2_e" => some (((Real.log 2)⁻¹ : ℝ) : EReal)
  | _ => none
-- ==== AttnFwdRefIdeal.lean ====
abbrev S8192x1024 : Shape := ⟨2, ![8192, 1024]⟩
abbrev S8448x256 : Shape := ⟨2, ![8448, 256]⟩
abbrev S8192x5632 : Shape := ⟨2, ![8192, 5632]⟩
abbrev S8192x2x4x128 : Shape := ⟨4, ![8192, 2, 4, 128]⟩
abbrev S8448x2x128 : Shape := ⟨3, ![8448, 2, 128]⟩
abbrev S2x8448x8192x4 : Shape := ⟨4, ![2, 8448, 8192, 4]⟩
abbrev S2x4x8192x8448 : Shape := ⟨4, ![2, 4, 8192, 8448]⟩
abbrev S_ : Shape := ⟨0, ![]⟩
abbrev S2x4x8192 : Shape := ⟨3, ![2, 4, 8192]⟩
abbrev S2x4x8192x1 : Shape := ⟨4, ![2, 4, 8192, 1]⟩
abbrev S2x128x4x8192 : Shape := ⟨4, ![2, 128, 4, 8192]⟩
abbrev S8x1x8192 : Shape := ⟨3, ![8, 1, 8192]⟩

abbrev nBuf : Space → Nat
  | .hbm => 64
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8448x256, .f32⟩
  | .hbm, ⟨2, _⟩ => ⟨S8448x256, .f32⟩
  | .hbm, ⟨3, _⟩ => ⟨S8192x5632, .f32⟩
  | .hbm, ⟨4, _⟩ => ⟨S8192x2x4x128, .f32⟩
  | .hbm, ⟨5, _⟩ => ⟨S8448x2x128, .f32⟩
  | .hbm, ⟨6, _⟩ => ⟨S8448x2x128, .f32⟩
  | .hbm, ⟨7, _⟩ => ⟨S2x8448x8192x4, .f32⟩
  | .hbm, ⟨8, _⟩ => ⟨S2x4x8192x8448, .f32⟩
  | .hbm, ⟨9, _⟩ => ⟨S_, .f32⟩
  | .hbm, ⟨10, _⟩ => ⟨S2x4x8192x8448, .f32⟩
  | .hbm, ⟨11, _⟩ => ⟨S2x4x8192x8448, .f32⟩
  | .hbm, ⟨12, _⟩ => ⟨S_, .f32⟩
  | .hbm, ⟨13, _⟩ => ⟨S2x4x8192, .f32⟩
  | .hbm, ⟨14, _⟩ => ⟨S_, .f32⟩
  | .hbm, ⟨15, _⟩ => ⟨S2x4x8192, .f32⟩
  | .hbm, ⟨16, _⟩ => ⟨S2x4x8192, .f32⟩
  | .hbm, ⟨17, _⟩ => ⟨S2x4x8192x1, .f32⟩
  | .hbm, ⟨18, _⟩ => ⟨S2x4x8192x8448, .f32⟩
  | .hbm, ⟨19, _⟩ => ⟨S2x4x8192x8448, .f32⟩
  | .hbm, ⟨20, _⟩ => ⟨S2x4x8192x8448, .f32⟩
  | .hbm, ⟨21, _⟩ => ⟨S_, .f32⟩
  | .hbm, ⟨22, _⟩ => ⟨S2x4x8192, .f32⟩
  | .hbm, ⟨23, _⟩ => ⟨S2x4x8192x1, .f32⟩
  | .hbm, ⟨24, _⟩ => ⟨S2x4x8192x8448, .f32⟩
  | .hbm, ⟨25, _⟩ => ⟨S2x4x8192x8448, .f32⟩
  | .hbm, ⟨26, _⟩ => ⟨S2x128x4x8192, .f32⟩
  | .hbm, ⟨27, _⟩ => ⟨S8192x2x4x128, .f32⟩
  | .hbm, ⟨28, _⟩ => ⟨S8192x1024, .f32⟩
  | .hbm, ⟨29, _⟩ => ⟨S8192x1024, .f32⟩
  | .hbm, ⟨30, _⟩ => ⟨S8192x2x4x128, .f32⟩
  | .hbm, ⟨31, _⟩ => ⟨S8448x2x128, .f32⟩
  | .hbm, ⟨32, _⟩ => ⟨S2x8448x8192x4, .f32⟩
  | .hbm, ⟨33, _⟩ => ⟨S2x4x8192x8448, .f32⟩
  | .hbm, ⟨34, _⟩ => ⟨S_, .f32⟩
  | .hbm, ⟨35, _⟩ => ⟨S2x4x8192x8448, .f32⟩
  | .hbm, ⟨36, _⟩ => ⟨S2x4x8192x8448, .f32⟩
  | .hbm, ⟨37, _⟩ => ⟨S_, .f32⟩
  | .hbm, ⟨38, _⟩ => ⟨S2x4x8192, .f32⟩
  | .hbm, ⟨39, _⟩ => ⟨S2x4x8192x1, .f32⟩
  | .hbm, ⟨40, _⟩ => ⟨S2x4x8192x8448, .f32⟩
  | .hbm, ⟨41, _⟩ => ⟨S2x4x8192x8448, .f32⟩
  | .hbm, ⟨42, _⟩ => ⟨S2x4x8192x8448, .f32⟩
  | .hbm, ⟨43, _⟩ => ⟨S_, .f32⟩
  | .hbm, ⟨44, _⟩ => ⟨S2x4x8192, .f32⟩
  | .hbm, ⟨45, _⟩ => ⟨S2x4x8192, .f32⟩
  | .hbm, ⟨46, _⟩ => ⟨S2x4x8192, .f32⟩
  | .hbm, ⟨47, _⟩ => ⟨S_, .f32⟩
  | .hbm, ⟨48, _⟩ => ⟨S_, .f32⟩
  | .hbm, ⟨49, _⟩ => ⟨S2x4x8192, .f32⟩
  | .hbm, ⟨50, _⟩ => ⟨S2x4x8192, .f32⟩
  | .hbm, ⟨51, _⟩ => ⟨S8192x1024, .bf16⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .bf16⟩
  | .hbm, ⟨63, _⟩ => ⟨S8x1x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== Proof.Block.lean ====
module

public import proofs.«01_k».proof.Proof.Gen.KernelIdeal.Frame
public import Idealize.ShloMosaic.Lib.Pipeline.ReadBack
public import Idealize.ShloMosaic.Lib.Pointwise

/-! What ONE grid point of the kernel leaves in its three output blocks, read at an index: with `pt` the point's
    probabilities and `dst` its score gradients (rows: the keys, columns: the queries), a point adds
    `∑ n, pt j n * do n d` to the block of dv and `∑ n, dst j n * q n d` to the block of dk (the first point of a key head
    starts both from zero), and writes `∑ j, dst j n * k j d`, taken chunk by chunk, to its block of dq. -/

@[expose] public section

noncomputable section

namespace Cert.KernelIdeal.Blk

open Idealize.ShloMosaic Cert.KernelIdeal.Gen Idealize.ShloMosaic.Tactic

/-- The probabilities of one point, key `j` against query `n`: two to the score less the row's saved log-sum. -/
def pt (q : Vec Ideal S1024x128 .bf16) (ls : Vec Ideal S1x1x1024 .f32) (k : Vec Ideal S8448x128 .bf16) (j : Fin 8448) (n : Fin 1024) : EReal :=
  Ideal.exp2 (∑ x : Fin 128, k (ix2 j x) * q (ix2 n x) - ls (ix3 0 0 n))

/-- The score gradients of one point: the probability times (value row · output gradient − the row's saved sum). -/
def dst (q dos : Vec Ideal S1024x128 .bf16) (ls dl : Vec Ideal S1x1x1024 .f32) (k v : Vec Ideal S8448x128 .bf16) (j : Fin 8448) (n : Fin 1024) : EReal :=
  pt q ls k j n * (∑ x : Fin 128, v (ix2 j x) * dos (ix2 n x) - dl (ix3 0 0 n))

/-- The rows of one chunk of keys: `R` of them, from row `o`. -/
def row {R : Nat} (o : Nat) (h : o + R ≤ 8448) (r : Fin R) : Fin 8448 := ⟨o + r.val, Nat.lt_of_lt_of_le (Nat.add_lt_add_left r.isLt o) h⟩

/-- What one chunk of keys adds to the gradient of q. -/
def dqC (q dos : Vec Ideal S1024x128 .bf16) (ls dl : Vec Ideal S1x1x1024 .f32) (k v : Vec Ideal S8448x128 .bf16) (R o : Nat) (h : o + R ≤ 8448)
    (n : Fin 1024) (d : Fin 128) : EReal :=
  ∑ r : Fin R, dst q dos ls dl k v (row o h r) n * k (ix2 (row o h r) d)

/-- What one point adds to the gradient of v: probabilities times output gradients, summed over the point's queries. -/
def addDv (q do' : Vec Ideal S1024x128 .bf16) (ls : Vec Ideal S1x1x1024 .f32) (k : Vec Ideal S8448x128 .bf16) (y : S8448x128.Idx) : EReal :=
  ∑ n : Fin 1024, pt q ls k (y 0) n * do' (ix2 n (y 1))

/-- What one point adds to the gradient of k: score gradients times queries, summed over the point's queries. -/
def addDk (q dos : Vec Ideal S1024x128 .bf16) (ls dl : Vec Ideal S1x1x1024 .f32) (k v : Vec Ideal S8448x128 .bf16) (y : S8448x128.Idx) : EReal :=
  ∑ n : Fin 1024, dst q dos ls dl k v (y 0) n * q (ix2 n (y 1))

theorem hz : (![0, 0] : Fin 2 → Nat) = fun _ => 0 := by decide
theorem hz3 : (![0, 0, 0] : Fin 3 → Nat) = fun _ => 0 := by decide

/-- A chunk of rows of the key block: the chunk's index (r, l) is the block's index (o + r, l). -/
theorem emb_rows {R : Nat} (o : Nat) (inb) (h : o + R ≤ 8448) (r : Fin R) (l : Fin 128) :
    (Rect.unit (s := S8448x128) ![o, 0] ![R, 128] inb).emb (ix2 r l) = ix2 (row o h r) l := by
  funext a
  match a with
  | 0 => exact Fin.ext (show o + 1 * r.val = o + r.val by omega)
  | 1 => exact Fin.ext (show 0 + 1 * l.val = l.val by omega)

/-- A store of a chunk of rows whose payload is, row by row, `G` of the block's row. -/
theorem piece_rows {R : Nat} (o : Nat) (inb) (h : o + R ≤ 8448) (P : (⟨2, ![R, 128]⟩ : Shape).Idx → EReal) (G : S8448x128.Idx → EReal)
    (hP : ∀ (r : Fin R) (l : Fin 128), P (ix2 r l) = G (ix2 (row o h r) l)) :
    ∀ x, P x = G ((Rect.unit (s := S8448x128) ![o, 0] ![R, 128] inb).emb x) := by
  intro x
  obtain ⟨r, l, rfl⟩ : ∃ (r : Fin R) (l : Fin 128), x = ix2 r l := ⟨x 0, x 1, by funext a; match a with | 0 => rfl | 1 => rfl⟩
  rw [emb_rows o inb h]; exact hP r l

variable (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S8448x128 .bf16) (harg8 : arg8.IsWhole) (arg9 : Memref sig .tc .vmem S8448x128 .bf16) (harg9 : arg9.IsWhole) (arg10 : Memref sig .tc .vmem S1024x128 .f32) (harg10 : arg10.IsWhole) (arg11 : Memref sig .tc .vmem S8448x128 .f32) (harg11 : arg11.IsWhole) (arg12 : Memref sig .tc .vmem S8448x128 .f32) (harg12 : arg12.IsWhole)
  (x0 x1 x2 : Vec Ideal S1024x128 .bf16) (x3 x4 : Vec Ideal S1x1x1024 .f32) (x5 x6 : Vec Ideal S8448x128 .bf16) (xo8 xo9 : Vec Ideal S8448x128 .f32)

/-- Case B: the block of dv. -/
theorem out_B_9 (hc0 : ¬cond0_0 i) (y : S8448x128.Idx) :
    out0_B_9 (F := Ideal) c i arg3 harg3 arg4 harg4 arg5 harg5 arg6 harg6 arg7 harg7 arg8 harg8 arg9 harg9 arg10 harg10 arg11 harg11 arg12 harg12 hc0 x0 x1 x2 x3 x4 x5 x6 xo8 xo9 y
      = xo9 y + addDv x0 x1 x3 x5 y := by
  unfold out0_B_9
  rw [View.read_writes_eq_canon _ _ _ (cover0_B_9 (F := Ideal) c i arg3 harg3 arg4 harg4 arg5 harg5 arg6 harg6 arg7 harg7 arg8 harg8 arg9 harg9 arg10 harg10 arg11 harg11 arg12 harg12 hc0 x0 x1 x2 x3 x4 x5 x6 xo8 xo9)]
  unfold kernelRun0_B
  dsimp only
  sl_unfold_words
  simp (disch := first | rfl | decide) only [View.readAt_eq_ld, harg3.read_unread, harg4.read_unread, harg5.read_unread, harg6.read_unread, harg7.read_unread, harg8.read_unread, harg9.read_unread, harg11.read_unread, harg12.read_unread,
    View.ld_unit_zero (S := S1024x128) hz, View.ld_unit_zero (S := S1x1x1024) hz3]
  refine View.canon_append_of_piecesOf (Val := Elt Ideal) (e := .f32) (fun y => xo9 y + addDv x0 x1 x3 x5 y) [] [_, _, _, _, _, _, _, _, _]
    ⟨?_, ?_, ?_, ?_, ?_, ?_, ?_, ?_, ?_, trivial⟩ _ (View.cover_of_tiledBy (s := S8448x128) _ ![256, 128] (by sl_kernel_rfl) _)
  all_goals
    dsimp only
    refine piece_rows _ _ ?_ _ (fun y => xo9 y + addDv x0 x1 x3 x5 y) ?_
    · decide
    · intro r l
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, addDv, dst, pt, row]
      rfl

/-- Case A: the block of dv. -/
theorem out_A_9 (hc0 : cond0_0 i) (y : S8448x128.Idx) :
    out0_A_9 (F := Ideal) c i arg3 harg3 arg4 harg4 arg5 harg5 arg6 harg6 arg7 harg7 arg8 harg8 arg9 harg9 arg10 harg10 arg11 harg11 arg12 harg12 hc0 x0 x1 x2 x3 x4 x5 x6 y
      = addDv x0 x1 x3 x5 y := by
  unfold out0_A_9
  rw [View.read_writes_eq_canon _ _ _ (cover0_A_9 (F := Ideal) c i arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  simp (disch := first | rfl | decide) only [↓View.readCov_skip, View.readCov_fill, View.readAt_eq_ld, harg3.read_unread, harg4.read_unread, harg5.read_unread, harg6.read_unread, harg7.read_unread, harg8.read_unread, harg9.read_unread,
    View.ld_unit_zero (S := S1024x128) hz, View.ld_unit_zero (S := S1x1x1024) hz3]
  refine View.canon_append_of_piecesOf (Val := Elt Ideal) (e := .f32) (addDv x0 x1 x3 x5) [_] [_, _, _, _, _, _, _, _, _]
    ⟨?_, ?_, ?_, ?_, ?_, ?_, ?_, ?_, ?_, trivial⟩ _ (View.cover_of_tiledBy (s := S8448x128) _ ![256, 128] (by sl_kernel_rfl) _)
  all_goals
    dsimp only
    refine piece_rows _ _ ?_ _ (addDv x0 x1 x3 x5) ?_
    · decide
    · intro r l
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, addDv, dst, pt, row]
      rfl

/-- Case B: the block of dk. -/
theorem out_B_8 (hc0 : ¬cond0_0 i) (y : S8448x128.Idx) :
    out0_B_8 (F := Ideal) c i arg3 harg3 arg4 harg4 arg5 harg5 arg6 harg6 arg7 harg7 arg8 harg8 arg9 harg9 arg10 harg10 arg11 harg11 arg12 harg12 hc0 x0 x1 x2 x3 x4 x5 x6 xo8 xo9 y
      = xo8 y + addDk x0 x2 x3 x4 x5 x6 y := by
  unfold out0_B_8
  rw [View.read_writes_eq_canon _ _ _ (cover0_B_8 (F := Ideal) c i arg3 harg3 arg4 harg4 arg5 harg5 arg6 harg6 arg7 harg7 arg8 harg8 arg9 harg9 arg10 harg10 arg11 harg11 arg12 harg12 hc0 x0 x1 x2 x3 x4 x5 x6 xo8 xo9)]
  unfold kernelRun0_B
  dsimp only
  sl_unfold_words
  simp (disch := first | rfl | decide) only [View.readAt_eq_ld, harg3.read_unread, harg4.read_unread, harg5.read_unread, harg6.read_unread, harg7.read_unread, harg8.read_unread, harg9.read_unread, harg11.read_unread, harg12.read_unread,
    View.ld_unit_zero (S := S1024x128) hz, View.ld_unit_zero (S := S1x1x1024) hz3]
  refine View.canon_append_of_piecesOf (Val := Elt Ideal) (e := .f32) (fun y => xo8 y + addDk x0 x2 x3 x4 x5 x6 y) [] [_, _, _, _, _, _, _, _, _]
    ⟨?_, ?_, ?_, ?_, ?_, ?_, ?_, ?_, ?_, trivial⟩ _ (View.cover_of_tiledBy (s := S8448x128) _ ![256, 128] (by sl_kernel_rfl) _)
  all_goals
    dsimp only
    refine piece_rows _ _ ?_ _ (fun y => xo8 y + addDk x0 x2 x3 x4 x5 x6 y) ?_
    · decide
    · intro r l
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, addDk, dst, pt, row]
      rfl

/-- Case A: the block of dk. -/
theorem out_A_8 (hc0 : cond0_0 i) (y : S8448x128.Idx) :
    out0_A_8 (F := Ideal) c i arg3 harg3 arg4 harg4 arg5 harg5 arg6 harg6 arg7 harg7 arg8 harg8 arg9 harg9 arg10 harg10 arg11 harg11 arg12 harg12 hc0 x0 x1 x2 x3 x4 x5 x6 y
      = addDk x0 x2 x3 x4 x5 x6 y := by
  unfold out0_A_8
  rw [View.read_writes_eq_canon _ _ _ (cover0_A_8 (F := Ideal) c i arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  simp (disch := first | rfl | decide) only [↓View.readCov_skip, View.readCov_fill, View.readAt_eq_ld, harg3.read_unread, harg4.read_unread, harg5.read_unread, harg6.read_unread, harg7.read_unread, harg8.read_unread, harg9.read_unread,
    View.ld_unit_zero (S := S1024x128) hz, View.ld_unit_zero (S := S1x1x1024) hz3]
  refine View.canon_append_of_piecesOf (Val := Elt Ideal) (e := .f32) (addDk x0 x2 x3 x4 x5 x6) [_] [_, _, _, _, _, _, _, _, _]
    ⟨?_, ?_, ?_, ?_, ?_, ?_, ?_, ?_, ?_, trivial⟩ _ (View.cover_of_tiledBy (s := S8448x128) _ ![256, 128] (by sl_kernel_rfl) _)
  all_goals
    dsimp only
    refine piece_rows _ _ ?_ _ (addDk x0 x2 x3 x4 x5 x6) ?_
    · decide
    · intro r l
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, addDk, dst, pt, row]
      rfl

/-- Case A: the block of dq. -/
theorem out_A_7 (hc0 : cond0_0 i) (n : Fin 1024) (d : Fin 128) :
    out0_A_7 (F := Ideal) c i arg3 harg3 arg4 harg4 arg5 harg5 arg6 harg6 arg7 harg7 arg8 harg8 arg9 harg9 arg10 harg10 arg11 harg11 arg12 harg12 hc0 x0 x1 x2 x3 x4 x5 x6 (ix2 n d)
      = dqC x0 x2 x3 x4 x5 x6 1024 0 (by decide) n d + dqC x0 x2 x3 x4 x5 x6 1024 1024 (by decide) n d + dqC x0 x2 x3 x4 x5 x6 1024 2048 (by decide) n d + dqC x0 x2 x3 x4 x5 x6 1024 3072 (by decide) n d + dqC x0 x2 x3 x4 x5 x6 1024 4096 (by decide) n d + dqC x0 x2 x3 x4 x5 x6 1024 5120 (by decide) n d + dqC x0 x2 x3 x4 x5 x6 1024 6144 (by decide) n d + dqC x0 x2 x3 x4 x5 x6 1024 7168 (by decide) n d + dqC x0 x2 x3 x4 x5 x6 256 8192 (by decide) n d := by
  unfold out0_A_7
  rw [View.read_writes_eq_canon _ _ _ (cover0_A_7 (F := Ideal) c i arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  rw [View.canon_unit_zero hz]
  sl_unfold_words
  simp (disch := first | rfl | decide) only [↓View.readCov_skip, View.readCov_fill, View.readAt_eq_ld, harg3.read_unread, harg4.read_unread, harg5.read_unread, harg6.read_unread, harg7.read_unread, harg8.read_unread, harg9.read_unread,
    View.ld_unit_zero (S := S1024x128) hz, View.ld_unit_zero (S := S1x1x1024) hz3]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, dqC, dst, pt, row]
  rfl

/-- Case B: the block of dq. -/
theorem out_B_7 (hc0 : ¬cond0_0 i) (n : Fin 1024) (d : Fin 128) :
    out0_B_7 (F := Ideal) c i arg3 harg3 arg4 harg4 arg5 harg5 arg6 harg6 arg7 harg7 arg8 harg8 arg9 harg9 arg10 harg10 arg11 harg11 arg12 harg12 hc0 x0 x1 x2 x3 x4 x5 x6 xo8 xo9 (ix2 n d)
      = dqC x0 x2 x3 x4 x5 x6 1024 0 (by decide) n d + dqC x0 x2 x3 x4 x5 x6 1024 1024 (by decide) n d + dqC x0 x2 x3 x4 x5 x6 1024 2048 (by decide) n d + dqC x0 x2 x3 x4 x5 x6 1024 3072 (by decide) n d + dqC x0 x2 x3 x4 x5 x6 1024 4096 (by decide) n d + dqC x0 x2 x3 x4 x5 x6 1024 5120 (by decide) n d + dqC x0 x2 x3 x4 x5 x6 1024 6144 (by decide) n d + dqC x0 x2 x3 x4 x5 x6 1024 7168 (by decide) n d + dqC x0 x2 x3 x4 x5 x6 256 8192 (by decide) n d := by
  unfold out0_B_7
  rw [View.read_writes_eq_canon _ _ _ (cover0_B_7 (F := Ideal) c i arg3 harg3 arg4 harg4 arg5 harg5 arg6 harg6 arg7 harg7 arg8 harg8 arg9 harg9 arg10 harg10 arg11 harg11 arg12 harg12 hc0 x0 x1 x2 x3 x4 x5 x6 xo8 xo9)]
  unfold kernelRun0_B
  dsimp only
  rw [View.canon_unit_zero hz]
  sl_unfold_words
  simp (disch := first | rfl | decide) only [View.readAt_eq_ld, harg3.read_unread, harg4.read_unread, harg5.read_unread, harg6.read_unread, harg7.read_unread, harg8.read_unread, harg9.read_unread, harg11.read_unread, harg12.read_unread,
    View.ld_unit_zero (S := S1024x128) hz, View.ld_unit_zero (S := S1x1x1024) hz3]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, dqC, dst, pt, row]
  rfl

end Cert.KernelIdeal.Blk
-- ==== Proof.Accum.lean ====
module

public import proofs.«01_k».proof.Proof.Block
public import proofs.«01_k».proof.Proof.Gen.KernelIdeal.Value
public import Idealize.ShloMosaic.Lib.Pipeline.ValueKit

/-! The three arrays the kernel leaves, over the arrays it is given. Grid point `t` is head `t / 8` (four query heads to
    a key head) and query block `t % 8`; every point writes its own block of dq, and the 32 points of one key head add up
    its blocks of dk and dv. -/

@[expose] public section

noncomputable section

namespace Cert.KernelIdeal.Acc

open Idealize.ShloMosaic Cert.KernelIdeal Cert.KernelIdeal.Gen Cert.KernelIdeal.Blk Idealize.ShloMosaic.Tactic

variable (m : (ℓ : Loc nD τ sig) → Buf (Elt Ideal) ℓ) (c : Dev nD)

/-- The scaled queries, as the region finds it. -/
abbrev aQ : Vec Ideal S8192x1024 .bf16 := V m c main_v4
/-- The output's gradient, as the region finds it. -/
abbrev aDo : Vec Ideal S8192x1024 .bf16 := V m c main_v58
/-- The scaled output's gradient, as the region finds it. -/
abbrev aDos : Vec Ideal S8192x1024 .bf16 := V m c main_v61
/-- The saved log-sums, as the region finds it. -/
abbrev aLs : Vec Ideal S8x1x8192 .f32 := V m c main_v62
/-- The saved row sums, as the region finds it. -/
abbrev aDl : Vec Ideal S8x1x8192 .f32 := V m c main_v63
/-- The keys, as the region finds it. -/
abbrev aK : Vec Ideal S8448x256 .bf16 := V m c main_v5
/-- The values, each head followed by its lanes of ones, as the region finds it. -/
abbrev aV : Vec Ideal S8448x512 .bf16 := V m c main_v14

/-- The query head of a grid point. -/
def hd (t : Fin cfg0.N) : Fin 8 := ⟨t.val / 8, by have : t.val < 64 := t.isLt; omega⟩
/-- The row of the query array that row `n` of a grid point's block is. -/
def qrow (t : Fin cfg0.N) (n : Fin 1024) : Fin 8192 := ⟨t.val % 8 * 1024 + n.val, by omega⟩
/-- The column of dimension `x` of head `h` in the query array. -/
def col (h : Fin 8) (x : Fin 128) : Fin 1024 := ⟨h.val * 128 + x.val, by omega⟩
/-- The column of dimension `x` of head `h`'s key head in the key array. -/
def kcol (h : Fin 8) (x : Fin 128) : Fin 256 := ⟨h.val / 4 * 128 + x.val, by omega⟩
/-- The column of dimension `x` of head `h`'s key head in the value array (its heads 256 columns apart). -/
def vcol (h : Fin 8) (x : Fin 128) : Fin 512 := ⟨h.val / 4 * 256 + x.val, by omega⟩

/-- Every window's block index at every point, decided over the 64 points. -/
theorem idx (t : Fin cfg0.N) : win0_0.index t = ![t.val % 8, t.val / 8] ∧ win0_1.index t = ![t.val % 8, t.val / 8]
    ∧ win0_2.index t = ![t.val % 8, t.val / 8] ∧ win0_3.index t = ![t.val / 8, 0, t.val % 8]
    ∧ win0_4.index t = ![t.val / 8, 0, t.val % 8] ∧ win0_5.index t = ![0, t.val / 32] ∧ win0_6.index t = ![0, 2 * (t.val / 32)]
    ∧ win0_7.index t = ![t.val % 8, t.val / 8] ∧ win0_8.index t = ![0, t.val / 32] ∧ win0_9.index t = ![0, t.val / 32] := by
  revert t; exact (by decide +kernel : ∀ t : Fin grid0.N, win0_0.index t = ![t.val % 8, t.val / 8] ∧ win0_1.index t = ![t.val % 8, t.val / 8]
    ∧ win0_2.index t = ![t.val % 8, t.val / 8] ∧ win0_3.index t = ![t.val / 8, 0, t.val % 8]
    ∧ win0_4.index t = ![t.val / 8, 0, t.val % 8] ∧ win0_5.index t = ![0, t.val / 32] ∧ win0_6.index t = ![0, 2 * (t.val / 32)]
    ∧ win0_7.index t = ![t.val % 8, t.val / 8] ∧ win0_8.index t = ![0, t.val / 32] ∧ win0_9.index t = ![0, t.val / 32])

theorem blk0 (t : Fin cfg0.N) (n : Fin 1024) (x : Fin 128) :
    iblk m c 0 t (ix2 n x) = aQ m c (ix2 (qrow t n) (col (hd t) x)) := by
  blk_ext [iblk, (idx t).1, qrow, col, hd]
theorem blk1 (t : Fin cfg0.N) (n : Fin 1024) (x : Fin 128) :
    iblk m c 1 t (ix2 n x) = aDo m c (ix2 (qrow t n) (col (hd t) x)) := by
  blk_ext [iblk, (idx t).2.1, qrow, col, hd]
theorem blk2 (t : Fin cfg0.N) (n : Fin 1024) (x : Fin 128) :
    iblk m c 2 t (ix2 n x) = aDos m c (ix2 (qrow t n) (col (hd t) x)) := by
  blk_ext [iblk, (idx t).2.2.1, qrow, col, hd]
theorem blk3 (t : Fin cfg0.N) (n : Fin 1024) :
    iblk m c 3 t (ix3 0 0 n) = aLs m c (ix3 (hd t) 0 (qrow t n)) := by
  blk_ext [iblk, (idx t).2.2.2.1, qrow, hd]
theorem blk4 (t : Fin cfg0.N) (n : Fin 1024) :
    iblk m c 4 t (ix3 0 0 n) = aDl m c (ix3 (hd t) 0 (qrow t n)) := by
  show aDl m c ((win0_4.blk t).view.emb (ix3 0 0 n)) = _
  exact congrArg (aDl m c) (by blk_ext [(idx t).2.2.2.2.1, qrow, hd])
theorem blk5 (t : Fin cfg0.N) (j : Fin 8448) (x : Fin 128) :
    iblk m c 5 t (ix2 j x) = aK m c (ix2 j (kcol (hd t) x)) := by
  blk_ext [iblk, (idx t).2.2.2.2.2.1, kcol, hd]
theorem blk6 (t : Fin cfg0.N) (j : Fin 8448) (x : Fin 128) :
    iblk m c 6 t (ix2 j x) = aV m c (ix2 j (vcol (hd t) x)) := by
  blk_ext [iblk, (idx t).2.2.2.2.2.2.1, vcol, hd]

/-- The probability of key `j` for query `i` of head `h`, as the kernel computes it. -/
def prob (h : Fin 8) (i : Fin 8192) (j : Fin 8448) : EReal :=
  Ideal.exp2 (∑ x : Fin 128, (aK m c (ix2 j (kcol h x)) * aQ m c (ix2 i (col h x))) - aLs m c (ix3 h 0 i))

/-- The score gradient of key `j` for query `i` of head `h`, as the kernel computes it. -/
def dscore (h : Fin 8) (i : Fin 8192) (j : Fin 8448) : EReal :=
  prob m c h i j * (∑ x : Fin 128, (aV m c (ix2 j (vcol h x)) * aDos m c (ix2 i (col h x))) - aDl m c (ix3 h 0 i))

theorem pt_eq (t : Fin cfg0.N) (j : Fin 8448) (n : Fin 1024) :
    pt (iblk m c 0 t) (iblk m c 3 t) (iblk m c 5 t) j n = prob m c (hd t) (qrow t n) j := by
  unfold pt prob
  rw [blk3]
  simp_rw [blk0, blk5]

theorem dst_eq (t : Fin cfg0.N) (j : Fin 8448) (n : Fin 1024) :
    dst (iblk m c 0 t) (iblk m c 2 t) (iblk m c 3 t) (iblk m c 4 t) (iblk m c 5 t) (iblk m c 6 t) j n
      = dscore m c (hd t) (qrow t n) j := by
  unfold dst dscore
  rw [blk4, pt_eq]
  simp_rw [blk2, blk6]

/-- What point `t` adds to dv at key `j`, dimension `d`, over the arrays. -/
def termDv (t : Fin cfg0.N) (j : Fin 8448) (d : Fin 128) : EReal :=
  ∑ n : Fin 1024, prob m c (hd t) (qrow t n) j * aDo m c (ix2 (qrow t n) (col (hd t) d))
/-- What point `t` adds to dk at key `j`, dimension `d`, over the arrays. -/
def termDk (t : Fin cfg0.N) (j : Fin 8448) (d : Fin 128) : EReal :=
  ∑ n : Fin 1024, dscore m c (hd t) (qrow t n) j * aQ m c (ix2 (qrow t n) (col (hd t) d))

theorem addDv_eq (t : Fin cfg0.N) (y : S8448x128.Idx) :
    addDv (iblk m c 0 t) (iblk m c 1 t) (iblk m c 3 t) (iblk m c 5 t) y = termDv m c t (y 0) (y 1) := by
  have h (j : Fin 8448) (d : Fin 128) : ∑ n : Fin 1024, pt (iblk m c 0 t) (iblk m c 3 t) (iblk m c 5 t) j n * iblk m c 1 t (ix2 n d) = termDv m c t j d :=
    Finset.sum_congr rfl fun n _ => by rw [pt_eq, blk1]
  exact h (y 0) (y 1)

theorem addDk_eq (t : Fin cfg0.N) (y : S8448x128.Idx) :
    addDk (iblk m c 0 t) (iblk m c 2 t) (iblk m c 3 t) (iblk m c 4 t) (iblk m c 5 t) (iblk m c 6 t) y = termDk m c t (y 0) (y 1) := by
  have h (j : Fin 8448) (d : Fin 128) : ∑ n : Fin 1024, dst (iblk m c 0 t) (iblk m c 2 t) (iblk m c 3 t) (iblk m c 4 t) (iblk m c 5 t) (iblk m c 6 t) j n * iblk m c 0 t (ix2 n d) = termDk m c t j d :=
    Finset.sum_congr rfl fun n _ => by rw [dst_eq, blk0]
  exact h (y 0) (y 1)

/-- The block of dv at the last point of a key head: the sum over the key head's 32 points. -/
theorem accDv (t : Fin cfg0.N) (ht : t.val % 32 = 31) (y : S8448x128.Idx) :
    (outsAt0 m c t.val t.isLt).2.2 y
      = ∑ s : Fin 32, termDv m c ⟨32 * (t.val / 32) + s.val, by have : t.val < 64 := t.isLt; show _ < 64; omega⟩ (y 0) (y 1) := by
  have h := Pipeline.eq_sum_fin_of_reset_step_apply_of_flush (fun n h => (outsAt0 m c n h).2.2) 32 (fun _ => (0 : EReal)) (fun t y => termDv m c t (y 0) (y 1))
    (fun t h0 y => by
      rw [zero_add, outsAt0_A m c t h0]; dsimp only; rw [out_A_9, addDv_eq])
    (fun t h0 y => by
      rw [outsAt0_B m c t h0]; dsimp only; rw [out_B_9, addDv_eq]) t ht y
  rw [h, zero_add]

/-- The block of dk at the last point of a key head: the sum over the key head's 32 points. -/
theorem accDk (t : Fin cfg0.N) (ht : t.val % 32 = 31) (y : S8448x128.Idx) :
    (outsAt0 m c t.val t.isLt).2.1 y
      = ∑ s : Fin 32, termDk m c ⟨32 * (t.val / 32) + s.val, by have : t.val < 64 := t.isLt; show _ < 64; omega⟩ (y 0) (y 1) := by
  have h := Pipeline.eq_sum_fin_of_reset_step_apply_of_flush (fun n h => (outsAt0 m c n h).2.1) 32 (fun _ => (0 : EReal)) (fun t y => termDk m c t (y 0) (y 1))
    (fun t h0 y => by
      rw [zero_add, outsAt0_A m c t h0]; dsimp only; rw [out_A_8, addDk_eq])
    (fun t h0 y => by
      rw [outsAt0_B m c t h0]; dsimp only; rw [out_B_8, addDk_eq]) t ht y
  rw [h, zero_add]

theorem chunk_eq (t : Fin cfg0.N) (R o : Nat) (h : o + R ≤ 8448) (n : Fin 1024) (d : Fin 128) :
    dqC (iblk m c 0 t) (iblk m c 2 t) (iblk m c 3 t) (iblk m c 4 t) (iblk m c 5 t) (iblk m c 6 t) R o h n d
      = ∑ r : Fin R, dscore m c (hd t) (qrow t n) (row o h r) * aK m c (ix2 (row o h r) (kcol (hd t) d)) := by
  unfold dqC
  exact Finset.sum_congr rfl fun r _ => by rw [dst_eq, blk5]

/-- A sum over the first `o + R` keys is the sum over the first `o` and the sum over the chunk of `R` from `o`. -/
theorem sum_rows {M : Type} [AddCommMonoid M] (f : Fin 8448 → M) (n o R : Nat) (e : o + R = n) (h : n ≤ 8448) :
    ∑ j : Fin n, f ⟨j.val, Nat.lt_of_lt_of_le j.isLt h⟩
      = ∑ j : Fin o, f ⟨j.val, Nat.lt_of_lt_of_le j.isLt (Nat.le_trans (Nat.le_add_right o R) (e ▸ h))⟩ + ∑ r : Fin R, f (row o (e ▸ h) r) := by
  subst e
  exact Fin.sum_univ_add _

/-- The nine chunks of keys are all the keys. -/
theorem sum_chunks {M : Type} [AddCommMonoid M] (f : Fin 8448 → M) :
    ∑ r, f (row (R := 1024) 0 (by decide) r) + ∑ r, f (row (R := 1024) 1024 (by decide) r) + ∑ r, f (row (R := 1024) 2048 (by decide) r)
      + ∑ r, f (row (R := 1024) 3072 (by decide) r) + ∑ r, f (row (R := 1024) 4096 (by decide) r) + ∑ r, f (row (R := 1024) 5120 (by decide) r)
      + ∑ r, f (row (R := 1024) 6144 (by decide) r) + ∑ r, f (row (R := 1024) 7168 (by decide) r) + ∑ r, f (row (R := 256) 8192 (by decide) r)
      = ∑ j, f j := by
  rw [show ∑ j, f j = ∑ j : Fin 8448, f ⟨j.val, Nat.lt_of_lt_of_le j.isLt (Nat.le_refl 8448)⟩ from rfl, sum_rows f 8448 8192 256 rfl (by decide), sum_rows f 8192 7168 1024 rfl (by decide),
    sum_rows f 7168 6144 1024 rfl (by decide), sum_rows f 6144 5120 1024 rfl (by decide), sum_rows f 5120 4096 1024 rfl (by decide),
    sum_rows f 4096 3072 1024 rfl (by decide), sum_rows f 3072 2048 1024 rfl (by decide), sum_rows f 2048 1024 1024 rfl (by decide),
    sum_rows f 1024 0 1024 rfl (by decide), Fin.sum_univ_zero, zero_add]

/-- The block of dq every point writes: its score gradients times the keys, over all the keys. -/
theorem blkDq (t : Fin cfg0.N) (n : Fin 1024) (d : Fin 128) :
    (outsAt0 m c t.val t.isLt).1 (ix2 n d)
      = ∑ j : Fin 8448, dscore m c (hd t) (qrow t n) j * aK m c (ix2 j (kcol (hd t) d)) := by
  rw [← sum_chunks]
  by_cases h0 : t.val % 32 = 0
  · rw [outsAt0_A m c t h0]; dsimp only; rw [out_A_7]; simp only [chunk_eq]
  · rw [outsAt0_B m c t h0]; dsimp only; rw [out_B_7]; simp only [chunk_eq]

/-- The array of dq. -/
def arrDq (y : S8192x1024.Idx) : EReal :=
  ∑ j : Fin 8448, dscore m c ⟨(y 1).val / 128, by have := (y 1).isLt; change _ < 1024 at this; omega⟩ (y 0) j
    * aK m c (ix2 j (kcol ⟨(y 1).val / 128, by have := (y 1).isLt; change _ < 1024 at this; omega⟩ ⟨(y 1).val % 128, by omega⟩))

/-- The last point of a key head. -/
def pnt (h : Fin 2) (s : Fin 32) : Fin cfg0.N := ⟨32 * h.val + s.val, by show _ < 64; omega⟩

/-- The key head of a column of dk and dv. -/
def kh (e : Fin 256) : Fin 2 := ⟨e.val / 128, by omega⟩
/-- The dimension of a column of dk and dv. -/
def dim (e : Fin 256) : Fin 128 := ⟨e.val % 128, by omega⟩

/-- The array of dv. -/
def arrDv (y : S8448x256.Idx) : EReal := ∑ s : Fin 32, termDv m c (pnt (kh (y 1)) s) (y 0) (dim (y 1))
/-- The array of dk. -/
def arrDk (y : S8448x256.Idx) : EReal := ∑ s : Fin 32, termDk m c (pnt (kh (y 1)) s) (y 0) (dim (y 1))

theorem blkDq' (t : Fin cfg0.N) (y : S1024x128.Idx) :
    (outsAt0 m c t.val t.isLt).1 y
      = ∑ j : Fin 8448, dscore m c (hd t) (qrow t (y 0)) j * aK m c (ix2 j (kcol (hd t) (y 1))) :=
  (congrArg _ (by funext a; match a with | 0 => rfl | 1 => rfl)).trans (blkDq m c t (y 0) (y 1))

theorem arrDq_at (z : S8192x1024.Idx) (h : Fin 8) (i : Fin 8192) (d : Fin 128) (e0 : (z 0).val = i.val) (e1 : (z 1).val = h.val * 128 + d.val) :
    arrDq m c z = ∑ j : Fin 8448, dscore m c h i j * aK m c (ix2 j (kcol h d)) := by
  have hh : (⟨(z 1).val / 128, by have := (z 1).isLt; change _ < 1024 at this; omega⟩ : Fin 8) = h := Fin.ext (by show (z 1).val / 128 = _; omega)
  have hd : (⟨(z 1).val % 128, by omega⟩ : Fin 128) = d := Fin.ext (by show (z 1).val % 128 = _; omega)
  have hi : z 0 = i := Fin.ext e0
  unfold arrDq
  rw [hh, hd, hi]

theorem arrDv_at (z : S8448x256.Idx) (h : Fin 2) (j : Fin 8448) (d : Fin 128) (e0 : (z 0).val = j.val) (e1 : (z 1).val = h.val * 128 + d.val) :
    arrDv m c z = ∑ s : Fin 32, termDv m c (pnt h s) j d := by
  have hh : kh (z 1) = h := Fin.ext (by show (z 1).val / 128 = _; omega)
  have hd : dim (z 1) = d := Fin.ext (by show (z 1).val % 128 = _; omega)
  have hi : z 0 = j := Fin.ext e0
  unfold arrDv
  rw [hh, hd, hi]

theorem arrDk_at (z : S8448x256.Idx) (h : Fin 2) (j : Fin 8448) (d : Fin 128) (e0 : (z 0).val = j.val) (e1 : (z 1).val = h.val * 128 + d.val) :
    arrDk m c z = ∑ s : Fin 32, termDk m c (pnt h s) j d := by
  have hh : kh (z 1) = h := Fin.ext (by show (z 1).val / 128 = _; omega)
  have hd : dim (z 1) = d := Fin.ext (by show (z 1).val % 128 = _; omega)
  have hi : z 0 = j := Fin.ext e0
  unfold arrDk
  rw [hh, hd, hi]

theorem out7 : (dats m 0 c).arrAt 7 cfg0.N = arrDq m c := by
  refine (dats m 0 c).arrAt_eq_of_covers 7 _ (by decide +kernel) fun t hf y => ?_
  blk_simp
  rw [after0_7]
  refine (blkDq' m c t y).trans (arrDq_at m c _ _ _ _ ?_ ?_).symm
  · blk_simp [(idx t).2.2.2.2.2.2.2.1]; rfl
  · blk_simp [(idx t).2.2.2.2.2.2.2.1]; rfl

theorem out8 : (dats m 0 c).arrAt 8 cfg0.N = arrDk m c := by
  refine (dats m 0 c).arrAt_eq_of_covers 8 _ (by decide +kernel) fun t hf y => ?_
  blk_simp
  rw [after0_8]
  refine (accDk m c t ((flush0_8 t).mp hf) y).trans (arrDk_at m c _ ⟨t.val / 32, by have : t.val < 64 := t.isLt; omega⟩ _ _ ?_ ?_).symm
  · blk_simp [(idx t).2.2.2.2.2.2.2.2.1]
  · blk_simp [(idx t).2.2.2.2.2.2.2.2.1]

theorem out9 : (dats m 0 c).arrAt 9 cfg0.N = arrDv m c := by
  refine (dats m 0 c).arrAt_eq_of_covers 9 _ (by decide +kernel) fun t hf y => ?_
  blk_simp
  rw [after0_9]
  refine (accDv m c t ((flush0_9 t).mp hf) y).trans (arrDv_at m c _ ⟨t.val / 32, by have : t.val < 64 := t.isLt; omega⟩ _ _ ?_ ?_).symm
  · blk_simp [(idx t).2.2.2.2.2.2.2.2.2]
  · blk_simp [(idx t).2.2.2.2.2.2.2.2.2]

end Cert.KernelIdeal.Acc

end
-- ==== Proof.Softmax.lean ====
module

public import Idealize.ShloMosaic.PureOps.Ideal
public import Mathlib.Analysis.SpecialFunctions.Pow.Real

/-! The mathematics of the attention's gradient, on real numbers: `pr` the probabilities (a softmax along the keys), `dp`
    their gradients, `dl` the row sums of their products, `ds` the score gradients. The lemmas say that what the kernel
    computes (powers of two of scores less a saved log-sum) and what the reference computes (exponentials of scores less
    the row's maximum, over their sum) are these. -/

@[expose] public section

noncomputable section

namespace Cert.Softmax

open Idealize.ShloMosaic

/-- A finite sum of real numbers is the same sum in the extended reals. -/
theorem coe_sum {ι : Type} [Fintype ι] (f : ι → ℝ) : ∑ x, (f x : EReal) = ((∑ x, f x : ℝ) : EReal) := by
  classical
  refine Finset.induction_on (motive := fun s => ∑ x ∈ s, (f x : EReal) = ((∑ x ∈ s, f x : ℝ) : EReal)) Finset.univ rfl ?_
  intro a s ha ih
  rw [Finset.sum_insert ha, Finset.sum_insert ha, ih, EReal.coe_add]

/-- The running maximum of finitely many real numbers, from minus infinity, is a real number. -/
theorem fold_max_real {ι : Type} [Fintype ι] [Nonempty ι] (f : ι → ℝ) :
    ∃ M : ℝ, Finset.fold max (⊥ : EReal) (fun x => (f x : EReal)) Finset.univ = (M : EReal) := by
  classical
  have h : ∀ s : Finset ι, s = ∅ ∨ ∃ M : ℝ, Finset.fold max (⊥ : EReal) (fun x => (f x : EReal)) s = (M : EReal) := by
    intro s
    refine Finset.induction_on s (Or.inl rfl) ?_
    intro a s ha ih
    right
    rw [Finset.fold_insert ha]
    rcases ih with rfl | ⟨M, hM⟩
    · exact ⟨f a, by rw [Finset.fold_empty]; exact max_eq_left bot_le⟩
    · rw [hM]
      rcases le_total (f a) M with h | h
      · exact ⟨M, max_eq_right (EReal.coe_le_coe_iff.mpr h)⟩
      · exact ⟨f a, max_eq_left (EReal.coe_le_coe_iff.mpr h)⟩
  exact (h Finset.univ).resolve_left (Finset.univ_nonempty.ne_empty)

variable {J D : Type} [Fintype J] [Fintype D] [Nonempty J]

/-- The scaled score of one key for one query. -/
def sc (a : ℝ) (Q : D → ℝ) (K : J → D → ℝ) (j : J) : ℝ := (∑ x, K j x * Q x) * a

/-- The probability of one key for one query. -/
def pr (a : ℝ) (Q : D → ℝ) (K : J → D → ℝ) (j : J) : ℝ := Real.exp (sc a Q K j) / ∑ j', Real.exp (sc a Q K j')

/-- The gradient of a probability. -/
def dp (dO : D → ℝ) (V : J → D → ℝ) (j : J) : ℝ := ∑ x, V j x * dO x

/-- The gradient of a score, before its scale. -/
def ds (a : ℝ) (Q dO : D → ℝ) (K V : J → D → ℝ) (j : J) : ℝ :=
  pr a Q K j * (dp dO V j - ∑ j', pr a Q K j' * dp dO V j')

variable (a : ℝ) (Q dO : D → ℝ) (K V : J → D → ℝ)

/-- The softmax with any number taken off the scores. -/
def Z (M : ℝ) : ℝ := ∑ j, Real.exp (sc a Q K j - M)

theorem Z_pos (M : ℝ) : 0 < Z a Q K M := Finset.sum_pos (fun _ _ => Real.exp_pos _) Finset.univ_nonempty

theorem pr_shift (M : ℝ) (j : J) : Real.exp (sc a Q K j - M) * (1 / Z a Q K M) = pr a Q K j := by
  have h : Z a Q K M = (∑ j', Real.exp (sc a Q K j')) * Real.exp (-M) := by
    rw [Z, Finset.sum_mul]
    exact Finset.sum_congr rfl fun x _ => by rw [← Real.exp_add, sub_eq_add_neg]
  rw [h, pr, sub_eq_add_neg, Real.exp_add, mul_one_div, mul_div_mul_right _ _ (Real.exp_pos _).ne']

/-- The kernel's probability: two to the (rescaled) score less the saved log-sum. -/
theorem pr_two (M : ℝ) (j : J) :
    Real.rpow 2 ((∑ x, K j x * (Q x * (a * (1 / Real.log 2)))) - (M + Real.log (Z a Q K M)) * (1 / Real.log 2)) = pr a Q K j := by
  have hl : Real.log 2 ≠ 0 := (Real.log_pos one_lt_two).ne'
  have hs : (∑ x, K j x * (Q x * (a * (1 / Real.log 2)))) = sc a Q K j * (1 / Real.log 2) := by
    rw [sc, Finset.sum_mul, Finset.sum_mul]
    exact Finset.sum_congr rfl fun x _ => by ring
  rw [hs, ← pr_shift a Q K M, ← sub_mul]
  refine (Real.rpow_def_of_pos two_pos _).trans ?_
  rw [mul_comm (Real.log 2), mul_assoc, one_div_mul_cancel hl, mul_one, ← sub_sub, Real.exp_sub,
    Real.exp_log (Z_pos a Q K M), mul_one_div]

/-- The saved row sum, output gradient times output, is the sum of probability times its gradient. -/
theorem delta_eq : ∑ x, dO x * ∑ j, V j x * pr a Q K j = ∑ j, pr a Q K j * dp dO V j := by
  simp only [dp, Finset.mul_sum]
  rw [Finset.sum_comm]
  exact Finset.sum_congr rfl fun j _ => Finset.sum_congr rfl fun x _ => by ring

/-- The kernel's score gradient: scaled by the logarithm of two. -/
theorem ds_two (l : ℝ) (j : J) :
    pr a Q K j * ((∑ x, V j x * (dO x * l)) - (∑ x, dO x * ∑ j', V j' x * pr a Q K j') * l) = ds a Q dO K V j * l := by
  have h : (∑ x, V j x * (dO x * l)) = dp dO V j * l := by
    rw [dp, Finset.sum_mul]
    exact Finset.sum_congr rfl fun x _ => by ring
  rw [h, delta_eq, ds]
  ring

/-- The reference's score gradient: the quotient rule on the exponentials over their sum. -/
theorem ds_quot (M : ℝ) (j : J) :
    (dp dO V j * (1 / Z a Q K M) + -(∑ j', dp dO V j' * (1 * (1 / (Z a Q K M * Z a Q K M))) * Real.exp (sc a Q K j' - M))) * Real.exp (sc a Q K j - M)
      = ds a Q dO K V j := by
  have h : (∑ j', dp dO V j' * (1 * (1 / (Z a Q K M * Z a Q K M))) * Real.exp (sc a Q K j' - M))
      = (∑ j', pr a Q K j' * dp dO V j') * (1 / Z a Q K M) := by
    rw [Finset.sum_mul]
    refine Finset.sum_congr rfl fun j' _ => ?_
    rw [← pr_shift a Q K M j', one_mul, one_div, one_div, mul_inv]
    ring
  rw [h, ds, ← pr_shift a Q K M j]
  ring

end Cert.Softmax

end
-- ==== Proof.Consts.lean ====
module

public import Idealize.ShloMosaic.PureOps.Ideal
public import Mathlib.Analysis.SpecialFunctions.Log.Basic
public import Mathlib.Tactic.NormNum

/-! The float constants of the two programs as numbers. -/

@[expose] public section

noncomputable section

namespace Cert.Consts

open Idealize.ShloMosaic

/-- The scale of the scores: the float nearest one over the square root of 128. -/
def aS : ℝ := 11863283 / 134217728

theorem aS_ne : aS ≠ 0 := by unfold aS; norm_num

theorem scale : Ideal.ofBits .f32 0x3DB504F3#32 = (aS : EReal) := by
  simp [Ideal.ofBits, Ideal.ieee, aS, -EReal.coe_mul]; norm_num

theorem two : Ideal.ofBits .f32 0x40000000#32 = ((2 : ℝ) : EReal) := by
  simp [Ideal.ofBits, Ideal.ieee, -EReal.coe_mul]; norm_num

theorem one : Ideal.ofBits .f32 0x3F800000#32 = ((1 : ℝ) : EReal) := by
  simp [Ideal.ofBits, Ideal.ieee, -EReal.coe_mul]; norm_num

theorem minf : Ideal.ofBits .f32 0xFF800000#32 = (⊥ : EReal) := by
  simp [Ideal.ofBits, Ideal.ieee]

/-- The logarithm of two. -/
theorem logTwo : Ideal.log (Ideal.ofBits .f32 0x40000000#32) = ((Real.log 2 : ℝ) : EReal) := by
  rw [two, Ideal.log_coe, if_neg (by norm_num)]

theorem log_ne : Real.log 2 ≠ 0 := (Real.log_pos one_lt_two).ne'

end Cert.Consts

end
-- ==== Proof.Ref.lean ====
module

public import proofs.«01_k».proof.Proof.Gen.ReferenceIdeal.Run
public import proofs.«01_k».proof.Proof.Gen.ReferenceIdeal.Read
public import Idealize.ShloMosaic.Lib.Pointwise
public import proofs.«01_k».proof.Proof.Softmax
public import proofs.«01_k».proof.Proof.Consts

/-! What the reference computes on real arguments, stage by stage: its scores, exponentials, sums and probabilities are
    the real ones of Softmax.lean, and so are the gradients. -/

@[expose] public section

noncomputable section

namespace Cert.ReferenceIdeal.At

open Idealize.ShloMosaic Cert.ReferenceIdeal Cert.ReferenceIdeal.Read Idealize.ShloMosaic.Tactic Cert.Softmax Cert.Consts

/-- An array of real numbers as an array of extended reals. -/
def cr {s : Shape} (r : s.Idx → ℝ) : Vec Ideal s .f32 := fun i => (r i : EReal)

/-- Query `i` of head `g` of key head `h`. -/
def hQ (r : S8192x1024.Idx → ℝ) (h : Fin 2) (g : Fin 4) (i : Fin 8192) (x : Fin 128) : ℝ := r (ix2 i ⟨h.val * 512 + g.val * 128 + x.val, by omega⟩)
/-- Key (or value) `j` of key head `h`. -/
def hK (r : S8448x256.Idx → ℝ) (h : Fin 2) (j : Fin 8448) (x : Fin 128) : ℝ := r (ix2 j ⟨h.val * 128 + x.val, by omega⟩)

variable (q d : S8192x1024.Idx → ℝ) (k v : S8448x256.Idx → ℝ)

theorem v6_at (h : Fin 2) (g : Fin 4) (i : Fin 8192) (j : Fin 8448) :
    val_main_v6 (F := Ideal) (cr q) (cr k) (ix4 h g i j) = (sc aS (hQ q h g i) (hK k h) j : EReal) := by
  pointwise [val_main_v6, val_main_v5, val_main_v4, val_main_v3, val_main_v1, val_main_v0, val_main_cst]
  rw [scale]
  show (∑ x : Fin 128, (hK k h j x : EReal) * (hQ q h g i x : EReal)) * (aS : EReal) = _
  simp only [← EReal.coe_mul, coe_sum, sc]

theorem v7_real (h : Fin 2) (g : Fin 4) (i : Fin 8192) :
    ∃ M : ℝ, val_main_v7 (F := Ideal) (cr q) (cr k) (ix3 h g i) = (M : EReal) := by
  pointwise [val_main_v7, val_main_cst_0]
  simp only [v6_at, minf]
  exact fold_max_real _

/-- The largest score of a query. -/
def mx (h : Fin 2) (g : Fin 4) (i : Fin 8192) : ℝ := Classical.choose (v7_real q k h g i)

theorem v7_at (h : Fin 2) (g : Fin 4) (i : Fin 8192) :
    val_main_v7 (F := Ideal) (cr q) (cr k) (ix3 h g i) = (mx q k h g i : EReal) := Classical.choose_spec (v7_real q k h g i)

theorem v14_at (h : Fin 2) (g : Fin 4) (i : Fin 8192) :
    val_main_v14 (F := Ideal) (cr q) (cr k) (ix3 h g i) = (mx q k h g i : EReal) := by
  rw [val_main_v14_apply, v7_at, val_main_v13_apply]
  show max (Ideal.ofBits .f32 0xFF800000#32) _ = _
  rw [minf]
  exact max_eq_right bot_le

theorem v25_at (h : Fin 2) (g : Fin 4) (i : Fin 8192) (j : Fin 8448) :
    val_main_v25 (F := Ideal) (cr q) (cr k) (ix4 h g i j) = (mx q k h g i : EReal) := by
  rw [val_main_v25_apply, val_main_v24_apply, ← v14_at]
  exact congrArg _ (by funext a; match a with | 0 => rfl | 1 => rfl | 2 => rfl)

/-- The exponential of a score less the largest. -/
def ex (h : Fin 2) (g : Fin 4) (i : Fin 8192) (j : Fin 8448) : ℝ := Real.exp (sc aS (hQ q h g i) (hK k h) j - mx q k h g i)
/-- Their sum along the keys. -/
def zz (h : Fin 2) (g : Fin 4) (i : Fin 8192) : ℝ := Z aS (hQ q h g i) (hK k h) (mx q k h g i)

theorem zz_ne (h : Fin 2) (g : Fin 4) (i : Fin 8192) : zz q k h g i ≠ 0 := (Z_pos _ _ _ _).ne'

theorem v27_at (h : Fin 2) (g : Fin 4) (i : Fin 8192) (j : Fin 8448) :
    val_main_v27 (F := Ideal) (cr q) (cr k) (ix4 h g i j) = (ex q k h g i j : EReal) := by
  rw [val_main_v27_apply, val_main_v26_apply, v6_at, v25_at]
  show Ideal.exp (((sc aS (hQ q h g i) (hK k h) j : ℝ) : EReal) - ((mx q k h g i : ℝ) : EReal)) = _
  rw [← EReal.coe_sub, Ideal.exp_coe]
  rfl

theorem v28_at (h : Fin 2) (g : Fin 4) (i : Fin 8192) :
    val_main_v28 (F := Ideal) (cr q) (cr k) (ix3 h g i) = (zz q k h g i : EReal) := by
  pointwise [val_main_v28, val_main_cst_8]
  simp only [v27_at, coe_sum]
  rfl

theorem v29_at (h : Fin 2) (g : Fin 4) (i : Fin 8192) (z : S2x4x8192x1.Idx) (e0 : z 0 = h) (e1 : z 1 = g) (e2 : z 2 = i) :
    val_main_v29 (F := Ideal) (cr q) (cr k) z = (zz q k h g i : EReal) := by
  rw [val_main_v29_apply, ← v28_at]
  exact congrArg _ (by funext a; match a with | 0 => exact e0 | 1 => exact e1 | 2 => exact e2)

theorem v31_at (h : Fin 2) (g : Fin 4) (i : Fin 8192) (j : Fin 8448) :
    val_main_v31 (F := Ideal) (cr q) (cr k) (ix4 h g i j) = (pr aS (hQ q h g i) (hK k h) j : EReal) := by
  rw [val_main_v31_apply, val_main_v30_apply, v27_at, v29_at q k h g i _ rfl rfl rfl]
  show Ideal.div _ _ = _
  rw [Ideal.div_coe (zz_ne q k h g i), ← EReal.coe_mul]
  exact congrArg _ (pr_shift _ _ _ _ _)

theorem v43_at (h : Fin 2) (g : Fin 4) (i : Fin 8192) (j : Fin 8448) :
    val_main_v43 (F := Ideal) (cr q) (cr k) (ix4 h g i j) = ((1 * (1 / (zz q k h g i * zz q k h g i)) : ℝ) : EReal) := by
  rw [val_main_v43_apply, val_main_v34_apply, val_main_v33_apply, val_main_v32_apply, v29_at q k h g i _ rfl rfl rfl]
  show Ideal.div (Ideal.ofBits .f32 0x3F800000#32) ((_ : EReal) * _) = _
  rw [one, ← EReal.coe_mul, Ideal.div_coe (mul_ne_zero (zz_ne q k h g i) (zz_ne q k h g i)), ← EReal.coe_mul]

theorem v40_at (h : Fin 2) (g : Fin 4) (i : Fin 8192) (j : Fin 8448) :
    val_main_v40 (F := Ideal) (cr v) (cr d) (ix4 h g i j) = (dp (hQ d h g i) (hK v h) j : EReal) := by
  pointwise [val_main_v40, val_main_v39, val_main_v38, val_main_v2]
  show ∑ x : Fin 128, (hQ d h g i x : EReal) * (hK v h j x : EReal) = _
  simp only [← EReal.coe_mul, coe_sum, dp, mul_comm]

theorem v45_at (h : Fin 2) (g : Fin 4) (i : Fin 8192) (j : Fin 8448) :
    val_main_v45 (F := Ideal) (cr q) (cr k) (cr v) (cr d) (ix4 h g i j)
      = ((dp (hQ d h g i) (hK v h) j * (1 * (1 / (zz q k h g i * zz q k h g i))) * ex q k h g i j : ℝ) : EReal) := by
  rw [val_main_v45_apply, val_main_v44_apply, v40_at, v43_at, v27_at]
  show (_ : EReal) * _ * _ = _
  rw [← EReal.coe_mul, ← EReal.coe_mul]

theorem v46_at (h : Fin 2) (g : Fin 4) (i : Fin 8192) :
    val_main_v46 (F := Ideal) (cr q) (cr k) (cr v) (cr d) (ix3 h g i)
      = ((∑ j, dp (hQ d h g i) (hK v h) j * (1 * (1 / (zz q k h g i * zz q k h g i))) * ex q k h g i j : ℝ) : EReal) := by
  pointwise [val_main_v46, val_main_cst_10]
  simp only [v45_at, coe_sum, one_mul]

theorem v47_at (h : Fin 2) (g : Fin 4) (i : Fin 8192) (z : S2x4x8192x1.Idx) (e0 : z 0 = h) (e1 : z 1 = g) (e2 : z 2 = i) :
    val_main_v47 (F := Ideal) (cr q) (cr k) (cr v) (cr d) z
      = ((∑ j, dp (hQ d h g i) (hK v h) j * (1 * (1 / (zz q k h g i * zz q k h g i))) * ex q k h g i j : ℝ) : EReal) := by
  rw [val_main_v47_apply, ← v46_at]
  have h0 : (z 0).val = h.val := congrArg Fin.val e0
  have h1 : (z 1).val = g.val := congrArg Fin.val e1
  have h2 : (z 2).val = i.val := congrArg Fin.val e2
  have h3 : (z 3).val < 1 := (z 3).isLt
  refine congrArg _ ?_
  funext a
  match a with
  | 0 => exact Fin.ext (by show ((((z 0).val * 4 + (z 1).val) * 8192 + (z 2).val) * 1 + (z 3).val) / 32768 = h.val; omega)
  | 1 => exact Fin.ext (by show ((((z 0).val * 4 + (z 1).val) * 8192 + (z 2).val) * 1 + (z 3).val) / 8192 % 4 = g.val; omega)
  | 2 => exact Fin.ext (by show ((((z 0).val * 4 + (z 1).val) * 8192 + (z 2).val) * 1 + (z 3).val) % 8192 = i.val; omega)

theorem v52_at (h : Fin 2) (g : Fin 4) (i : Fin 8192) (j : Fin 8448) :
    val_main_v52 (F := Ideal) (cr q) (cr k) (cr v) (cr d) (ix4 h g i j)
      = ((-∑ j, dp (hQ d h g i) (hK v h) j * (1 * (1 / (zz q k h g i * zz q k h g i))) * ex q k h g i j : ℝ) : EReal) := by
  rw [val_main_v52_apply, val_main_v51_apply, Fin.sum_univ_one, val_main_v48_apply, v47_at q d k v h g i _ rfl rfl rfl]
  show Ideal.ofBits .f32 0x00000000#32 + -(_ : EReal) = _
  rw [← EReal.coe_neg, show Ideal.ofBits .f32 0x00000000#32 = 0 from Ideal.ofBits_zero .f32, zero_add]

/-- The reference's score gradient, with its scale. -/
theorem v56_at (h : Fin 2) (g : Fin 4) (i : Fin 8192) (j : Fin 8448) :
    val_main_v56 (F := Ideal) (cr q) (cr k) (cr v) (cr d) (ix4 h g i j)
      = ((ds aS (hQ q h g i) (hQ d h g i) (hK k h) (hK v h) j * aS : ℝ) : EReal) := by
  rw [val_main_v56_apply, val_main_v54_apply, val_main_v53_apply, val_main_v50_apply, val_main_v49_apply, v40_at, v52_at, v27_at,
    v29_at q k h g i _ rfl rfl rfl, val_main_v55_apply]
  show ((Ideal.div _ _ + _ : EReal) * _) * Ideal.ofBits .f32 0x3DB504F3#32 = _
  rw [scale, Ideal.div_coe (zz_ne q k h g i), ← EReal.coe_mul, ← EReal.coe_add, ← EReal.coe_mul, ← EReal.coe_mul]
  exact congrArg (fun r : ℝ => ((r * aS : ℝ) : EReal)) (ds_quot _ _ _ _ _ _ _)

/-- The reference's gradient of v. -/
theorem v62_at (h : Fin 2) (j : Fin 8448) (x : Fin 128) :
    val_main_v62 (F := Ideal) (cr q) (cr k) (cr d) (ix2 j ⟨h.val * 128 + x.val, by omega⟩)
      = ((∑ g : Fin 4, ∑ i : Fin 8192, pr aS (hQ q h g i) (hK k h) j * hQ d h g i x : ℝ) : EReal) := by
  pointwise [val_main_v62, val_main_v42, val_main_v41, val_main_v39, val_main_v38]
  simp only [v31_at]
  show ∑ g : Fin 4, ∑ i : Fin 8192, (hQ d h g i x : EReal) * _ = _
  simp only [← EReal.coe_mul, coe_sum, mul_comm]

/-- The reference's gradient of k. -/
theorem v63_at (h : Fin 2) (j : Fin 8448) (x : Fin 128) :
    val_main_v63 (F := Ideal) (cr q) (cr k) (cr v) (cr d) (ix2 j ⟨h.val * 128 + x.val, by omega⟩)
      = ((∑ g : Fin 4, ∑ i : Fin 8192, ds aS (hQ q h g i) (hQ d h g i) (hK k h) (hK v h) j * aS * hQ q h g i x : ℝ) : EReal) := by
  pointwise [val_main_v63, val_main_v61, val_main_v60, val_main_v57, val_main_v0]
  simp only [v56_at]
  rw [Finset.sum_comm]
  show ∑ g : Fin 4, ∑ i : Fin 8192, _ * (hQ q h g i x : EReal) = _
  simp only [← EReal.coe_mul, coe_sum]

/-- The reference's gradient of q. -/
theorem v68_at (h : Fin 2) (g : Fin 4) (i : Fin 8192) (x : Fin 128) :
    val_main_v68 (F := Ideal) (cr q) (cr k) (cr v) (cr d) (ix2 i ⟨h.val * 512 + g.val * 128 + x.val, by omega⟩)
      = ((∑ j : Fin 8448, ds aS (hQ q h g i) (hQ d h g i) (hK k h) (hK v h) j * Real.log 2 * hK k h j x : ℝ) : EReal) := by
  rw [val_main_v68_apply, val_main_v67_apply]
  pointwise [val_main_v64, val_main_v59, val_main_v58, val_main_v57, val_main_v1, val_main_v66, val_main_v65, val_main_cst_13, val_main_cst_14]
  simp only [v56_at]
  rw [logTwo, scale, Ideal.div_coe log_ne, ← EReal.coe_mul, Ideal.div_coe (mul_ne_zero aS_ne (one_div_ne_zero log_ne))]
  show (∑ j : Fin 8448, _ * (hK k h j x : EReal)) * _ = _
  simp only [← EReal.coe_mul, coe_sum, Finset.sum_mul]
  refine congrArg _ (Finset.sum_congr rfl fun j _ => ?_)
  have ha := aS_ne
  have hl := log_ne
  field_simp

/-- The reference's attention output. -/
theorem v37_at (h : Fin 2) (g : Fin 4) (i : Fin 8192) (x : Fin 128) :
    val_main_v37 (F := Ideal) (cr q) (cr k) (cr v) (ix2 i ⟨h.val * 512 + g.val * 128 + x.val, by omega⟩)
      = ((∑ j : Fin 8448, hK v h j x * pr aS (hQ q h g i) (hK k h) j : ℝ) : EReal) := by
  pointwise [val_main_v37, val_main_v36, val_main_v35, val_main_v2]
  simp only [v31_at]
  show ∑ j : Fin 8448, (hK v h j x : EReal) * _ = _
  simp only [← EReal.coe_mul, coe_sum]

end Cert.ReferenceIdeal.At

end
-- ==== Proof.HostIn.lean ====
module

public import proofs.«01_k».proof.Proof.Accum
public import proofs.«01_k».proof.Proof.Ref
public import Idealize.ShloMosaic.Lib.StableHlo.ReadAt

/-! The arrays the host hands to the kernel: the scaled queries, the keys and values, the output's gradient, and the two
    saved rows (the log-sums and the row sums), the latter two by way of the reference's own stages, whose operations they
    repeat. -/

@[expose] public section

noncomputable section

namespace Cert.KernelIdeal.HostIn

open Idealize.ShloMosaic Cert.KernelIdeal Cert.KernelIdeal.Gen Cert.KernelIdeal.Acc Idealize.ShloMosaic.Tactic Cert.Consts Cert.Softmax
open Cert.ReferenceIdeal.Read Cert.ReferenceIdeal.At

variable (m : (ℓ : Loc nD τ sig) → Buf (Elt Ideal) ℓ) (c : Dev nD)

/-- The four arguments. -/
abbrev x0 : Vec Ideal S8192x1024 .f32 := m ((c.tc : Thread nD τ).loc main_arg0)
abbrev x1 : Vec Ideal S8448x256 .f32 := m ((c.tc : Thread nD τ).loc main_arg1)
abbrev x2 : Vec Ideal S8448x256 .f32 := m ((c.tc : Thread nD τ).loc main_arg2)
abbrev x3 : Vec Ideal S8192x1024 .f32 := m ((c.tc : Thread nD τ).loc main_arg3)

theorem q_at (i : Fin 8192) (e : Fin 1024) : aQ m c (ix2 i e) = x0 m c (ix2 i e) * ((aS * (1 / Real.log 2) : ℝ) : EReal) := by
  unfold aQ V
  after_reads_at
  rw [logTwo, scale, Ideal.div_coe log_ne, ← EReal.coe_mul]

theorem do_at (i : Fin 8192) (e : Fin 1024) : aDo m c (ix2 i e) = x3 m c (ix2 i e) := by
  unfold aDo V
  after_reads_at

theorem dos_at (i : Fin 8192) (e : Fin 1024) : aDos m c (ix2 i e) = x3 m c (ix2 i e) * ((Real.log 2 : ℝ) : EReal) := by
  unfold aDos V
  after_reads_at
  rw [logTwo]

theorem k_at (j : Fin 8448) (e : Fin 256) : aK m c (ix2 j e) = x1 m c (ix2 j e) := by
  unfold aK V
  after_reads_at

theorem v_at (j : Fin 8448) (h : Fin 8) (x : Fin 128) : aV m c (ix2 j (vcol h x)) = x2 m c (ix2 j (kcol h x)) := by
  have hc : (vcol h x).val = h.val / 4 * 256 + x.val := rfl
  generalize hg : vcol h x = y at hc ⊢
  unfold aV V
  after_reads_at
  by_cases h4 : h.val < 4
  · have e : h.val / 4 = 0 := by omega
    rw [dif_pos (by omega)]
    after_reads_at
    exact congrArg (x2 m c) (congrArg (ix2 j) (Fin.ext (by show y.val = h.val / 4 * 128 + x.val; omega)))
  · have e : h.val / 4 = 1 := by omega
    rw [dif_neg (by omega), dif_neg (by omega), dif_pos (by omega)]
    after_reads_at
    exact congrArg (x2 m c) (congrArg (ix2 j) (Fin.ext (by show 128 + (y.val - 128 - 128) = h.val / 4 * 128 + x.val; omega)))

/-- The maximum from minus infinity on is the maximum. -/
theorem v14_eq (a : Vec Ideal S8192x1024 .f32) (b : Vec Ideal S8448x256 .f32) : val_main_v14 (F := Ideal) a b = val_main_v7 a b := by
  funext i
  rw [val_main_v14_apply, val_main_v13_apply]
  show max (Ideal.ofBits .f32 0xFF800000#32) _ = _
  rw [minf]
  exact max_eq_right bot_le

/-- The saved log-sums over the reference's stages, and their layout in memory. -/
def lse (a : Vec Ideal S8192x1024 .f32) (b : Vec Ideal S8448x256 .f32) : FVec Ideal S2x4x8192 .f32 :=
  Host.divf (F := Ideal) (addf (F := Ideal) (s := S2x4x8192) (φ := .f32) (val_main_v7 (F := Ideal) a b) (Host.log (F := Ideal) (s := S2x4x8192) (φ := .f32) (val_main_v28 (F := Ideal) a b)))
    (broadcastInDim S2x4x8192 ![] bcast_S_S2x4x8192 (Host.log (F := Ideal) (constant (F := Ideal) S_ .f32 0x40000000#32)))

def lsArr (a : Vec Ideal S8192x1024 .f32) (b : Vec Ideal S8448x256 .f32) : Vec Ideal S8x1x8192 .f32 :=
  shapeCast S8x1x8192 (lse a b) shapeCasts_S2x4x8192_S8x1x8192

theorem ls_eq : aLs m c = lsArr (x0 m c) (x1 m c) := by
  unfold aLs V
  after_reads_simp
  have e := v14_eq (x0 m c) (x1 m c)
  unfold lsArr lse val_main_v28 val_main_v27 val_main_v26 val_main_v25 val_main_v24
  rw [e]
  rfl

/-- The saved row sums over the reference's attention output, in three steps. -/
def prodArr (a d : Vec Ideal S8192x1024 .f32) (b v : Vec Ideal S8448x256 .f32) : FVec Ideal S8192x8x128 .f32 :=
  shapeCast S8192x8x128 (mulf (F := Ideal) (s := S8192x1024) (φ := .f32) d (val_main_v37 (F := Ideal) a b v)) shapeCasts_S8192x1024_S8192x8x128

def rowArr (a d : Vec Ideal S8192x1024 .f32) (b v : Vec Ideal S8448x256 .f32) : FVec Ideal S8192x8 .f32 :=
  Host.reduceAdd (F := Ideal) (prodArr a d b v) (constant (F := Ideal) S_ .f32 0x00000000#32) reducesTo_S8192x8x128_S8192x8_d2 h_S_

def dlArr (a d : Vec Ideal S8192x1024 .f32) (b v : Vec Ideal S8448x256 .f32) : Vec Ideal S8x1x8192 .f32 :=
  shapeCast S8x1x8192 (mulf (F := Ideal) (s := S8x8192) (φ := .f32) (transpose S8x8192 [1, 0] (rowArr a d b v) transposes_S8192x8_S8x8192_1_0)
    (broadcastInDim S8x8192 ![] bcast_S_S8x8192 (Host.log (F := Ideal) (constant (F := Ideal) S_ .f32 0x40000000#32)))) shapeCasts_S8x8192_S8x1x8192

theorem dl_eq : aDl m c = dlArr (x0 m c) (x3 m c) (x1 m c) (x2 m c) := by
  unfold aDl V
  after_reads_simp
  rfl

/-- Reading the saved log-sums' last three operations. -/
theorem lse_read (y w : FVec Ideal S2x4x8192 .f32) (h : Fin 2) (g : Fin 4) (i : Fin 8192) :
    Host.divf (F := Ideal) (addf y (Host.log w))
        (broadcastInDim S2x4x8192 ![] bcast_S_S2x4x8192 (Host.log (F := Ideal) (constant (F := Ideal) S_ .f32 0x40000000#32))) (ix3 h g i)
      = Ideal.div (y (ix3 h g i) + Ideal.log (w (ix3 h g i))) (Ideal.log (Ideal.ofBits .f32 0x40000000#32)) := by
  pointwise []

/-- The same on real numbers. -/
theorem lse_real (a z : ℝ) (hz : 0 < z) :
    Ideal.div ((a : EReal) + Ideal.log (z : EReal)) (Ideal.log (Ideal.ofBits .f32 0x40000000#32)) = (((a + Real.log z) * (1 / Real.log 2) : ℝ) : EReal) := by
  rw [logTwo, Ideal.log_coe, if_neg (not_le.mpr hz), Ideal.div_coe log_ne, ← EReal.coe_add, ← EReal.coe_mul]

/-- The saved log-sum of one row, in base two. -/
theorem lse_at (q : S8192x1024.Idx → ℝ) (k : S8448x256.Idx → ℝ) (h : Fin 2) (g : Fin 4) (i : Fin 8192) :
    lse (cr q) (cr k) (ix3 h g i)
      = (((mx q k h g i + Real.log (Z aS (hQ q h g i) (hK k h) (mx q k h g i))) * (1 / Real.log 2) : ℝ) : EReal) := by
  have hp : 0 < Z aS (hQ q h g i) (hK k h) (mx q k h g i) := Z_pos _ _ _ _
  have e28 : val_main_v28 (F := Ideal) (cr q) (cr k) (ix3 h g i) = ((Z aS (hQ q h g i) (hK k h) (mx q k h g i) : ℝ) : EReal) := v28_at q k h g i
  refine (lse_read _ _ h g i).trans ?_
  refine Eq.trans ?_ (lse_real _ _ hp)
  exact congrArg (fun t => Ideal.div t (Ideal.log (Ideal.ofBits .f32 0x40000000#32))) (congr (congrArg HAdd.hAdd (v7_at q k h g i)) (congrArg Ideal.log e28))

theorem lsArr_at (q : S8192x1024.Idx → ℝ) (k : S8448x256.Idx → ℝ) (z : Fin 8) (h : Fin 2) (g : Fin 4) (i : Fin 8192)
    (e : z.val = h.val * 4 + g.val) :
    lsArr (cr q) (cr k) (ix3 z 0 i)
      = (((mx q k h g i + Real.log (Z aS (hQ q h g i) (hK k h) (mx q k h g i))) * (1 / Real.log 2) : ℝ) : EReal) := by
  rw [← lse_at]
  unfold lsArr
  generalize hl : lse (cr q) (cr k) = y
  pointwise []
  exact congrArg y (by
    congr 1
    · exact Fin.ext (by show z.val / 4 = h.val; omega)
    · exact Fin.ext (by show z.val % 4 = g.val; omega))

/-- The row sum of the output's gradient with the attention's output. -/
theorem rowArr_at (q d : S8192x1024.Idx → ℝ) (k v : S8448x256.Idx → ℝ) (z : Fin 8) (h : Fin 2) (g : Fin 4) (i : Fin 8192)
    (e : z.val = h.val * 4 + g.val) :
    rowArr (cr q) (cr d) (cr k) (cr v) (ix2 i z)
      = ((∑ x, hQ d h g i x * ∑ j, hK v h j x * pr aS (hQ q h g i) (hK k h) j : ℝ) : EReal) := by
  have e37 := v37_at q k v h g i
  unfold rowArr prodArr
  generalize val_main_v37 (F := Ideal) (cr q) (cr k) (cr v) = y at e37 ⊢
  generalize hd : (cr d : FVec Ideal S8192x1024 .f32) = w
  pointwise []
  rw [← coe_sum]
  refine Finset.sum_congr rfl fun x _ => ?_
  have hz : (⟨z.val * 128 + x.val, by omega⟩ : Fin 1024) = ⟨h.val * 512 + g.val * 128 + x.val, by omega⟩ := Fin.ext (by show z.val * 128 + x.val = h.val * 512 + g.val * 128 + x.val; omega)
  rw [EReal.coe_mul, ← e37 x, ← hd, hz]
  rfl

theorem dlArr_at (q d : S8192x1024.Idx → ℝ) (k v : S8448x256.Idx → ℝ) (z : Fin 8) (h : Fin 2) (g : Fin 4) (i : Fin 8192)
    (e : z.val = h.val * 4 + g.val) :
    dlArr (cr q) (cr d) (cr k) (cr v) (ix3 z 0 i)
      = (((∑ x, hQ d h g i x * ∑ j, hK v h j x * pr aS (hQ q h g i) (hK k h) j) * Real.log 2 : ℝ) : EReal) := by
  rw [EReal.coe_mul, ← rowArr_at q d k v z h g i e]
  unfold dlArr
  generalize hl : rowArr _ _ _ _ = y
  pointwise []
  rw [logTwo]

variable {m c}
/-- A query's and a key's column of one head. -/
theorem col_at (r : S8192x1024.Idx → ℝ) (z : Fin 8) (h : Fin 2) (g : Fin 4) (i : Fin 8192) (x : Fin 128) (e : z.val = h.val * 4 + g.val) :
    r (ix2 i (col z x)) = hQ r h g i x :=
  congrArg (fun y => r (ix2 i y)) (Fin.ext (by show z.val * 128 + x.val = h.val * 512 + g.val * 128 + x.val; omega))

theorem kcol_at (r : S8448x256.Idx → ℝ) (z : Fin 8) (h : Fin 2) (g : Fin 4) (j : Fin 8448) (x : Fin 128) (e : z.val = h.val * 4 + g.val) :
    r (ix2 j (kcol z x)) = hK r h j x :=
  congrArg (fun y => r (ix2 j y)) (Fin.ext (by show z.val / 4 * 128 + x.val = h.val * 128 + x.val; omega))

variable {q d : S8192x1024.Idx → ℝ} {k v : S8448x256.Idx → ℝ}

/-- The kernel's weight of a key is the softmax's. -/
theorem prob_at (e0 : x0 m c = cr q) (e1 : x1 m c = cr k) (z : Fin 8) (h : Fin 2) (g : Fin 4) (i : Fin 8192) (j : Fin 8448)
    (e : z.val = h.val * 4 + g.val) :
    prob m c z i j = ((pr aS (hQ q h g i) (hK k h) j : ℝ) : EReal) := by
  unfold prob
  rw [ls_eq, e0, e1, lsArr_at q k z h g i e, ← pr_two aS (hQ q h g i) (hK k h) (mx q k h g i) j]
  have hs : ∀ x : Fin 128, aK m c (ix2 j (kcol z x)) * aQ m c (ix2 i (col z x))
      = ((hK k h j x * (hQ q h g i x * (aS * (1 / Real.log 2))) : ℝ) : EReal) := fun x => by
    rw [k_at, q_at, e0, e1, ← col_at q z h g i x e, ← kcol_at k z h g j x e, EReal.coe_mul, EReal.coe_mul]
    rfl
  simp only [hs, coe_sum]
  rw [← EReal.coe_sub, Ideal.exp2_coe]

/-- The kernel's score gradient is the softmax's, times the logarithm of two. -/
theorem dscore_at (e0 : x0 m c = cr q) (e1 : x1 m c = cr k) (e2 : x2 m c = cr v) (e3 : x3 m c = cr d)
    (z : Fin 8) (h : Fin 2) (g : Fin 4) (i : Fin 8192) (j : Fin 8448) (e : z.val = h.val * 4 + g.val) :
    dscore m c z i j = ((ds aS (hQ q h g i) (hQ d h g i) (hK k h) (hK v h) j * Real.log 2 : ℝ) : EReal) := by
  unfold dscore
  rw [prob_at e0 e1 z h g i j e, dl_eq, e0, e1, e2, e3, dlArr_at q d k v z h g i e, ← ds_two]
  have hs : ∀ x : Fin 128, aV m c (ix2 j (vcol z x)) * aDos m c (ix2 i (col z x))
      = ((hK v h j x * (hQ d h g i x * Real.log 2) : ℝ) : EReal) := fun x => by
    rw [v_at, dos_at, e2, e3, ← col_at d z h g i x e, ← kcol_at v z h g j x e, EReal.coe_mul, EReal.coe_mul]
    rfl
  simp only [hs, coe_sum]
  rw [← EReal.coe_sub, ← EReal.coe_mul]

end Cert.KernelIdeal.HostIn

end
-- ==== Proof.Equation.lean ====
module

public import proofs.«01_k».proof.Pre_finite
public import proofs.«01_k».proof.Proof.HostIn

/-! The kernel's three arrays are the reference's, on arguments that are real numbers. -/

@[expose] public section

noncomputable section

namespace Cert.Equation

open Idealize.ShloMosaic Cert.KernelIdeal Cert.KernelIdeal.Gen Cert.KernelIdeal.Acc Cert.KernelIdeal.HostIn Idealize.ShloMosaic.Tactic Cert.Consts Cert.Softmax
open Cert.ReferenceIdeal.Read Cert.ReferenceIdeal.At

/-- A number whose absolute value is below plus infinity is real. -/
theorem real_of_lt {x : EReal} (h : max x (-x) < ⊤) : ((x.toReal : ℝ) : EReal) = x := by
  refine EReal.coe_toReal ?_ ?_
  · rintro rfl; simp at h
  · rintro rfl; simp at h

/-- An array all of whose elements pass the test is an array of reals. -/
theorem real_arr {s : Shape} (x b : FVec Ideal s .f32) (hb : ∀ i, b i = Ideal.ofBits .f32 0x7F800000#32)
    (h : cmpf (F := Ideal) .olt (Host.absf (F := Ideal) x) b = fun _ => 1#1) : ∃ r : s.Idx → ℝ, x = cr r := by
  refine ⟨fun i => EReal.toReal (x i), funext fun i => (real_of_lt ?_).symm⟩
  have e : Ideal.cmp .olt (max (x i) (-(x i))) (b i) = 1 := congrFun h i
  rw [Ideal.cmp_olt_eq_one, hb] at e
  have hi : Ideal.ofBits .f32 0x7F800000#32 = (⊤ : EReal) := by simp [Ideal.ofBits, Ideal.ieee]
  rw [hi] at e
  exact e

/-- The precondition: the four arguments are arrays of reals. -/
theorem reals [Cert.Pre_finite.Facts] (a d : FVec Ideal S8192x1024 .f32) (b v : FVec Ideal S8448x256 .f32)
    (h : (Cert.Pre_finite.fn (F := Ideal) a b v d).1 = (fun _ => 1#1) ∧ (Cert.Pre_finite.fn (F := Ideal) a b v d).2.1 = (fun _ => 1#1)
      ∧ (Cert.Pre_finite.fn (F := Ideal) a b v d).2.2.1 = (fun _ => 1#1) ∧ (Cert.Pre_finite.fn (F := Ideal) a b v d).2.2.2 = (fun _ => 1#1)) :
    ∃ (q g : S8192x1024.Idx → ℝ) (k u : S8448x256.Idx → ℝ), a = cr q ∧ b = cr k ∧ v = cr u ∧ d = cr g := by
  obtain ⟨q, hq⟩ := real_arr a _ (fun _ => rfl) h.1
  obtain ⟨k, hk⟩ := real_arr b _ (fun _ => rfl) h.2.1
  obtain ⟨u, hu⟩ := real_arr v _ (fun _ => rfl) h.2.2.1
  obtain ⟨g, hg⟩ := real_arr d _ (fun _ => rfl) h.2.2.2
  exact ⟨q, g, k, u, hq, hk, hu, hg⟩

variable {m : (ℓ : Loc nD τ sig) → Buf (Elt Ideal) ℓ} {c : Dev nD}
variable {q d : S8192x1024.Idx → ℝ} {k v : S8448x256.Idx → ℝ}

theorem dq_eq (e0 : x0 m c = cr q) (e1 : x1 m c = cr k) (e2 : x2 m c = cr v) (e3 : x3 m c = cr d) (i : Fin 8192) (y : Fin 1024) :
    arrDq m c (ix2 i y) = val_main_v68 (F := Ideal) (cr q) (cr k) (cr v) (cr d) (ix2 i y) := by
  obtain ⟨h, g, x, hy⟩ : ∃ (h : Fin 2) (g : Fin 4) (x : Fin 128), y.val = h.val * 512 + g.val * 128 + x.val :=
    ⟨⟨y.val / 512, by omega⟩, ⟨y.val % 512 / 128, by omega⟩, ⟨y.val % 128, by omega⟩, by show y.val = y.val / 512 * 512 + y.val % 512 / 128 * 128 + y.val % 128; omega⟩
  have hz : y = ⟨h.val * 512 + g.val * 128 + x.val, by omega⟩ := Fin.ext hy
  have e : (⟨h.val * 4 + g.val, by omega⟩ : Fin 8).val = h.val * 4 + g.val := rfl
  rw [arrDq_at m c (ix2 i y) ⟨h.val * 4 + g.val, by omega⟩ i x rfl (by show y.val = (h.val * 4 + g.val) * 128 + x.val; omega)]
  refine Eq.trans ?_ ((v68_at q d k v h g i x).symm.trans (congrArg (fun y => val_main_v68 (F := Ideal) (cr q) (cr k) (cr v) (cr d) (ix2 i y)) hz.symm))
  have hs : ∀ j : Fin 8448, dscore m c ⟨h.val * 4 + g.val, by omega⟩ i j * aK m c (ix2 j (kcol ⟨h.val * 4 + g.val, by omega⟩ x))
      = ((ds aS (hQ q h g i) (hQ d h g i) (hK k h) (hK v h) j * Real.log 2 * hK k h j x : ℝ) : EReal) := fun j => by
    rw [dscore_at e0 e1 e2 e3 _ h g i j e, k_at, e1, ← kcol_at k _ h g j x e, EReal.coe_mul]
    rfl
  simp only [hs, coe_sum]

theorem dv_eq (e0 : x0 m c = cr q) (e1 : x1 m c = cr k) (e3 : x3 m c = cr d) (j : Fin 8448) (y : Fin 256) :
    arrDv m c (ix2 j y) = val_main_v62 (F := Ideal) (cr q) (cr k) (cr d) (ix2 j y) := by
  obtain ⟨h, x, hy⟩ : ∃ (h : Fin 2) (x : Fin 128), y.val = h.val * 128 + x.val :=
    ⟨⟨y.val / 128, by omega⟩, ⟨y.val % 128, by omega⟩, by show y.val = y.val / 128 * 128 + y.val % 128; omega⟩
  have hz : y = ⟨h.val * 128 + x.val, by omega⟩ := Fin.ext hy
  rw [arrDv_at m c (ix2 j y) h j x rfl hy, hz, v62_at, ← coe_sum]
  simp only [← coe_sum]
  unfold termDv
  refine Fin.sum_points_lanes_congr 8 fun s n ha hl => ?_
  have e : (hd (pnt h s)).val = h.val * 4 + (⟨s.val / 8, ha⟩ : Fin 4).val := by show (32 * h.val + s.val) / 8 = h.val * 4 + s.val / 8; omega
  have hr : qrow (pnt h s) n = ⟨s.val % 8 * 1024 + n.val, hl⟩ := Fin.ext (by show (32 * h.val + s.val) % 8 * 1024 + n.val = s.val % 8 * 1024 + n.val; omega)
  rw [hr, prob_at e0 e1 _ h ⟨s.val / 8, ha⟩ _ j e, do_at, e3, ← col_at d _ h ⟨s.val / 8, ha⟩ _ x e, EReal.coe_mul]
  rfl

theorem dk_eq (e0 : x0 m c = cr q) (e1 : x1 m c = cr k) (e2 : x2 m c = cr v) (e3 : x3 m c = cr d) (j : Fin 8448) (y : Fin 256) :
    arrDk m c (ix2 j y) = val_main_v63 (F := Ideal) (cr q) (cr k) (cr v) (cr d) (ix2 j y) := by
  obtain ⟨h, x, hy⟩ : ∃ (h : Fin 2) (x : Fin 128), y.val = h.val * 128 + x.val :=
    ⟨⟨y.val / 128, by omega⟩, ⟨y.val % 128, by omega⟩, by show y.val = y.val / 128 * 128 + y.val % 128; omega⟩
  have hz : y = ⟨h.val * 128 + x.val, by omega⟩ := Fin.ext hy
  rw [arrDk_at m c (ix2 j y) h j x rfl hy, hz, v63_at, ← coe_sum]
  simp only [← coe_sum]
  unfold termDk
  refine Fin.sum_points_lanes_congr 8 fun s n ha hl => ?_
  have e : (hd (pnt h s)).val = h.val * 4 + (⟨s.val / 8, ha⟩ : Fin 4).val := by show (32 * h.val + s.val) / 8 = h.val * 4 + s.val / 8; omega
  have hr : qrow (pnt h s) n = ⟨s.val % 8 * 1024 + n.val, hl⟩ := Fin.ext (by show (32 * h.val + s.val) % 8 * 1024 + n.val = s.val % 8 * 1024 + n.val; omega)
  rw [hr, dscore_at e0 e1 e2 e3 _ h ⟨s.val / 8, ha⟩ _ j e, q_at, e0]
  have hc : (cr q : Vec Ideal S8192x1024 .f32) (ix2 ⟨s.val % 8 * 1024 + n.val, hl⟩ (col (hd (pnt h s)) x))
      = ((hQ q h ⟨s.val / 8, ha⟩ ⟨s.val % 8 * 1024 + n.val, hl⟩ x : ℝ) : EReal) := congrArg (fun r : ℝ => (r : EReal)) (col_at q _ h ⟨s.val / 8, ha⟩ _ x e)
  rw [hc, ← EReal.coe_mul, ← EReal.coe_mul]
  refine congrArg _ ?_
  have hl2 := log_ne
  field_simp

/-- The three arrays. -/
theorem dq_arr (e0 : x0 m c = cr q) (e1 : x1 m c = cr k) (e2 : x2 m c = cr v) (e3 : x3 m c = cr d) :
    arrDq m c = val_main_v68 (F := Ideal) (cr q) (cr k) (cr v) (cr d) := funext fun z => by
  have h := dq_eq e0 e1 e2 e3 (z 0) (z 1)
  have hz : z = ix2 (z 0) (z 1) := funext fun a => match a with | 0 => rfl | 1 => rfl
  rw [hz]; exact h

theorem dk_arr (e0 : x0 m c = cr q) (e1 : x1 m c = cr k) (e2 : x2 m c = cr v) (e3 : x3 m c = cr d) :
    arrDk m c = val_main_v63 (F := Ideal) (cr q) (cr k) (cr v) (cr d) := funext fun z => by
  have h := dk_eq e0 e1 e2 e3 (z 0) (z 1)
  have hz : z = ix2 (z 0) (z 1) := funext fun a => match a with | 0 => rfl | 1 => rfl
  rw [hz]; exact h

theorem dv_arr (e0 : x0 m c = cr q) (e1 : x1 m c = cr k) (e3 : x3 m c = cr d) :
    arrDv m c = val_main_v62 (F := Ideal) (cr q) (cr k) (cr d) := funext fun z => by
  have h := dv_eq e0 e1 e3 (z 0) (z 1)
  have hz : z = ix2 (z 0) (z 1) := funext fun a => match a with | 0 => rfl | 1 => rfl
  rw [hz]; exact h

end Cert.Equation

end
-- ==== Proof.Products.lean ====
module

public import Idealize.ShloMosaic.Lib.Pipeline.ValueKit
public import Idealize.ShloMosaic.Lib.Pipeline.ReadBack
public import Idealize.ShloMosaic.Lib.Pointwise
public import Idealize.ShloMosaic.Lib.StableHlo.ReadAt

/-! The three products of the step's projections over the extended reals, what a block of a product is, and the sum over
    8192 tokens taken in four runs of 2048. -/

@[expose] public section

noncomputable section

namespace Cert.Products

open Idealize.ShloMosaic Idealize.ShloMosaic.Tactic

theorem hz : (![0, 0] : Fin 2 → Nat) = fun _ => 0 := by decide
theorem hz3 : (![0, 0, 0] : Fin 3 → Nat) = fun _ => 0 := by decide

theorem pair {a b : Nat} (y : (⟨2, ![a, b]⟩ : Shape).Idx) : ∃ (n : Fin a) (x : Fin b), y = ix2 n x :=
  ⟨y 0, y 1, by funext i; match i with | 0 => rfl | 1 => rfl⟩

variable {M N K M' N' : Nat}

/-- Rows times columns. -/
def nn (A : (⟨2, ![M, K]⟩ : Shape).Idx → EReal) (B : (⟨2, ![K, N]⟩ : Shape).Idx → EReal) : (⟨2, ![M, N]⟩ : Shape).Idx → EReal :=
  fun y => ∑ k : Fin K, A (ix2 (y 0) k) * B (ix2 k (y 1))
/-- Rows times rows: the gradient of a product's left operand. -/
def nt (A : (⟨2, ![M, K]⟩ : Shape).Idx → EReal) (B : (⟨2, ![N, K]⟩ : Shape).Idx → EReal) : (⟨2, ![M, N]⟩ : Shape).Idx → EReal :=
  fun y => ∑ k : Fin K, A (ix2 (y 0) k) * B (ix2 (y 1) k)
/-- Columns times columns: the gradient of a product's right operand. -/
def tn (A : (⟨2, ![K, M]⟩ : Shape).Idx → EReal) (B : (⟨2, ![K, N]⟩ : Shape).Idx → EReal) : (⟨2, ![M, N]⟩ : Shape).Idx → EReal :=
  fun y => ∑ k : Fin K, A (ix2 k (y 0)) * B (ix2 k (y 1))

/-- The product of a block of rows and a block of columns is a block of the product. -/
theorem nn_block {A : (⟨2, ![M, K]⟩ : Shape).Idx → EReal} {B : (⟨2, ![K, N]⟩ : Shape).Idx → EReal}
    {a : (⟨2, ![M', K]⟩ : Shape).Idx → EReal} {b : (⟨2, ![K, N']⟩ : Shape).Idx → EReal} {row : Fin M' → Fin M} {col : Fin N' → Fin N}
    (ha : ∀ n k, a (ix2 n k) = A (ix2 (row n) k)) (hb : ∀ k x, b (ix2 k x) = B (ix2 k (col x))) (y : (⟨2, ![M', N']⟩ : Shape).Idx) :
    nn a b y = nn A B (ix2 (row (y 0)) (col (y 1))) :=
  Finset.sum_congr rfl fun k _ => congrArg₂ (fun u v : EReal => u * v) (ha (y 0) k) (hb k (y 1))

theorem nt_block {A : (⟨2, ![M, K]⟩ : Shape).Idx → EReal} {B : (⟨2, ![N, K]⟩ : Shape).Idx → EReal}
    {a : (⟨2, ![M', K]⟩ : Shape).Idx → EReal} {b : (⟨2, ![N', K]⟩ : Shape).Idx → EReal} {row : Fin M' → Fin M} {col : Fin N' → Fin N}
    (ha : ∀ n k, a (ix2 n k) = A (ix2 (row n) k)) (hb : ∀ x k, b (ix2 x k) = B (ix2 (col x) k)) (y : (⟨2, ![M', N']⟩ : Shape).Idx) :
    nt a b y = nt A B (ix2 (row (y 0)) (col (y 1))) :=
  Finset.sum_congr rfl fun k _ => congrArg₂ (fun u v : EReal => u * v) (ha (y 0) k) (hb (y 1) k)

/-- Token `k` of run `s`. -/
def tok (s : Nat) (k : Fin 2048) : Fin 8192 := ⟨s % 4 * 2048 + k.val, by omega⟩

/-- What one run of tokens adds to an entry of a block. -/
theorem tn_run {A : (⟨2, ![8192, M]⟩ : Shape).Idx → EReal} {B : (⟨2, ![8192, N]⟩ : Shape).Idx → EReal}
    {a : (⟨2, ![2048, M']⟩ : Shape).Idx → EReal} {b : (⟨2, ![2048, N']⟩ : Shape).Idx → EReal} {row : Fin M' → Fin M} {col : Fin N' → Fin N} {s : Nat}
    (ha : ∀ k n, a (ix2 k n) = A (ix2 (tok s k) (row n))) (hb : ∀ k x, b (ix2 k x) = B (ix2 (tok s k) (col x))) (y : (⟨2, ![M', N']⟩ : Shape).Idx) :
    tn a b y = ∑ k : Fin 2048, A (ix2 (tok s k) (row (y 0))) * B (ix2 (tok s k) (col (y 1))) :=
  Finset.sum_congr rfl fun k _ => congrArg₂ (fun u v : EReal => u * v) (ha k (y 0)) (hb k (y 1))

/-- A scratch that the first of every four points sets and the others add to holds, after the fourth, the sum over all the
    tokens: of `g p i`, with `p` the four points' place. -/
theorem four_runs {ι : Type} {P : Nat} (f : (n : Nat) → n < P → ι → EReal) (g : Nat → ι → Fin 8192 → EReal)
    (h0 : ∀ t : Fin P, t.val % 4 = 0 → ∀ i, f t.val t.isLt i = ∑ k : Fin 2048, g (t.val / 4) i (tok t.val k))
    (hs : ∀ t : Fin P, ¬t.val % 4 = 0 → ∀ i, f t.val t.isLt i
      = f (t.val - 1) (Nat.lt_of_le_of_lt (Nat.sub_le _ _) t.isLt) i + ∑ k : Fin 2048, g (t.val / 4) i (tok t.val k))
    (t : Fin P) (ht : t.val % 4 = 3) (i : ι) : f t.val t.isLt i = ∑ k : Fin 8192, g (t.val / 4) i k := by
  have h := Pipeline.eq_sum_fin_of_reset_step_apply_of_flush f 4 (fun _ => (0 : EReal)) (fun t i => ∑ k : Fin 2048, g (t.val / 4) i (tok t.val k))
    (fun t h i => (h0 t h i).trans (zero_add _).symm) hs t ht i
  refine h.trans ((zero_add _).trans (Fin.sum_mul_add_congr (S := 4) (n := 2048) (f := g (t.val / 4) i) fun s k _ => ?_))
  have e : (4 * (t.val / 4) + s.val) / 4 = t.val / 4 := by omega
  rw [e]
  exact congrArg _ (Fin.ext (by show (4 * (t.val / 4) + s.val) % 4 * 2048 + k.val = s.val * 2048 + k.val; omega))

end Cert.Products

end
-- ==== Proof.InputGrad.lean ====
module

public import proofs.«01_k».proof.Defs
public import proofs.«01_k».proof.Proof.Products
public import proofs.«01_k».proof.Proof.Gen.InputGrad1Ideal.Value
public import proofs.«01_k».proof.Proof.Gen.InputGrad1RefIdeal.Run
public import proofs.«01_k».proof.Proof.Gen.InputGrad1RefIdeal.Read

/-! The gradient of layer 1's input: grid point `t` writes the block at row block `t % 8` and column block `t / 8`, each
    entry the whole sum over the projection's 6144 outputs, which is the reference's own sum. -/

@[expose] public section

noncomputable section

namespace Cert.InputGrad1Ideal.Claims

open Idealize.ShloMosaic Cert.InputGrad1Ideal Cert.InputGrad1Ideal.Gen Idealize.ShloMosaic.Tactic Idealize.SL.Sem Cert.Products

variable (m : (ℓ : Loc nD τ sig) → Buf (Elt Ideal) ℓ) (c : Dev nD)

/-- The weights and the gradient of the projection's output, as given. -/
abbrev w : Vec Ideal S2048x6144 .f32 := m ((c.tc : Thread nD τ).loc main_arg1)
abbrev dp : Vec Ideal S8192x6144 .f32 := m ((c.tc : Thread nD τ).loc main_arg2)

/-- The row and the column of the result that row `n` and column `x` of a point's block are. -/
def row (t : Fin cfg0.N) (n : Fin 1024) : Fin 8192 := ⟨t.val % 8 * 1024 + n.val, by omega⟩
def col (t : Fin cfg0.N) (x : Fin 512) : Fin 2048 := ⟨t.val / 8 * 512 + x.val, by have : t.val < 32 := t.isLt; omega⟩

theorem idx (t : Fin cfg0.N) : win0_0.index t = ![t.val % 8, 0] ∧ win0_1.index t = ![t.val / 8, 0]
    ∧ win0_2.index t = ![t.val % 8, t.val / 8] := by
  revert t; exact (by decide +kernel : ∀ t : Fin grid0.N, win0_0.index t = ![t.val % 8, 0] ∧ win0_1.index t = ![t.val / 8, 0]
    ∧ win0_2.index t = ![t.val % 8, t.val / 8])

theorem dp_at (i : Fin 8192) (k : Fin 6144) : (V m c main_v0 : Vec Ideal S8192x6144 .bf16) (ix2 i k) = dp m c (ix2 i k) := by
  unfold V; after_reads_at
theorem w_at (j : Fin 2048) (k : Fin 6144) : (V m c main_v1 : Vec Ideal S2048x6144 .bf16) (ix2 j k) = w m c (ix2 j k) := by
  unfold V; after_reads_at

theorem blk0 (t : Fin cfg0.N) (n : Fin 1024) (k : Fin 6144) : iblk m c 0 t (ix2 n k) = dp m c (ix2 (row t n) k) := by
  rw [← dp_at]; blk_ext [iblk, (idx t).1, row]
theorem blk1 (t : Fin cfg0.N) (x : Fin 512) (k : Fin 6144) : iblk m c 1 t (ix2 x k) = w m c (ix2 (col t x) k) := by
  rw [← w_at]; blk_ext [iblk, (idx t).2.1, col]

/-- One block of the product. -/
theorem out_eq (a : Vec Ideal S1024x6144 .bf16) (b : Vec Ideal S512x6144 .bf16) : out0_2 (F := Ideal) a b = nt a b := by
  funext y
  obtain ⟨n, x, rfl⟩ := pair y
  unfold out0_2
  rw [View.canon_unit_zero hz, View.ld_unit_zero (S := S1024x6144) hz, View.ld_unit_zero (S := S512x6144) hz]
  pointwise [k0_pay1]
  rfl

/-- The array the kernel leaves. -/
theorem final : (dats m 0 c).arrAt 2 cfg0.N = nt (dp m c) (w m c) := by
  refine (dats m 0 c).arrAt_eq_of_covers 2 _ (by decide +kernel) fun t hf y => ?_
  blk_simp
  rw [after0_2, out_eq]
  refine (nt_block (blk0 m c t) (blk1 m c t) y).trans (congrArg (nt (dp m c) (w m c)) ?_)
  blk_ext [(idx t).2.2, row, col]

/-- The reference's result is the same sums. -/
theorem ref_eq (a : Vec Ideal S2048x6144 .f32) (b : Vec Ideal S8192x6144 .f32) :
    Cert.InputGrad1RefIdeal.Read.val_main_v1 (F := Ideal) a b = nt b a := by
  funext y
  obtain ⟨n, x, rfl⟩ := pair y
  pointwise [Cert.InputGrad1RefIdeal.Read.val_main_v1]
  rfl

theorem ref_frame : Cert.quiescent_InputGrad1RefIdeal := fun m ρ _ =>
  (θ_run Cert.InputGrad1RefIdeal.defs _ _).mono (fun r h => ⟨fun c => (h c).2, sem_eq_zero_of_no_sems (by decide) r.2⟩)
    (Cert.InputGrad1RefIdeal.Value.run (F := Ideal) m ρ)

theorem value : Cert.algebraic_InputGrad1Ideal_InputGrad1RefIdeal := by
  intro m ρ m' ρ' _ hagree
  refine ⟨fun c => nt (dp m c) (w m c), ?_, ?_⟩
  · exact (θ_run _ _ _).mono (fun r h c => ⟨(h c).1.trans (final m c), (h c).2⟩) (Cert.InputGrad1Ideal.Value.run_blocks (F := Ideal) m ρ)
  · refine (θ_run _ _ _).mono (fun r h c => ⟨(h c).1.trans ?_, (h c).2⟩) (Cert.InputGrad1RefIdeal.Value.run (F := Ideal) m' ρ')
    obtain ⟨_, a1, a2⟩ := hagree c
    rw [Cert.InputGrad1RefIdeal.Read.val_main_v1_eq, a1, a2]
    exact ref_eq _ _

end Cert.InputGrad1Ideal.Claims

end
-- ==== Proof.InputGradEven.lean ====
module

public import proofs.«01_k».proof.Defs
public import proofs.«01_k».proof.Proof.Products
public import proofs.«01_k».proof.Proof.Gen.InputGrad0Ideal.Value
public import proofs.«01_k».proof.Proof.Gen.InputGrad0RefIdeal.Run
public import proofs.«01_k».proof.Proof.Gen.InputGrad0RefIdeal.Read

/-! The gradient of layer 0's input: grid point `t` writes the block at row block `t % 8` and column block `t / 8`, each
    entry the whole sum over the projection's 5632 outputs, which is the reference's own sum. -/

@[expose] public section

noncomputable section

namespace Cert.InputGrad0Ideal.Claims

open Idealize.ShloMosaic Cert.InputGrad0Ideal Cert.InputGrad0Ideal.Gen Idealize.ShloMosaic.Tactic Idealize.SL.Sem Cert.Products

variable (m : (ℓ : Loc nD τ sig) → Buf (Elt Ideal) ℓ) (c : Dev nD)

/-- The weights and the gradient of the projection's output, as given. -/
abbrev w : Vec Ideal S2048x5632 .f32 := m ((c.tc : Thread nD τ).loc main_arg1)
abbrev dp : Vec Ideal S8192x5632 .f32 := m ((c.tc : Thread nD τ).loc main_arg2)

/-- The row and the column of the result that row `n` and column `x` of a point's block are. -/
def row (t : Fin cfg0.N) (n : Fin 1024) : Fin 8192 := ⟨t.val % 8 * 1024 + n.val, by omega⟩
def col (t : Fin cfg0.N) (x : Fin 512) : Fin 2048 := ⟨t.val / 8 * 512 + x.val, by have : t.val < 32 := t.isLt; omega⟩

theorem idx (t : Fin cfg0.N) : win0_0.index t = ![t.val % 8, 0] ∧ win0_1.index t = ![t.val / 8, 0]
    ∧ win0_2.index t = ![t.val % 8, t.val / 8] := by
  revert t; exact (by decide +kernel : ∀ t : Fin grid0.N, win0_0.index t = ![t.val % 8, 0] ∧ win0_1.index t = ![t.val / 8, 0]
    ∧ win0_2.index t = ![t.val % 8, t.val / 8])

theorem dp_at (i : Fin 8192) (k : Fin 5632) : (V m c main_v0 : Vec Ideal S8192x5632 .bf16) (ix2 i k) = dp m c (ix2 i k) := by
  unfold V; after_reads_at
theorem w_at (j : Fin 2048) (k : Fin 5632) : (V m c main_v1 : Vec Ideal S2048x5632 .bf16) (ix2 j k) = w m c (ix2 j k) := by
  unfold V; after_reads_at

theorem blk0 (t : Fin cfg0.N) (n : Fin 1024) (k : Fin 5632) : iblk m c 0 t (ix2 n k) = dp m c (ix2 (row t n) k) := by
  rw [← dp_at]; blk_ext [iblk, (idx t).1, row]
theorem blk1 (t : Fin cfg0.N) (x : Fin 512) (k : Fin 5632) : iblk m c 1 t (ix2 x k) = w m c (ix2 (col t x) k) := by
  rw [← w_at]; blk_ext [iblk, (idx t).2.1, col]

/-- One block of the product. -/
theorem out_eq (a : Vec Ideal S1024x5632 .bf16) (b : Vec Ideal S512x5632 .bf16) : out0_2 (F := Ideal) a b = nt a b := by
  funext y
  obtain ⟨n, x, rfl⟩ := pair y
  unfold out0_2
  rw [View.canon_unit_zero hz, View.ld_unit_zero (S := S1024x5632) hz, View.ld_unit_zero (S := S512x5632) hz]
  pointwise [k0_pay1]
  rfl

/-- The array the kernel leaves. -/
theorem final : (dats m 0 c).arrAt 2 cfg0.N = nt (dp m c) (w m c) := by
  refine (dats m 0 c).arrAt_eq_of_covers 2 _ (by decide +kernel) fun t hf y => ?_
  blk_simp
  rw [after0_2, out_eq]
  refine (nt_block (blk0 m c t) (blk1 m c t) y).trans (congrArg (nt (dp m c) (w m c)) ?_)
  blk_ext [(idx t).2.2, row, col]

/-- The reference's result is the same sums. -/
theorem ref_eq (a : Vec Ideal S2048x5632 .f32) (b : Vec Ideal S8192x5632 .f32) :
    Cert.InputGrad0RefIdeal.Read.val_main_v1 (F := Ideal) a b = nt b a := by
  funext y
  obtain ⟨n, x, rfl⟩ := pair y
  pointwise [Cert.InputGrad0RefIdeal.Read.val_main_v1]
  rfl

theorem ref_frame : Cert.quiescent_InputGrad0RefIdeal := fun m ρ _ =>
  (θ_run Cert.InputGrad0RefIdeal.defs _ _).mono (fun r h => ⟨fun c => (h c).2, sem_eq_zero_of_no_sems (by decide) r.2⟩)
    (Cert.InputGrad0RefIdeal.Value.run (F := Ideal) m ρ)

theorem value : Cert.algebraic_InputGrad0Ideal_InputGrad0RefIdeal := by
  intro m ρ m' ρ' _ hagree
  refine ⟨fun c => nt (dp m c) (w m c), ?_, ?_⟩
  · exact (θ_run _ _ _).mono (fun r h c => ⟨(h c).1.trans (final m c), (h c).2⟩) (Cert.InputGrad0Ideal.Value.run_blocks (F := Ideal) m ρ)
  · refine (θ_run _ _ _).mono (fun r h c => ⟨(h c).1.trans ?_, (h c).2⟩) (Cert.InputGrad0RefIdeal.Value.run (F := Ideal) m' ρ')
    obtain ⟨_, a1, a2⟩ := hagree c
    rw [Cert.InputGrad0RefIdeal.Read.val_main_v1_eq, a1, a2]
    exact ref_eq _ _

end Cert.InputGrad0Ideal.Claims

end
-- ==== Proof.WeightGrad.lean ====
module

public import proofs.«01_k».proof.Defs
public import proofs.«01_k».proof.Proof.Products
public import proofs.«01_k».proof.Proof.Gen.WeightGrad1Ideal.Value
public import proofs.«01_k».proof.Proof.Gen.WeightGrad1RefIdeal.Run
public import proofs.«01_k».proof.Proof.Gen.WeightGrad1RefIdeal.Read

/-! The gradient of layer 1's input weights: the four grid points `4 * d … 4 * d + 3` of one shard `d` of the columns add
    up, in a scratch, the products over four runs of 2048 tokens; the last of them writes the shard. Together the four
    runs are the reference's sum over the 8192 tokens. -/

@[expose] public section

noncomputable section

namespace Cert.WeightGrad1Ideal.Claims

open Idealize.ShloMosaic Cert.WeightGrad1Ideal Cert.WeightGrad1Ideal.Gen Idealize.ShloMosaic.Tactic Idealize.SL.Sem Cert.Products

section
variable (c : Dev nD) (i : grid0.Coords) (arg3 : Memref sig .tc .vmem S2048x2048 .bf16) (harg3 : arg3.IsWhole) (arg4 : Memref sig .tc .vmem S2048x768 .bf16) (harg4 : arg4.IsWhole) (arg5 : Memref sig .tc .vmem S1x2048x768 .bf16) (harg5 : arg5.IsWhole) (arg6 : Memref sig .tc .vmem S2048x768 .f32) (harg6 : arg6.IsWhole)
  (x0 : Vec Ideal S2048x2048 .bf16) (x1 : Vec Ideal S2048x768 .bf16) (a : Vec Ideal S2048x768 .f32)

theorem pay1_at (n : Fin 2048) (x : Fin 768) : k0_pay1 (F := Ideal) x0 x1 (ix2 n x) = tn (K := 2048) x0 x1 (ix2 n x) := by
  pointwise [k0_pay1]
  rfl

/-- The first point of a shard leaves its product in the scratch. -/
theorem first_at (hc0 : cond0_0 i) (hc1 : ¬cond0_1 i) (hc2 : ¬cond0_2 i) (n : Fin 2048) (x : Fin 768) :
    sout0_A_0 (F := Ideal) c i arg3 harg3 arg4 harg4 arg5 harg5 arg6 harg6 hc0 hc1 hc2 x0 x1 (ix2 n x) = tn (K := 2048) x0 x1 (ix2 n x) := by
  unfold sout0_A_0
  rw [View.read_writes_eq_canon _ _ _ (scover0_A_0 (F := Ideal) c i arg3 harg3 arg4 harg4 arg5 harg5 arg6 harg6 hc0 hc1 hc2 x0 x1)]
  unfold kernelRun0_A
  dsimp only
  sl_unfold_words
  simp (disch := first | rfl | decide) only [View.readAt_eq_ld, harg3.read_unread, harg4.read_unread,
    View.ld_unit_zero (S := S2048x2048) hz, View.ld_unit_zero (S := S2048x768) hz]
  rw [View.canon_unit_zero hz]
  pointwise [k0_pay2, pay1_at]

/-- A later point adds its product to the scratch. -/
theorem next_at (hc0 : ¬cond0_0 i) (hc1 : cond0_1 i) (hc2 : ¬cond0_2 i) (n : Fin 2048) (x : Fin 768) :
    sout0_B_0 (F := Ideal) c i arg3 harg3 arg4 harg4 arg5 harg5 arg6 harg6 hc0 hc1 hc2 x0 x1 a (ix2 n x) = a (ix2 n x) + tn (K := 2048) x0 x1 (ix2 n x) := by
  unfold sout0_B_0
  rw [View.read_writes_eq_canon _ _ _ (scover0_B_0 (F := Ideal) c i arg3 harg3 arg4 harg4 arg5 harg5 arg6 harg6 hc0 hc1 hc2 x0 x1 a)]
  unfold kernelRun0_B
  dsimp only
  sl_unfold_words
  simp (disch := first | rfl | decide) only [View.readAt_eq_ld, harg3.read_unread, harg4.read_unread, harg6.read_unread,
    View.ld_unit_zero (S := S2048x2048) hz, View.ld_unit_zero (S := S2048x768) hz]
  rw [View.canon_unit_zero hz]
  pointwise [k0_pay3, pay1_at]

/-- The last point of a shard adds its product and writes the sum. -/
theorem last_at (hc0 : ¬cond0_0 i) (hc1 : cond0_1 i) (hc2 : cond0_2 i) (n : Fin 2048) (x : Fin 768) :
    sout0_C_0 (F := Ideal) c i arg3 harg3 arg4 harg4 arg5 harg5 arg6 harg6 hc0 hc1 hc2 x0 x1 a (ix2 n x) = a (ix2 n x) + tn (K := 2048) x0 x1 (ix2 n x) := by
  unfold sout0_C_0
  rw [View.read_writes_eq_canon _ _ _ (scover0_C_0 (F := Ideal) c i arg3 harg3 arg4 harg4 arg5 harg5 arg6 harg6 hc0 hc1 hc2 x0 x1 a)]
  unfold kernelRun0_C
  dsimp only
  sl_unfold_words
  simp (disch := first | rfl | decide) only [View.readAt_eq_ld, harg3.read_unread, harg4.read_unread, harg6.read_unread,
    View.ld_unit_zero (S := S2048x2048) hz, View.ld_unit_zero (S := S2048x768) hz]
  rw [View.canon_unit_zero hz]
  pointwise [k0_pay3, pay1_at]

theorem out_at (hc0 : ¬cond0_0 i) (hc1 : cond0_1 i) (hc2 : cond0_2 i) (n : Fin 2048) (x : Fin 768) :
    out0_C_2 (F := Ideal) c i arg3 harg3 arg4 harg4 arg5 harg5 arg6 harg6 hc0 hc1 hc2 x0 x1 a (ix3 0 n x) = a (ix2 n x) + tn (K := 2048) x0 x1 (ix2 n x) := by
  unfold out0_C_2
  rw [View.read_writes_eq_canon _ _ _ (cover0_C_2 (F := Ideal) c i arg3 harg3 arg4 harg4 arg5 harg5 arg6 harg6 hc0 hc1 hc2 x0 x1 a)]
  unfold kernelRun0_C
  dsimp only
  sl_unfold_words
  simp (disch := first | rfl | decide) only [View.readCov_fill, View.readAt_eq_ld, harg3.read_unread, harg4.read_unread, harg6.read_unread,
    View.ld_unit_zero (S := S2048x2048) hz, View.ld_unit_zero (S := S2048x768) hz]
  rw [View.canon_unit_zero hz3]
  pointwise [k0_pay4, k0_pay3, pay1_at]
end

variable (m : (ℓ : Loc nD τ sig) → Buf (Elt Ideal) ℓ) (c : Dev nD)

/-- The layer's input and the gradient of the projection's output, as given. -/
abbrev h1 : Vec Ideal S8192x2048 .f32 := m ((c.tc : Thread nD τ).loc main_arg0)
abbrev dp : Vec Ideal S8192x6144 .f32 := m ((c.tc : Thread nD τ).loc main_arg2)

/-- The shard of a point's block, and the column of the projection's output that column `x` of shard `d` is. -/
def shard (s : Nat) : Fin 8 := ⟨s % 8, by omega⟩
def col (d : Fin 8) (x : Fin 768) : Fin 6144 := ⟨d.val * 768 + x.val, by omega⟩

theorem idx (t : Fin cfg0.N) : win0_0.index t = ![t.val % 4, 0] ∧ win0_1.index t = ![t.val % 4, t.val / 4 % 8]
    ∧ win0_2.index t = ![t.val / 4 % 8, 0, 0] := by
  revert t; exact (by decide +kernel : ∀ t : Fin grid0.N, win0_0.index t = ![t.val % 4, 0] ∧ win0_1.index t = ![t.val % 4, t.val / 4 % 8]
    ∧ win0_2.index t = ![t.val / 4 % 8, 0, 0])

theorem h_at (i : Fin 8192) (k : Fin 2048) : (V m c main_v0 : Vec Ideal S8192x2048 .bf16) (ix2 i k) = h1 m c (ix2 i k) := by
  unfold V; after_reads_at
theorem dp_at (i : Fin 8192) (k : Fin 6144) : (V m c main_v1 : Vec Ideal S8192x6144 .bf16) (ix2 i k) = dp m c (ix2 i k) := by
  unfold V; after_reads_at

theorem blk0 (t : Fin cfg0.N) (k n : Fin 2048) : iblk m c 0 t (ix2 k n) = h1 m c (ix2 (tok t.val k) n) := by
  rw [← h_at]; blk_ext [iblk, (idx t).1, tok]
theorem blk1 (t : Fin cfg0.N) (k : Fin 2048) (x : Fin 768) : iblk m c 1 t (ix2 k x) = dp m c (ix2 (tok t.val k) (col (shard (t.val / 4)) x)) := by
  rw [← dp_at]; blk_ext [iblk, (idx t).2.1, tok, col, shard]

/-- What a point adds to the scratch, over the arrays. -/
theorem add_eq (t : Fin cfg0.N) (n : Fin 2048) (x : Fin 768) : tn (K := 2048) (iblk m c 0 t) (iblk m c 1 t) (ix2 n x)
    = ∑ k : Fin 2048, h1 m c (ix2 (tok t.val k) n) * dp m c (ix2 (tok t.val k) (col (shard (t.val / 4)) x)) :=
  tn_run (row := id) (col := col (shard (t.val / 4))) (blk0 m c t) (blk1 m c t) (ix2 n x)

/-- What the scratch holds after the last point of a shard. -/
theorem acc (t : Fin cfg0.N) (ht : t.val % 4 = 3) (n : Fin 2048) (x : Fin 768) :
    (outsAt0 m c t.val t.isLt).2 (ix2 n x) = ∑ k : Fin 8192, h1 m c (ix2 k n) * dp m c (ix2 k (col (shard (t.val / 4)) x)) :=
  four_runs (fun n h (p : Fin 2048 × Fin 768) => (outsAt0 m c n h).2 (ix2 p.1 p.2))
    (fun s p k => h1 m c (ix2 k p.1) * dp m c (ix2 k (col (shard s) p.2)))
    (fun t h0 p => by
      rw [outsAt0_A m c t h0 (by omega) (by omega)]; dsimp only; rw [first_at, add_eq])
    (fun t h0 p => by
      by_cases h2 : t.val % 4 = 3
      · rw [outsAt0_C m c t h0 (by omega) h2]; dsimp only; rw [last_at, add_eq]
      · rw [outsAt0_B m c t h0 (by omega) h2]; dsimp only; rw [next_at, add_eq]) t ht (n, x)

/-- The last point of a shard writes what it leaves in the scratch. -/
theorem out (t : Fin cfg0.N) (ht : t.val % 4 = 3) (n : Fin 2048) (x : Fin 768) :
    (outsAt0 m c t.val t.isLt).1 (ix3 0 n x) = (outsAt0 m c t.val t.isLt).2 (ix2 n x) := by
  rw [outsAt0_C m c t (by omega) (by omega) ht]
  dsimp only
  rw [out_at, last_at]

/-- The product, its columns cut into the eight shards. -/
def arr (a : Vec Ideal S8192x2048 .f32) (b : Vec Ideal S8192x6144 .f32) : S8x2048x768.Idx → EReal :=
  fun y => ∑ k : Fin 8192, a (ix2 k (y 1)) * b (ix2 k (col (y 0) (y 2)))

theorem blk (t : Fin cfg0.N) (ht : t.val % 4 = 3) (y : S1x2048x768.Idx) :
    (outsAt0 m c t.val t.isLt).1 y = arr (h1 m c) (dp m c) (ix3 (shard (t.val / 4)) (y 1) (y 2)) := by
  obtain ⟨n, x, rfl⟩ : ∃ (n : Fin 2048) (x : Fin 768), y = ix3 0 n x :=
    ⟨y 1, y 2, by funext a; match a with | 0 => exact Fin.ext (by have : (y 0).val < 1 := (y 0).isLt; show (y 0).val = 0; omega) | 1 => rfl | 2 => rfl⟩
  exact (out m c t ht n x).trans (acc m c t ht n x)

/-- The array the kernel leaves. -/
theorem final : (dats m 0 c).arrAt 2 cfg0.N = arr (h1 m c) (dp m c) := by
  refine (dats m 0 c).arrAt_eq_of_covers 2 _ (by decide +kernel) fun t hf y => ?_
  blk_simp
  rw [after0_2]
  refine (blk m c t ((flush0_2 t).mp hf) y).trans (congrArg (arr (h1 m c) (dp m c)) ?_)
  blk_ext [(idx t).2.2, shard]

/-- The reference's result is the same sums. -/
theorem ref_eq (a : Vec Ideal S8192x2048 .f32) (b : Vec Ideal S8192x6144 .f32) :
    Cert.WeightGrad1RefIdeal.Read.val_main_v5 (F := Ideal) a b = arr a b := by
  funext y
  obtain ⟨d, n, x, rfl⟩ : ∃ (d : Fin 8) (n : Fin 2048) (x : Fin 768), y = ix3 d n x := ⟨y 0, y 1, y 2, by funext a; match a with | 0 => rfl | 1 => rfl | 2 => rfl⟩
  pointwise [Cert.WeightGrad1RefIdeal.Read.val_main_v5, Cert.WeightGrad1RefIdeal.Read.val_main_v4, Cert.WeightGrad1RefIdeal.Read.val_main_v3, Cert.WeightGrad1RefIdeal.Read.val_main_v2, Cert.WeightGrad1RefIdeal.Read.val_main_v1]
  exact Finset.sum_congr rfl fun k _ => mul_comm _ _

theorem ref_frame : Cert.quiescent_WeightGrad1RefIdeal := fun m ρ _ =>
  (θ_run Cert.WeightGrad1RefIdeal.defs _ _).mono (fun r h => ⟨fun c => (h c).2, sem_eq_zero_of_no_sems (by decide) r.2⟩)
    (Cert.WeightGrad1RefIdeal.Value.run (F := Ideal) m ρ)

theorem value : Cert.algebraic_WeightGrad1Ideal_WeightGrad1RefIdeal := by
  intro m ρ m' ρ' _ hagree
  refine ⟨fun c => arr (h1 m c) (dp m c), ?_, ?_⟩
  · exact (θ_run _ _ _).mono (fun r h c => ⟨(h c).1.trans (final m c), (h c).2⟩) (Cert.WeightGrad1Ideal.Value.run_blocks (F := Ideal) m ρ)
  · refine (θ_run _ _ _).mono (fun r h c => ⟨(h c).1.trans ?_, (h c).2⟩) (Cert.WeightGrad1RefIdeal.Value.run (F := Ideal) m' ρ')
    obtain ⟨a0, _, a2⟩ := hagree c
    rw [Cert.WeightGrad1RefIdeal.Read.val_main_v5_eq, a0, a2]
    exact ref_eq _ _

end Cert.WeightGrad1Ideal.Claims

end
-- ==== Proof.WeightGradEven.lean ====
module

public import proofs.«01_k».proof.Defs
public import proofs.«01_k».proof.Proof.Products
public import proofs.«01_k».proof.Proof.Gen.WeightGrad0Ideal.Value
public import proofs.«01_k».proof.Proof.Gen.WeightGrad0RefIdeal.Run
public import proofs.«01_k».proof.Proof.Gen.WeightGrad0RefIdeal.Read

/-! The gradient of layer 0's input weights: the four grid points that share a block of the result add up, in a scratch, the
    products over four runs of 2048 tokens; the last of them writes the block. Together the four runs are the reference's
    sum over the 8192 tokens. -/

@[expose] public section

noncomputable section

namespace Cert.WeightGrad0Ideal.Claims

open Idealize.ShloMosaic Cert.WeightGrad0Ideal Cert.WeightGrad0Ideal.Gen Idealize.ShloMosaic.Tactic Idealize.SL.Sem Cert.Products

section
variable (c : Dev nD) (i : grid0.Coords) (arg3 : Memref sig .tc .vmem S2048x1024 .bf16) (harg3 : arg3.IsWhole) (arg4 : Memref sig .tc .vmem S2048x1408 .bf16) (harg4 : arg4.IsWhole) (arg5 : Memref sig .tc .vmem S1024x1408 .f32) (harg5 : arg5.IsWhole) (arg6 : Memref sig .tc .vmem S1024x1408 .f32) (harg6 : arg6.IsWhole)
  (x0 : Vec Ideal S2048x1024 .bf16) (x1 : Vec Ideal S2048x1408 .bf16) (a : Vec Ideal S1024x1408 .f32)

theorem pay1_at (n : Fin 1024) (x : Fin 1408) : k0_pay1 (F := Ideal) x0 x1 (ix2 n x) = tn (K := 2048) x0 x1 (ix2 n x) := by
  pointwise [k0_pay1]
  rfl

/-- The first point of a block leaves its product in the scratch. -/
theorem first_at (hc0 : cond0_0 i) (hc1 : ¬cond0_1 i) (hc2 : ¬cond0_2 i) (n : Fin 1024) (x : Fin 1408) :
    sout0_A_0 (F := Ideal) c i arg3 harg3 arg4 harg4 arg5 harg5 arg6 harg6 hc0 hc1 hc2 x0 x1 (ix2 n x) = tn (K := 2048) x0 x1 (ix2 n x) := by
  unfold sout0_A_0
  rw [View.read_writes_eq_canon _ _ _ (scover0_A_0 (F := Ideal) c i arg3 harg3 arg4 harg4 arg5 harg5 arg6 harg6 hc0 hc1 hc2 x0 x1)]
  unfold kernelRun0_A
  dsimp only
  sl_unfold_words
  simp (disch := first | rfl | decide) only [View.readAt_eq_ld, harg3.read_unread, harg4.read_unread,
    View.ld_unit_zero (S := S2048x1024) hz, View.ld_unit_zero (S := S2048x1408) hz]
  rw [View.canon_unit_zero hz]
  pointwise [k0_pay2, pay1_at]

/-- A later point adds its product to the scratch. -/
theorem next_at (hc0 : ¬cond0_0 i) (hc1 : cond0_1 i) (hc2 : ¬cond0_2 i) (n : Fin 1024) (x : Fin 1408) :
    sout0_B_0 (F := Ideal) c i arg3 harg3 arg4 harg4 arg5 harg5 arg6 harg6 hc0 hc1 hc2 x0 x1 a (ix2 n x) = a (ix2 n x) + tn (K := 2048) x0 x1 (ix2 n x) := by
  unfold sout0_B_0
  rw [View.read_writes_eq_canon _ _ _ (scover0_B_0 (F := Ideal) c i arg3 harg3 arg4 harg4 arg5 harg5 arg6 harg6 hc0 hc1 hc2 x0 x1 a)]
  unfold kernelRun0_B
  dsimp only
  sl_unfold_words
  simp (disch := first | rfl | decide) only [View.readAt_eq_ld, harg3.read_unread, harg4.read_unread, harg6.read_unread,
    View.ld_unit_zero (S := S2048x1024) hz, View.ld_unit_zero (S := S2048x1408) hz]
  rw [View.canon_unit_zero hz]
  pointwise [k0_pay3, pay1_at]

/-- The last point of a block adds its product and writes the sum. -/
theorem last_at (hc0 : ¬cond0_0 i) (hc1 : cond0_1 i) (hc2 : cond0_2 i) (n : Fin 1024) (x : Fin 1408) :
    sout0_C_0 (F := Ideal) c i arg3 harg3 arg4 harg4 arg5 harg5 arg6 harg6 hc0 hc1 hc2 x0 x1 a (ix2 n x) = a (ix2 n x) + tn (K := 2048) x0 x1 (ix2 n x) := by
  unfold sout0_C_0
  rw [View.read_writes_eq_canon _ _ _ (scover0_C_0 (F := Ideal) c i arg3 harg3 arg4 harg4 arg5 harg5 arg6 harg6 hc0 hc1 hc2 x0 x1 a)]
  unfold kernelRun0_C
  dsimp only
  sl_unfold_words
  simp (disch := first | rfl | decide) only [View.readAt_eq_ld, harg3.read_unread, harg4.read_unread, harg6.read_unread,
    View.ld_unit_zero (S := S2048x1024) hz, View.ld_unit_zero (S := S2048x1408) hz]
  rw [View.canon_unit_zero hz]
  pointwise [k0_pay3, pay1_at]

theorem out_at (hc0 : ¬cond0_0 i) (hc1 : cond0_1 i) (hc2 : cond0_2 i) (n : Fin 1024) (x : Fin 1408) :
    out0_C_2 (F := Ideal) c i arg3 harg3 arg4 harg4 arg5 harg5 arg6 harg6 hc0 hc1 hc2 x0 x1 a (ix2 n x) = a (ix2 n x) + tn (K := 2048) x0 x1 (ix2 n x) := by
  unfold out0_C_2
  rw [View.read_writes_eq_canon _ _ _ (cover0_C_2 (F := Ideal) c i arg3 harg3 arg4 harg4 arg5 harg5 arg6 harg6 hc0 hc1 hc2 x0 x1 a)]
  unfold kernelRun0_C
  dsimp only
  sl_unfold_words
  simp (disch := first | rfl | decide) only [View.readCov_fill, View.readAt_eq_ld, harg3.read_unread, harg4.read_unread, harg6.read_unread,
    View.ld_unit_zero (S := S2048x1024) hz, View.ld_unit_zero (S := S2048x1408) hz]
  rw [View.canon_unit_zero hz]
  pointwise [k0_pay3, pay1_at]
end

variable (m : (ℓ : Loc nD τ sig) → Buf (Elt Ideal) ℓ) (c : Dev nD)

/-- The layer's input and the gradient of the projection's output, as given. -/
abbrev h1 : Vec Ideal S8192x2048 .f32 := m ((c.tc : Thread nD τ).loc main_arg0)
abbrev dp : Vec Ideal S8192x5632 .f32 := m ((c.tc : Thread nD τ).loc main_arg2)

/-- The columns of the two factors that a point's block starts at, in blocks. -/
def row (s : Nat) (n : Fin 1024) : Fin 2048 := ⟨s % 2 * 1024 + n.val, by omega⟩
def col (s : Nat) (x : Fin 1408) : Fin 5632 := ⟨s / 2 % 4 * 1408 + x.val, by omega⟩

theorem idx (t : Fin cfg0.N) : win0_0.index t = ![t.val % 4, t.val / 4 % 2] ∧ win0_1.index t = ![t.val % 4, t.val / 4 / 2 % 4]
    ∧ win0_2.index t = ![t.val / 4 % 2, t.val / 4 / 2 % 4] := by
  revert t; exact (by decide +kernel : ∀ t : Fin grid0.N, win0_0.index t = ![t.val % 4, t.val / 4 % 2]
    ∧ win0_1.index t = ![t.val % 4, t.val / 4 / 2 % 4] ∧ win0_2.index t = ![t.val / 4 % 2, t.val / 4 / 2 % 4])

theorem h1_at (i : Fin 8192) (k : Fin 2048) : (V m c main_v0 : Vec Ideal S8192x2048 .bf16) (ix2 i k) = h1 m c (ix2 i k) := by
  unfold V; after_reads_at
theorem dp_at (i : Fin 8192) (k : Fin 5632) : (V m c main_v1 : Vec Ideal S8192x5632 .bf16) (ix2 i k) = dp m c (ix2 i k) := by
  unfold V; after_reads_at

theorem blk0 (t : Fin cfg0.N) (k : Fin 2048) (n : Fin 1024) : iblk m c 0 t (ix2 k n) = h1 m c (ix2 (tok t.val k) (row (t.val / 4) n)) := by
  rw [← h1_at]; blk_ext [iblk, (idx t).1, tok, row]
theorem blk1 (t : Fin cfg0.N) (k : Fin 2048) (x : Fin 1408) : iblk m c 1 t (ix2 k x) = dp m c (ix2 (tok t.val k) (col (t.val / 4) x)) := by
  rw [← dp_at]; blk_ext [iblk, (idx t).2.1, tok, col]

/-- What a point adds to the scratch, over the arrays. -/
theorem add_eq (t : Fin cfg0.N) (n : Fin 1024) (x : Fin 1408) : tn (K := 2048) (iblk m c 0 t) (iblk m c 1 t) (ix2 n x)
    = ∑ k : Fin 2048, h1 m c (ix2 (tok t.val k) (row (t.val / 4) n)) * dp m c (ix2 (tok t.val k) (col (t.val / 4) x)) :=
  tn_run (row := row (t.val / 4)) (col := col (t.val / 4)) (blk0 m c t) (blk1 m c t) (ix2 n x)

/-- What the scratch holds after the last point of a block. -/
theorem acc (t : Fin cfg0.N) (ht : t.val % 4 = 3) (n : Fin 1024) (x : Fin 1408) : (outsAt0 m c t.val t.isLt).2 (ix2 n x)
    = ∑ k : Fin 8192, h1 m c (ix2 k (row (t.val / 4) n)) * dp m c (ix2 k (col (t.val / 4) x)) :=
  four_runs (fun n h (p : Fin 1024 × Fin 1408) => (outsAt0 m c n h).2 (ix2 p.1 p.2))
    (fun s p k => h1 m c (ix2 k (row s p.1)) * dp m c (ix2 k (col s p.2)))
    (fun t h0 p => by
      rw [outsAt0_A m c t h0 (by omega) (by omega)]; dsimp only; rw [first_at, add_eq])
    (fun t h0 p => by
      by_cases h2 : t.val % 4 = 3
      · rw [outsAt0_C m c t h0 (by omega) h2]; dsimp only; rw [last_at, add_eq]
      · rw [outsAt0_B m c t h0 (by omega) h2]; dsimp only; rw [next_at, add_eq]) t ht (n, x)

/-- The last point of a block writes what it leaves in the scratch. -/
theorem out (t : Fin cfg0.N) (ht : t.val % 4 = 3) (n : Fin 1024) (x : Fin 1408) :
    (outsAt0 m c t.val t.isLt).1 (ix2 n x) = (outsAt0 m c t.val t.isLt).2 (ix2 n x) := by
  rw [outsAt0_C m c t (by omega) (by omega) ht]
  dsimp only
  rw [out_at, last_at]

theorem blk (t : Fin cfg0.N) (ht : t.val % 4 = 3) (y : S1024x1408.Idx) : (outsAt0 m c t.val t.isLt).1 y
    = tn (h1 m c) (dp m c) (ix2 (row (t.val / 4) (y 0)) (col (t.val / 4) (y 1))) := by
  obtain ⟨n, x, rfl⟩ : ∃ (n : Fin 1024) (x : Fin 1408), y = ix2 n x := ⟨y 0, y 1, by funext a; match a with | 0 => rfl | 1 => rfl⟩
  exact (out m c t ht n x).trans (acc m c t ht n x)

/-- The array the kernel leaves. -/
theorem final : (dats m 0 c).arrAt 2 cfg0.N = tn (h1 m c) (dp m c) := by
  refine (dats m 0 c).arrAt_eq_of_covers 2 _ (by decide +kernel) fun t hf y => ?_
  blk_simp
  rw [after0_2]
  refine (blk m c t ((flush0_2 t).mp hf) y).trans (congrArg (tn (h1 m c) (dp m c)) ?_)
  blk_ext [(idx t).2.2, row, col]

/-- The reference's result is the same sums. -/
theorem ref_eq (a : Vec Ideal S8192x2048 .f32) (b : Vec Ideal S8192x5632 .f32) : Cert.WeightGrad0RefIdeal.Read.val_main_v2 (F := Ideal) a b = tn a b := by
  funext y
  obtain ⟨n, x, rfl⟩ : ∃ (n : Fin 2048) (x : Fin 5632), y = ix2 n x := ⟨y 0, y 1, by funext a; match a with | 0 => rfl | 1 => rfl⟩
  pointwise [Cert.WeightGrad0RefIdeal.Read.val_main_v2, Cert.WeightGrad0RefIdeal.Read.val_main_v1]
  exact Finset.sum_congr rfl fun k _ => mul_comm _ _

theorem ref_frame : Cert.quiescent_WeightGrad0RefIdeal := fun m ρ _ =>
  (θ_run Cert.WeightGrad0RefIdeal.defs _ _).mono (fun r h => ⟨fun c => (h c).2, sem_eq_zero_of_no_sems (by decide) r.2⟩)
    (Cert.WeightGrad0RefIdeal.Value.run (F := Ideal) m ρ)

theorem value : Cert.algebraic_WeightGrad0Ideal_WeightGrad0RefIdeal := by
  intro m ρ m' ρ' _ hagree
  refine ⟨fun c => tn (h1 m c) (dp m c), ?_, ?_⟩
  · exact (θ_run _ _ _).mono (fun r h c => ⟨(h c).1.trans (final m c), (h c).2⟩) (Cert.WeightGrad0Ideal.Value.run_blocks (F := Ideal) m ρ)
  · refine (θ_run _ _ _).mono (fun r h c => ⟨(h c).1.trans ?_, (h c).2⟩) (Cert.WeightGrad0RefIdeal.Value.run (F := Ideal) m' ρ')
    obtain ⟨a0, _, a2⟩ := hagree c
    rw [Cert.WeightGrad0RefIdeal.Read.val_main_v2_eq, a0, a2]
    exact ref_eq _ _

end Cert.WeightGrad0Ideal.Claims

end
-- ==== Proof.MixGrad.lean ====
module

public import proofs.«01_k».proof.Defs
public import proofs.«01_k».proof.Proof.Products
public import proofs.«01_k».proof.Proof.Gen.MixGradIdeal.Value
public import proofs.«01_k».proof.Proof.Gen.MixGradRefIdeal.Run
public import proofs.«01_k».proof.Proof.Gen.MixGradRefIdeal.Read

/-! The gradient of a layer's mixed heads, the input of its output projection: grid point `t` writes the block at row block `t % 8` and column block `t / 8`, each
    entry the whole sum over the 2048 channels, which is the reference's own sum. -/

@[expose] public section

noncomputable section

namespace Cert.MixGradIdeal.Claims

open Idealize.ShloMosaic Cert.MixGradIdeal Cert.MixGradIdeal.Gen Idealize.ShloMosaic.Tactic Idealize.SL.Sem Cert.Products

variable (m : (ℓ : Loc nD τ sig) → Buf (Elt Ideal) ℓ) (c : Dev nD)

/-- The weights and the gradient of the projection's output, as given. -/
abbrev w : Vec Ideal S2048x2048 .f32 := m ((c.tc : Thread nD τ).loc main_arg1)
abbrev dr : Vec Ideal S8192x2048 .f32 := m ((c.tc : Thread nD τ).loc main_arg2)

/-- The row and the column of the result that row `n` and column `x` of a point's block are. -/
def row (t : Fin cfg0.N) (n : Fin 1024) : Fin 8192 := ⟨t.val % 8 * 1024 + n.val, by omega⟩
def col (t : Fin cfg0.N) (x : Fin 1024) : Fin 2048 := ⟨t.val / 8 * 1024 + x.val, by have : t.val < 16 := t.isLt; omega⟩

theorem idx (t : Fin cfg0.N) : win0_0.index t = ![t.val % 8, 0] ∧ win0_1.index t = ![t.val / 8, 0]
    ∧ win0_2.index t = ![t.val % 8, t.val / 8] := by
  revert t; exact (by decide +kernel : ∀ t : Fin grid0.N, win0_0.index t = ![t.val % 8, 0] ∧ win0_1.index t = ![t.val / 8, 0]
    ∧ win0_2.index t = ![t.val % 8, t.val / 8])

theorem dr_at (i : Fin 8192) (k : Fin 2048) : (V m c main_v0 : Vec Ideal S8192x2048 .bf16) (ix2 i k) = dr m c (ix2 i k) := by
  unfold V; after_reads_at
theorem w_at (j : Fin 2048) (k : Fin 2048) : (V m c main_v1 : Vec Ideal S2048x2048 .bf16) (ix2 j k) = w m c (ix2 j k) := by
  unfold V; after_reads_at

theorem blk0 (t : Fin cfg0.N) (n : Fin 1024) (k : Fin 2048) : iblk m c 0 t (ix2 n k) = dr m c (ix2 (row t n) k) := by
  rw [← dr_at]; blk_ext [iblk, (idx t).1, row]
theorem blk1 (t : Fin cfg0.N) (x : Fin 1024) (k : Fin 2048) : iblk m c 1 t (ix2 x k) = w m c (ix2 (col t x) k) := by
  rw [← w_at]; blk_ext [iblk, (idx t).2.1, col]

/-- One block of the product. -/
theorem out_eq (a : Vec Ideal S1024x2048 .bf16) (b : Vec Ideal S1024x2048 .bf16) : out0_2 (F := Ideal) a b = nt a b := by
  funext y
  obtain ⟨n, x, rfl⟩ := pair y
  unfold out0_2
  rw [View.canon_unit_zero hz, View.ld_unit_zero (S := S1024x2048) hz, View.ld_unit_zero (S := S1024x2048) hz]
  pointwise [k0_pay1]
  rfl

/-- The array the kernel leaves. -/
theorem final : (dats m 0 c).arrAt 2 cfg0.N = nt (dr m c) (w m c) := by
  refine (dats m 0 c).arrAt_eq_of_covers 2 _ (by decide +kernel) fun t hf y => ?_
  blk_simp
  rw [after0_2, out_eq]
  refine (nt_block (blk0 m c t) (blk1 m c t) y).trans (congrArg (nt (dr m c) (w m c)) ?_)
  blk_ext [(idx t).2.2, row, col]

/-- The reference's result is the same sums. -/
theorem ref_eq (a : Vec Ideal S2048x2048 .f32) (b : Vec Ideal S8192x2048 .f32) :
    Cert.MixGradRefIdeal.Read.val_main_v1 (F := Ideal) a b = nt b a := by
  funext y
  obtain ⟨n, x, rfl⟩ := pair y
  pointwise [Cert.MixGradRefIdeal.Read.val_main_v1]
  rfl

theorem ref_frame : Cert.quiescent_MixGradRefIdeal := fun m ρ _ =>
  (θ_run Cert.MixGradRefIdeal.defs _ _).mono (fun r h => ⟨fun c => (h c).2, sem_eq_zero_of_no_sems (by decide) r.2⟩)
    (Cert.MixGradRefIdeal.Value.run (F := Ideal) m ρ)

theorem value : Cert.algebraic_MixGradIdeal_MixGradRefIdeal := by
  intro m ρ m' ρ' _ hagree
  refine ⟨fun c => nt (dr m c) (w m c), ?_, ?_⟩
  · exact (θ_run _ _ _).mono (fun r h c => ⟨(h c).1.trans (final m c), (h c).2⟩) (Cert.MixGradIdeal.Value.run_blocks (F := Ideal) m ρ)
  · refine (θ_run _ _ _).mono (fun r h c => ⟨(h c).1.trans ?_, (h c).2⟩) (Cert.MixGradRefIdeal.Value.run (F := Ideal) m' ρ')
    obtain ⟨_, a1, a2⟩ := hagree c
    rw [Cert.MixGradRefIdeal.Read.val_main_v1_eq, a1, a2]
    exact ref_eq _ _

end Cert.MixGradIdeal.Claims

end
-- ==== Proof.OutGrad.lean ====
module

public import proofs.«01_k».proof.Defs
public import proofs.«01_k».proof.Proof.Products
public import proofs.«01_k».proof.Proof.Gen.OutGradIdeal.Value
public import proofs.«01_k».proof.Proof.Gen.OutGradRefIdeal.Run
public import proofs.«01_k».proof.Proof.Gen.OutGradRefIdeal.Read

/-! The gradient of the output weights: the four grid points that share a block of the result add up, in a scratch, the
    products over four runs of 2048 tokens; the last of them writes the block, rounded. Together the four runs are the
    reference's sum over the 8192 tokens. -/

@[expose] public section

noncomputable section

namespace Cert.OutGradIdeal.Claims

open Idealize.ShloMosaic Cert.OutGradIdeal Cert.OutGradIdeal.Gen Idealize.ShloMosaic.Tactic Idealize.SL.Sem Cert.Products

section
variable (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole)
  (x0 : Vec Ideal S2048x1024 .bf16) (x1 : Vec Ideal S2048x1024 .bf16) (a : Vec Ideal S1024x1024 .f32)

theorem pay1_at (n : Fin 1024) (x : Fin 1024) : k0_pay1 (F := Ideal) x0 x1 (ix2 n x) = tn (K := 2048) x0 x1 (ix2 n x) := by
  pointwise [k0_pay1]
  rfl

/-- The first point of a block leaves its product in the scratch. -/
theorem first_at (hc0 : cond0_0 i) (hc1 : ¬cond0_1 i) (hc2 : ¬cond0_2 i) (n : Fin 1024) (x : Fin 1024) :
    sout0_A_0 (F := Ideal) c i arg3 harg3 arg4 harg4 arg5 harg5 arg6 harg6 hc0 hc1 hc2 x0 x1 (ix2 n x) = tn (K := 2048) x0 x1 (ix2 n x) := by
  unfold sout0_A_0
  rw [View.read_writes_eq_canon _ _ _ (scover0_A_0 (F := Ideal) c i arg3 harg3 arg4 harg4 arg5 harg5 arg6 harg6 hc0 hc1 hc2 x0 x1)]
  unfold kernelRun0_A
  dsimp only
  sl_unfold_words
  simp (disch := first | rfl | decide) only [View.readAt_eq_ld, harg3.read_unread, harg4.read_unread,
    View.ld_unit_zero (S := S2048x1024) hz, View.ld_unit_zero (S := S2048x1024) hz]
  rw [View.canon_unit_zero hz]
  pointwise [k0_pay2, pay1_at]

/-- A later point adds its product to the scratch. -/
theorem next_at (hc0 : ¬cond0_0 i) (hc1 : cond0_1 i) (hc2 : ¬cond0_2 i) (n : Fin 1024) (x : Fin 1024) :
    sout0_B_0 (F := Ideal) c i arg3 harg3 arg4 harg4 arg5 harg5 arg6 harg6 hc0 hc1 hc2 x0 x1 a (ix2 n x) = a (ix2 n x) + tn (K := 2048) x0 x1 (ix2 n x) := by
  unfold sout0_B_0
  rw [View.read_writes_eq_canon _ _ _ (scover0_B_0 (F := Ideal) c i arg3 harg3 arg4 harg4 arg5 harg5 arg6 harg6 hc0 hc1 hc2 x0 x1 a)]
  unfold kernelRun0_B
  dsimp only
  sl_unfold_words
  simp (disch := first | rfl | decide) only [View.readAt_eq_ld, harg3.read_unread, harg4.read_unread, harg6.read_unread,
    View.ld_unit_zero (S := S2048x1024) hz, View.ld_unit_zero (S := S2048x1024) hz]
  rw [View.canon_unit_zero hz]
  pointwise [k0_pay3, pay1_at]

/-- The last point of a block adds its product and writes the sum. -/
theorem last_at (hc0 : ¬cond0_0 i) (hc1 : cond0_1 i) (hc2 : cond0_2 i) (n : Fin 1024) (x : Fin 1024) :
    sout0_C_0 (F := Ideal) c i arg3 harg3 arg4 harg4 arg5 harg5 arg6 harg6 hc0 hc1 hc2 x0 x1 a (ix2 n x) = a (ix2 n x) + tn (K := 2048) x0 x1 (ix2 n x) := by
  unfold sout0_C_0
  rw [View.read_writes_eq_canon _ _ _ (scover0_C_0 (F := Ideal) c i arg3 harg3 arg4 harg4 arg5 harg5 arg6 harg6 hc0 hc1 hc2 x0 x1 a)]
  unfold kernelRun0_C
  dsimp only
  sl_unfold_words
  simp (disch := first | rfl | decide) only [View.readAt_eq_ld, harg3.read_unread, harg4.read_unread, harg6.read_unread,
    View.ld_unit_zero (S := S2048x1024) hz, View.ld_unit_zero (S := S2048x1024) hz]
  rw [View.canon_unit_zero hz]
  pointwise [k0_pay3, pay1_at]

theorem out_at (hc0 : ¬cond0_0 i) (hc1 : cond0_1 i) (hc2 : cond0_2 i) (n : Fin 1024) (x : Fin 1024) :
    out0_C_2 (F := Ideal) c i arg3 harg3 arg4 harg4 arg5 harg5 arg6 harg6 hc0 hc1 hc2 x0 x1 a (ix2 n x) = a (ix2 n x) + tn (K := 2048) x0 x1 (ix2 n x) := by
  unfold out0_C_2
  rw [View.read_writes_eq_canon _ _ _ (cover0_C_2 (F := Ideal) c i arg3 harg3 arg4 harg4 arg5 harg5 arg6 harg6 hc0 hc1 hc2 x0 x1 a)]
  unfold kernelRun0_C
  dsimp only
  sl_unfold_words
  simp (disch := first | rfl | decide) only [View.readCov_fill, View.readAt_eq_ld, harg3.read_unread, harg4.read_unread, harg6.read_unread,
    View.ld_unit_zero (S := S2048x1024) hz, View.ld_unit_zero (S := S2048x1024) hz]
  rw [View.canon_unit_zero hz]
  pointwise [k0_pay4, k0_pay3, pay1_at]
end

variable (m : (ℓ : Loc nD τ sig) → Buf (Elt Ideal) ℓ) (c : Dev nD)

/-- The mixed values and the gradient of the residual stream, as given. -/
abbrev mix : Vec Ideal S8192x2048 .f32 := m ((c.tc : Thread nD τ).loc main_arg0)
abbrev dr : Vec Ideal S8192x2048 .f32 := m ((c.tc : Thread nD τ).loc main_arg2)

/-- The columns of the two factors that a point's block starts at, in blocks. -/
def row (s : Nat) (n : Fin 1024) : Fin 2048 := ⟨s % 2 * 1024 + n.val, by omega⟩
def col (s : Nat) (x : Fin 1024) : Fin 2048 := ⟨s / 2 % 2 * 1024 + x.val, by omega⟩

theorem idx (t : Fin cfg0.N) : win0_0.index t = ![t.val % 4, t.val / 4 % 2] ∧ win0_1.index t = ![t.val % 4, t.val / 4 / 2 % 2]
    ∧ win0_2.index t = ![t.val / 4 % 2, t.val / 4 / 2 % 2] := by
  revert t; exact (by decide +kernel : ∀ t : Fin grid0.N, win0_0.index t = ![t.val % 4, t.val / 4 % 2]
    ∧ win0_1.index t = ![t.val % 4, t.val / 4 / 2 % 2] ∧ win0_2.index t = ![t.val / 4 % 2, t.val / 4 / 2 % 2])

theorem mix_at (i : Fin 8192) (k : Fin 2048) : (V m c main_v0 : Vec Ideal S8192x2048 .bf16) (ix2 i k) = mix m c (ix2 i k) := by
  unfold V; after_reads_at
theorem dr_at (i : Fin 8192) (k : Fin 2048) : (V m c main_v1 : Vec Ideal S8192x2048 .bf16) (ix2 i k) = dr m c (ix2 i k) := by
  unfold V; after_reads_at

theorem blk0 (t : Fin cfg0.N) (k : Fin 2048) (n : Fin 1024) : iblk m c 0 t (ix2 k n) = mix m c (ix2 (tok t.val k) (row (t.val / 4) n)) := by
  rw [← mix_at]; blk_ext [iblk, (idx t).1, tok, row]
theorem blk1 (t : Fin cfg0.N) (k : Fin 2048) (x : Fin 1024) : iblk m c 1 t (ix2 k x) = dr m c (ix2 (tok t.val k) (col (t.val / 4) x)) := by
  rw [← dr_at]; blk_ext [iblk, (idx t).2.1, tok, col]

/-- What a point adds to the scratch, over the arrays. -/
theorem add_eq (t : Fin cfg0.N) (n : Fin 1024) (x : Fin 1024) : tn (K := 2048) (iblk m c 0 t) (iblk m c 1 t) (ix2 n x)
    = ∑ k : Fin 2048, mix m c (ix2 (tok t.val k) (row (t.val / 4) n)) * dr m c (ix2 (tok t.val k) (col (t.val / 4) x)) :=
  tn_run (row := row (t.val / 4)) (col := col (t.val / 4)) (blk0 m c t) (blk1 m c t) (ix2 n x)

/-- What the scratch holds after the last point of a block. -/
theorem acc (t : Fin cfg0.N) (ht : t.val % 4 = 3) (n : Fin 1024) (x : Fin 1024) : (outsAt0 m c t.val t.isLt).2 (ix2 n x)
    = ∑ k : Fin 8192, mix m c (ix2 k (row (t.val / 4) n)) * dr m c (ix2 k (col (t.val / 4) x)) :=
  four_runs (fun n h (p : Fin 1024 × Fin 1024) => (outsAt0 m c n h).2 (ix2 p.1 p.2))
    (fun s p k => mix m c (ix2 k (row s p.1)) * dr m c (ix2 k (col s p.2)))
    (fun t h0 p => by
      rw [outsAt0_A m c t h0 (by omega) (by omega)]; dsimp only; rw [first_at, add_eq])
    (fun t h0 p => by
      by_cases h2 : t.val % 4 = 3
      · rw [outsAt0_C m c t h0 (by omega) h2]; dsimp only; rw [last_at, add_eq]
      · rw [outsAt0_B m c t h0 (by omega) h2]; dsimp only; rw [next_at, add_eq]) t ht (n, x)

/-- The last point of a block writes what it leaves in the scratch. -/
theorem out (t : Fin cfg0.N) (ht : t.val % 4 = 3) (n : Fin 1024) (x : Fin 1024) :
    (outsAt0 m c t.val t.isLt).1 (ix2 n x) = (outsAt0 m c t.val t.isLt).2 (ix2 n x) := by
  rw [outsAt0_C m c t (by omega) (by omega) ht]
  dsimp only
  rw [out_at, last_at]

theorem blk (t : Fin cfg0.N) (ht : t.val % 4 = 3) (y : S1024x1024.Idx) : (outsAt0 m c t.val t.isLt).1 y
    = tn (mix m c) (dr m c) (ix2 (row (t.val / 4) (y 0)) (col (t.val / 4) (y 1))) := by
  obtain ⟨n, x, rfl⟩ : ∃ (n : Fin 1024) (x : Fin 1024), y = ix2 n x := ⟨y 0, y 1, by funext a; match a with | 0 => rfl | 1 => rfl⟩
  exact (out m c t ht n x).trans (acc m c t ht n x)

/-- The array the kernel leaves. -/
theorem final : (dats m 0 c).arrAt 2 cfg0.N = tn (mix m c) (dr m c) := by
  refine (dats m 0 c).arrAt_eq_of_covers 2 _ (by decide +kernel) fun t hf y => ?_
  blk_simp
  rw [after0_2]
  refine (blk m c t ((flush0_2 t).mp hf) y).trans (congrArg (tn (mix m c) (dr m c)) ?_)
  blk_ext [(idx t).2.2, row, col]

/-- The reference's result is the same sums. -/
theorem ref_eq (a : Vec Ideal S8192x2048 .f32) (b : Vec Ideal S8192x2048 .f32) : Cert.OutGradRefIdeal.Read.val_main_v3 (F := Ideal) a b = tn a b := by
  funext y
  obtain ⟨n, x, rfl⟩ : ∃ (n : Fin 2048) (x : Fin 2048), y = ix2 n x := ⟨y 0, y 1, by funext a; match a with | 0 => rfl | 1 => rfl⟩
  pointwise [Cert.OutGradRefIdeal.Read.val_main_v3, Cert.OutGradRefIdeal.Read.val_main_v2, Cert.OutGradRefIdeal.Read.val_main_v1]
  exact Finset.sum_congr rfl fun k _ => mul_comm _ _

theorem ref_frame : Cert.quiescent_OutGradRefIdeal := fun m ρ _ =>
  (θ_run Cert.OutGradRefIdeal.defs _ _).mono (fun r h => ⟨fun c => (h c).2, sem_eq_zero_of_no_sems (by decide) r.2⟩)
    (Cert.OutGradRefIdeal.Value.run (F := Ideal) m ρ)

theorem value : Cert.algebraic_OutGradIdeal_OutGradRefIdeal := by
  intro m ρ m' ρ' _ hagree
  refine ⟨fun c => tn (mix m c) (dr m c), ?_, ?_⟩
  · exact (θ_run _ _ _).mono (fun r h c => ⟨(h c).1.trans (final m c), (h c).2⟩) (Cert.OutGradIdeal.Value.run_blocks (F := Ideal) m ρ)
  · refine (θ_run _ _ _).mono (fun r h c => ⟨(h c).1.trans ?_, (h c).2⟩) (Cert.OutGradRefIdeal.Value.run (F := Ideal) m' ρ')
    obtain ⟨a0, _, a2⟩ := hagree c
    rw [Cert.OutGradRefIdeal.Read.val_main_v3_eq, a0, a2]
    exact ref_eq _ _

end Cert.OutGradIdeal.Claims

end
-- ==== Proof.InProj.lean ====
module

public import proofs.«01_k».proof.Defs
public import proofs.«01_k».proof.Proof.Products
public import proofs.«01_k».proof.Proof.Gen.InProj1Ideal.Value
public import proofs.«01_k».proof.Proof.Gen.InProj1RefIdeal.Run
public import proofs.«01_k».proof.Proof.Gen.InProj1RefIdeal.Read

/-! Layer 1's input projection: grid point `t` writes the block at row block `t % 8` and column block `t / 8`, each entry
    the whole sum over the 2048 channels, which is the reference's own sum. -/

@[expose] public section

noncomputable section

namespace Cert.InProj1Ideal.Claims

open Idealize.ShloMosaic Cert.InProj1Ideal Cert.InProj1Ideal.Gen Idealize.ShloMosaic.Tactic Idealize.SL.Sem Cert.Products

variable (m : (ℓ : Loc nD τ sig) → Buf (Elt Ideal) ℓ) (c : Dev nD)

/-- The layer's input and the weights, as given. -/
abbrev h : Vec Ideal S8192x2048 .f32 := m ((c.tc : Thread nD τ).loc main_arg0)
abbrev w : Vec Ideal S2048x6144 .f32 := m ((c.tc : Thread nD τ).loc main_arg1)

/-- The row and the column of the result that row `n` and column `x` of a point's block are. -/
def row (t : Fin cfg0.N) (n : Fin 1024) : Fin 8192 := ⟨t.val % 8 * 1024 + n.val, by omega⟩
def col (t : Fin cfg0.N) (x : Fin 1536) : Fin 6144 := ⟨t.val / 8 * 1536 + x.val, by have : t.val < 32 := t.isLt; omega⟩

theorem idx (t : Fin cfg0.N) : win0_0.index t = ![t.val % 8, 0] ∧ win0_1.index t = ![0, t.val / 8]
    ∧ win0_2.index t = ![t.val % 8, t.val / 8] := by
  revert t; exact (by decide +kernel : ∀ t : Fin grid0.N, win0_0.index t = ![t.val % 8, 0] ∧ win0_1.index t = ![0, t.val / 8]
    ∧ win0_2.index t = ![t.val % 8, t.val / 8])

theorem h_at (i : Fin 8192) (k : Fin 2048) : (V m c main_v0 : Vec Ideal S8192x2048 .bf16) (ix2 i k) = h m c (ix2 i k) := by
  unfold V; after_reads_at
theorem w_at (k : Fin 2048) (j : Fin 6144) : (V m c main_v1 : Vec Ideal S2048x6144 .bf16) (ix2 k j) = w m c (ix2 k j) := by
  unfold V; after_reads_at

theorem blk0 (t : Fin cfg0.N) (n : Fin 1024) (k : Fin 2048) : iblk m c 0 t (ix2 n k) = h m c (ix2 (row t n) k) := by
  rw [← h_at]; blk_ext [iblk, (idx t).1, row]
theorem blk1 (t : Fin cfg0.N) (k : Fin 2048) (x : Fin 1536) : iblk m c 1 t (ix2 k x) = w m c (ix2 k (col t x)) := by
  rw [← w_at]; blk_ext [iblk, (idx t).2.1, col]

/-- One block of the product. -/
theorem out_eq (a : Vec Ideal S1024x2048 .bf16) (b : Vec Ideal S2048x1536 .bf16) : out0_2 (F := Ideal) a b = nn a b := by
  funext y
  obtain ⟨n, x, rfl⟩ := pair y
  unfold out0_2
  rw [View.canon_unit_zero hz, View.ld_unit_zero (S := S1024x2048) hz, View.ld_unit_zero (S := S2048x1536) hz]
  pointwise [k0_pay1]
  rfl

/-- The array the kernel leaves. -/
theorem final : (dats m 0 c).arrAt 2 cfg0.N = nn (h m c) (w m c) := by
  refine (dats m 0 c).arrAt_eq_of_covers 2 _ (by decide +kernel) fun t hf y => ?_
  blk_simp
  rw [after0_2, out_eq]
  refine (nn_block (blk0 m c t) (blk1 m c t) y).trans (congrArg (nn (h m c) (w m c)) ?_)
  blk_ext [(idx t).2.2, row, col]

/-- The reference's result is the same sums. -/
theorem ref_eq (a : Vec Ideal S8192x2048 .f32) (b : Vec Ideal S2048x6144 .f32) :
    Cert.InProj1RefIdeal.Read.val_main_v0 (F := Ideal) a b = nn a b := by
  funext y
  obtain ⟨n, x, rfl⟩ := pair y
  pointwise [Cert.InProj1RefIdeal.Read.val_main_v0]
  rfl

theorem ref_frame : Cert.quiescent_InProj1RefIdeal := fun m ρ _ =>
  (θ_run Cert.InProj1RefIdeal.defs _ _).mono (fun r h => ⟨fun c => (h c).2, sem_eq_zero_of_no_sems (by decide) r.2⟩)
    (Cert.InProj1RefIdeal.Value.run (F := Ideal) m ρ)

theorem value : Cert.algebraic_InProj1Ideal_InProj1RefIdeal := by
  intro m ρ m' ρ' _ hagree
  refine ⟨fun c => nn (h m c) (w m c), ?_, ?_⟩
  · exact (θ_run _ _ _).mono (fun r hr c => ⟨(hr c).1.trans (final m c), (hr c).2⟩) (Cert.InProj1Ideal.Value.run_blocks (F := Ideal) m ρ)
  · refine (θ_run _ _ _).mono (fun r hr c => ⟨(hr c).1.trans ?_, (hr c).2⟩) (Cert.InProj1RefIdeal.Value.run (F := Ideal) m' ρ')
    obtain ⟨a0, a1⟩ := hagree c
    rw [Cert.InProj1RefIdeal.Read.val_main_v0_eq, a0, a1]
    exact ref_eq _ _

end Cert.InProj1Ideal.Claims

end
-- ==== Proof.InProjEven.lean ====
module

public import proofs.«01_k».proof.Defs
public import proofs.«01_k».proof.Proof.Products
public import proofs.«01_k».proof.Proof.Gen.InProj0Ideal.Value
public import proofs.«01_k».proof.Proof.Gen.InProj0RefIdeal.Run
public import proofs.«01_k».proof.Proof.Gen.InProj0RefIdeal.Read

/-! Layer 0's input projection: grid point `t` writes the block at row block `t % 8` and column block `t / 8`, each entry
    the whole sum over the 2048 channels, which is the reference's own sum. -/

@[expose] public section

noncomputable section

namespace Cert.InProj0Ideal.Claims

open Idealize.ShloMosaic Cert.InProj0Ideal Cert.InProj0Ideal.Gen Idealize.ShloMosaic.Tactic Idealize.SL.Sem Cert.Products

variable (m : (ℓ : Loc nD τ sig) → Buf (Elt Ideal) ℓ) (c : Dev nD)

/-- The layer's input and the weights, as given. -/
abbrev h : Vec Ideal S8192x2048 .f32 := m ((c.tc : Thread nD τ).loc main_arg0)
abbrev w : Vec Ideal S2048x5632 .f32 := m ((c.tc : Thread nD τ).loc main_arg1)

/-- The row and the column of the result that row `n` and column `x` of a point's block are. -/
def row (t : Fin cfg0.N) (n : Fin 1024) : Fin 8192 := ⟨t.val % 8 * 1024 + n.val, by omega⟩
def col (t : Fin cfg0.N) (x : Fin 1408) : Fin 5632 := ⟨t.val / 8 * 1408 + x.val, by have : t.val < 32 := t.isLt; omega⟩

theorem idx (t : Fin cfg0.N) : win0_0.index t = ![t.val % 8, 0] ∧ win0_1.index t = ![0, t.val / 8]
    ∧ win0_2.index t = ![t.val % 8, t.val / 8] := by
  revert t; exact (by decide +kernel : ∀ t : Fin grid0.N, win0_0.index t = ![t.val % 8, 0] ∧ win0_1.index t = ![0, t.val / 8]
    ∧ win0_2.index t = ![t.val % 8, t.val / 8])

theorem h_at (i : Fin 8192) (k : Fin 2048) : (V m c main_v0 : Vec Ideal S8192x2048 .bf16) (ix2 i k) = h m c (ix2 i k) := by
  unfold V; after_reads_at
theorem w_at (k : Fin 2048) (j : Fin 5632) : (V m c main_v1 : Vec Ideal S2048x5632 .bf16) (ix2 k j) = w m c (ix2 k j) := by
  unfold V; after_reads_at

theorem blk0 (t : Fin cfg0.N) (n : Fin 1024) (k : Fin 2048) : iblk m c 0 t (ix2 n k) = h m c (ix2 (row t n) k) := by
  rw [← h_at]; blk_ext [iblk, (idx t).1, row]
theorem blk1 (t : Fin cfg0.N) (k : Fin 2048) (x : Fin 1408) : iblk m c 1 t (ix2 k x) = w m c (ix2 k (col t x)) := by
  rw [← w_at]; blk_ext [iblk, (idx t).2.1, col]

/-- One block of the product. -/
theorem out_eq (a : Vec Ideal S1024x2048 .bf16) (b : Vec Ideal S2048x1408 .bf16) : out0_2 (F := Ideal) a b = nn a b := by
  funext y
  obtain ⟨n, x, rfl⟩ := pair y
  unfold out0_2
  rw [View.canon_unit_zero hz, View.ld_unit_zero (S := S1024x2048) hz, View.ld_unit_zero (S := S2048x1408) hz]
  pointwise [k0_pay1]
  rfl

/-- The array the kernel leaves. -/
theorem final : (dats m 0 c).arrAt 2 cfg0.N = nn (h m c) (w m c) := by
  refine (dats m 0 c).arrAt_eq_of_covers 2 _ (by decide +kernel) fun t hf y => ?_
  blk_simp
  rw [after0_2, out_eq]
  refine (nn_block (blk0 m c t) (blk1 m c t) y).trans (congrArg (nn (h m c) (w m c)) ?_)
  blk_ext [(idx t).2.2, row, col]

/-- The reference's result is the same sums. -/
theorem ref_eq (a : Vec Ideal S8192x2048 .f32) (b : Vec Ideal S2048x5632 .f32) :
    Cert.InProj0RefIdeal.Read.val_main_v0 (F := Ideal) a b = nn a b := by
  funext y
  obtain ⟨n, x, rfl⟩ := pair y
  pointwise [Cert.InProj0RefIdeal.Read.val_main_v0]
  rfl

theorem ref_frame : Cert.quiescent_InProj0RefIdeal := fun m ρ _ =>
  (θ_run Cert.InProj0RefIdeal.defs _ _).mono (fun r h => ⟨fun c => (h c).2, sem_eq_zero_of_no_sems (by decide) r.2⟩)
    (Cert.InProj0RefIdeal.Value.run (F := Ideal) m ρ)

theorem value : Cert.algebraic_InProj0Ideal_InProj0RefIdeal := by
  intro m ρ m' ρ' _ hagree
  refine ⟨fun c => nn (h m c) (w m c), ?_, ?_⟩
  · exact (θ_run _ _ _).mono (fun r hr c => ⟨(hr c).1.trans (final m c), (hr c).2⟩) (Cert.InProj0Ideal.Value.run_blocks (F := Ideal) m ρ)
  · refine (θ_run _ _ _).mono (fun r hr c => ⟨(hr c).1.trans ?_, (hr c).2⟩) (Cert.InProj0RefIdeal.Value.run (F := Ideal) m' ρ')
    obtain ⟨a0, a1⟩ := hagree c
    rw [Cert.InProj0RefIdeal.Read.val_main_v0_eq, a0, a1]
    exact ref_eq _ _

end Cert.InProj0Ideal.Claims

end
-- ==== Proof.Online.lean ====
module

public import proofs.«01_k».proof.Proof.Accum
public import proofs.«01_k».proof.Proof.Softmax

/-! The mathematics of the attention's forward call: a softmax taken chunk of keys by chunk of keys. After each chunk a
    running number `M` (the largest score so far, though all that matters is that it is real) and running sums hold: each
    sum is over the keys so far, of two to the key's score less `M` times a value. The scores are real; the values need
    not be. -/

@[expose] public section

noncomputable section

namespace Cert.Online

open Idealize.ShloMosaic Cert.Softmax Cert.KernelIdeal.Blk Cert.KernelIdeal.Acc

/-- The weight of a score. -/
def wt (s M : ℝ) : ℝ := Real.rpow 2 (s - M)

theorem wt_exp (s M : ℝ) : wt s M = Real.exp (Real.log 2 * (s - M)) := Real.rpow_def_of_pos two_pos _

theorem wt_pos (s M : ℝ) : 0 < wt s M := by rw [wt_exp]; exact Real.exp_pos _

theorem wt_mul (s M N : ℝ) : wt M N * wt s M = wt s N := by
  rw [wt_exp, wt_exp, wt_exp, ← Real.exp_add]
  exact congrArg _ (by ring)

theorem exp2_sub (s M : ℝ) : Ideal.exp2 ((s : EReal) - (M : EReal)) = (wt s M : EReal) := by
  rw [← EReal.coe_sub, Ideal.exp2_coe]
  rfl

/-- A real factor that is not negative goes into a sum. -/
theorem mul_sum {ι : Type} [Fintype ι] (c : ℝ) (hc : 0 ≤ c) (f : ι → EReal) : (c : EReal) * ∑ x, f x = ∑ x, (c : EReal) * f x := by
  classical
  refine Finset.induction_on (motive := fun s => (c : EReal) * ∑ x ∈ s, f x = ∑ x ∈ s, (c : EReal) * f x) Finset.univ (by simp) ?_
  intro a s ha ih
  rw [Finset.sum_insert ha, Finset.sum_insert ha, ← ih]
  exact EReal.left_distrib_of_nonneg_of_ne_top (EReal.coe_nonneg.mpr hc) (EReal.coe_ne_top c) _ _

variable {E : Type} (s : Fin 8448 → ℝ) (v : Fin 8448 → E → EReal)

/-- The running number and the running sums after the first `n` keys. -/
def Upto (n : Nat) (h : n ≤ 8448) (m : EReal) (a : E → EReal) : Prop :=
  ∃ M : ℝ, m = (M : EReal) ∧ ∀ e, a e = ∑ j : Fin n, (wt (s ⟨j.val, Nat.lt_of_lt_of_le j.isLt h⟩) M : EReal) * v ⟨j.val, Nat.lt_of_lt_of_le j.isLt h⟩ e

/-- The running number after one more chunk of `R` keys, from key `o`. -/
def mNew (t : Fin 8448 → EReal) (R o : Nat) (h : o + R ≤ 8448) (m : EReal) : EReal :=
  max m (Finset.fold max ⊥ (fun r : Fin R => t (row o h r)) Finset.univ)

/-- The running sums after one more chunk. -/
def aNew (t : Fin 8448 → EReal) (R o : Nat) (h : o + R ≤ 8448) (m : EReal) (a : E → EReal) (e : E) : EReal :=
  Ideal.exp2 (m - mNew t R o h m) * a e + ∑ r : Fin R, Ideal.exp2 (t (row o h r) - mNew t R o h m) * v (row o h r) e

/-- The first chunk, from minus infinity and zero. -/
theorem first (t : Fin 8448 → EReal) (ht : ∀ j, t j = (s j : EReal)) (R : Nat) [NeZero R] (h : 0 + R ≤ 8448) :
    Upto s v R (by omega) (mNew t R 0 h ⊥) (aNew v t R 0 h ⊥ fun _ => 0) := by
  obtain ⟨M, hM⟩ := fold_max_real (fun r : Fin R => s (row 0 h r))
  have hm : mNew t R 0 h ⊥ = (M : EReal) := by
    unfold mNew
    simp only [ht]
    rw [hM]
    exact max_eq_right bot_le
  refine ⟨M, hm, fun e => ?_⟩
  unfold aNew
  rw [hm, mul_zero, zero_add]
  refine Finset.sum_congr rfl fun r _ => ?_
  rw [ht, exp2_sub]
  have hr : row 0 h r = ⟨r.val, by omega⟩ := Fin.ext (by show 0 + r.val = r.val; omega)
  rw [hr]

/-- A further chunk. -/
theorem next (t : Fin 8448 → EReal) (ht : ∀ j, t j = (s j : EReal)) (R o : Nat) [NeZero R] (h : o + R ≤ 8448) (n : Nat) (hn : o + R = n) (m : EReal)
    (a : E → EReal) (ih : Upto s v o (by omega) m a) : Upto s v n (hn ▸ h) (mNew t R o h m) (aNew v t R o h m a) := by
  subst hn
  obtain ⟨M, rfl, ha⟩ := ih
  obtain ⟨F, hF⟩ := fold_max_real (fun r : Fin R => s (row o h r))
  have hm : mNew t R o h (M : EReal) = ((max M F : ℝ) : EReal) := by
    unfold mNew
    simp only [ht]
    rw [hF]
    exact (EReal.coe_strictMono.monotone.map_max).symm
  refine ⟨max M F, hm, fun e => ?_⟩
  unfold aNew
  rw [hm, exp2_sub, ha, mul_sum _ (wt_pos _ _).le,
    sum_rows (fun j => (wt (s j) (max M F) : EReal) * v j e) (o + R) o R rfl h]
  refine congr (congrArg HAdd.hAdd ?_) ?_
  · refine Finset.sum_congr rfl fun j _ => ?_
    rw [← mul_assoc, ← EReal.coe_mul, wt_mul]
  · refine Finset.sum_congr rfl fun r _ => ?_
    rw [ht, exp2_sub]

variable {D : Type} [Fintype D] (b : ℝ) (Q : D → ℝ) (K : Fin 8448 → D → ℝ)

/-- A weight in base two is the exponential of the score. -/
theorem wt_sc (M : ℝ) (j : Fin 8448) : wt (sc b Q K j * (1 / Real.log 2)) M = Real.exp (sc b Q K j - M * Real.log 2) := by
  have hl : Real.log 2 ≠ 0 := (Real.log_pos one_lt_two).ne'
  rw [wt_exp]
  exact congrArg _ (by field_simp)

theorem sum_wt (M : ℝ) : ∑ j, wt (sc b Q K j * (1 / Real.log 2)) M = Z b Q K (M * Real.log 2) := by
  rw [Z]
  exact Finset.sum_congr rfl fun j _ => wt_sc b Q K M j

/-- The log-sum does not depend on what is taken off the scores. -/
theorem logsum (M N : ℝ) : M + Real.log (Z b Q K M) = N + Real.log (Z b Q K N) := by
  have h : ∀ M : ℝ, M + Real.log (Z b Q K M) = Real.log (∑ j, Real.exp (sc b Q K j)) := fun M => by
    have hz : Z b Q K M = (∑ j', Real.exp (sc b Q K j')) * Real.exp (-M) := by
      rw [Z, Finset.sum_mul]
      exact Finset.sum_congr rfl fun x _ => by rw [← Real.exp_add, sub_eq_add_neg]
    rw [hz, Real.log_mul (Finset.sum_pos (fun _ _ => Real.exp_pos _) Finset.univ_nonempty).ne' (Real.exp_pos _).ne', Real.log_exp]
    ring
  rw [h, h]

/-- After all the keys, with the column `d` of ones: the quotient is the probabilities' sum, and the number plus the
    logarithm of the sum of weights is the log-sum in base two. -/
theorem final (m : EReal) (a : E → EReal) (d : E) (hd : ∀ j, v j d = 1)
    (h : Upto (fun j => sc b Q K j * (1 / Real.log 2)) v 8448 (Nat.le_refl _) m a) :
    (∀ e, Ideal.div (a e) (a d) = ∑ j, (pr b Q K j : EReal) * v j e)
      ∧ ∀ N : ℝ, m + Ideal.log (a d) * ((1 / Real.log 2 : ℝ) : EReal) = (((N + Real.log (Z b Q K N)) * (1 / Real.log 2) : ℝ) : EReal) := by
  obtain ⟨M, rfl, ha⟩ := h
  have hl : Real.log 2 ≠ 0 := (Real.log_pos one_lt_two).ne'
  have hz : a d = ((Z b Q K (M * Real.log 2) : ℝ) : EReal) := by
    rw [ha, ← sum_wt, ← coe_sum]
    exact Finset.sum_congr rfl fun j _ => by rw [hd, mul_one]
  have hp : 0 < Z b Q K (M * Real.log 2) := Z_pos _ _ _ _
  refine ⟨fun e => ?_, fun N => ?_⟩
  · rw [hz, Ideal.div_coe hp.ne', ha, mul_comm, mul_sum _ (one_div_pos.mpr hp).le]
    refine Finset.sum_congr rfl fun j _ => ?_
    rw [← mul_assoc, ← EReal.coe_mul, ← pr_shift b Q K (M * Real.log 2) j, mul_comm (1 / Z b Q K (M * Real.log 2))]
    exact congrArg (fun r : ℝ => (r * (1 / Z b Q K (M * Real.log 2)) : ℝ) * v j e) (wt_sc b Q K M j)
  · rw [hz, Ideal.log_coe, if_neg (not_le.mpr hp), ← EReal.coe_mul, ← EReal.coe_add, logsum b Q K N (M * Real.log 2)]
    refine congrArg _ ?_
    field_simp

end Cert.Online

end
-- ==== Proof.AttnBlock.lean ====
module

public import proofs.«01_k».proof.Proof.Gen.AttnFwdIdeal.Frame
public import proofs.«01_k».proof.Proof.Online
public import proofs.«01_k».proof.Proof.Consts
public import Idealize.ShloMosaic.Lib.Pipeline.ReadBack
public import Idealize.ShloMosaic.Lib.Pointwise

/-! What one grid point of the attention's forward call leaves in its three output blocks. The body goes over nine chunks
    of keys; the program writes each chunk's operations out again, so they are first shown to be one step, `stM` and
    `stA`, and the step to be `Online.mNew` and `Online.aNew` row by row. -/

@[expose] public section

noncomputable section

namespace Cert.AttnFwdIdeal.Blk

open Idealize.ShloMosaic Cert.AttnFwdIdeal Cert.AttnFwdIdeal.Gen Idealize.ShloMosaic.Tactic Cert.Online Cert.Consts
open Cert.KernelIdeal.Blk (row hz hz3)

/-- The running maximum after one more chunk. -/
abbrev stM (q : FVec Ideal S512x128 .bf16) (k : Vec Ideal S1024x128 .bf16) (m : Vec Ideal S512x1 .f32) : FVec Ideal S512x1 .f32 := k0_pay13 q k m
/-- The running sums after one more chunk. -/
abbrev stA (q : FVec Ideal S512x128 .bf16) (k : Vec Ideal S1024x128 .bf16) (v : Vec Ideal S1024x256 .bf16) (m : Vec Ideal S512x1 .f32)
    (a : Vec Ideal S512x256 .f32) : FVec Ideal S512x256 .f32 := k0_pay12 q k v m a

section
variable (q : Vec Ideal S512x128 .bf16) (q' : FVec Ideal S512x128 .bf16) (k : Vec Ideal S1024x128 .bf16) (v : Vec Ideal S1024x256 .bf16) (m : Vec Ideal S512x1 .f32)
  (a : Vec Ideal S512x256 .f32)

theorem sM1 : k0_pay9 (k0_pay7 q k m) = stM (k0_pay3 q) k m := rfl
theorem sA1 : k0_pay8 q k v m a = stA (k0_pay3 q) k v m a := rfl
theorem sM3 : k0_pay18 (k0_pay15 q' k) m = stM q' k m := rfl
theorem sA3 : k0_pay17 (k0_pay14 v) (k0_pay15 q' k) m a = stA q' k v m a := rfl
theorem sM4 : k0_pay25 (k0_pay21 q' k m) = stM q' k m := rfl
theorem sA4 : k0_pay24 (k0_pay19 v) (k0_pay22 q' k m a) (k0_pay23 q' k m) (constant S512x256 .f32 0x00000000#32) = stA q' k v m a := rfl
theorem sM5 : k0_pay29 q' k m = stM q' k m := rfl
theorem sA5 : k0_pay28 q' k v m a = stA q' k v m a := rfl
theorem sM6 : k0_pay33 q' k m = stM q' k m := rfl
theorem sA6 : k0_pay32 q' k v m a = stA q' k v m a := rfl
theorem sM7 : k0_pay39 (k0_pay36 q' k m) = stM q' k m := rfl
theorem sA7 : k0_pay38 (k0_pay34 v) m (k0_pay36 q' k m) (k0_pay37 q' k m) a = stA q' k v m a := rfl
theorem sM8 : k0_pay43 (k0_pay41 q' k m) = stM q' k m := rfl
theorem sA8 : k0_pay42 q' k v m a = stA q' k v m a := rfl
end

/-- A chunk's rows of a block with one row per key. -/
abbrev rows {W : Nat} (x : Vec Ideal (⟨2, ![8448, W]⟩ : Shape) .bf16) (R o : Nat) (h : o + R ≤ 8448) : Vec Ideal (⟨2, ![R, W]⟩ : Shape) .bf16 :=
  fun y => x (ix2 (row o h (y 0)) (y 1))

/-- The running maximum and the running sums after `n` chunks of 1024 keys. -/
def st (q : Vec Ideal S512x128 .bf16) (k : Vec Ideal S8448x128 .bf16) (v : Vec Ideal S8448x256 .bf16) :
    (n : Nat) → n ≤ 8 → FVec Ideal S512x1 .f32 × FVec Ideal S512x256 .f32
  | 0, _ => (k0_pay4, k0_pay5)
  | n + 1, h =>
    let s := st q k v n (by omega)
    (stM (k0_pay3 q) (rows k 1024 (n * 1024) (by omega)) s.1,
      stA (k0_pay3 q) (rows k 1024 (n * 1024) (by omega)) (rows v 1024 (n * 1024) (by omega)) s.1 s.2)

/-- The running maximum at the end. -/
def endM (q : Vec Ideal S512x128 .bf16) (k : Vec Ideal S8448x128 .bf16) (v : Vec Ideal S8448x256 .bf16) : FVec Ideal S512x1 .f32 :=
  k0_pay47 (k0_pay3 q) (rows k 256 8192 (by decide)) (st q k v 8 (by decide)).1
/-- The running sums at the end. -/
def endA (q : Vec Ideal S512x128 .bf16) (k : Vec Ideal S8448x128 .bf16) (v : Vec Ideal S8448x256 .bf16) : FVec Ideal S512x256 .f32 :=
  k0_pay46 (k0_pay3 q) (rows k 256 8192 (by decide)) (rows v 256 8192 (by decide)) (st q k v 8 (by decide)).1 (st q k v 8 (by decide)).2

section
variable (q : Vec Ideal S512x128 .bf16) (k : Vec Ideal S8448x128 .bf16) (v : Vec Ideal S8448x256 .bf16) (m : Vec Ideal S512x1 .f32)
  (a : Vec Ideal S512x256 .f32)

/-- The score of a key for a row of the block. -/
def tn (n : Fin 512) (j : Fin 8448) : EReal := ∑ x : Fin 128, q (ix2 n x) * k (ix2 j x)

theorem stM_at (n : Fin 512) (o : Nat) (h : o + 1024 ≤ 8448) :
    stM (k0_pay3 q) (rows k 1024 o h) m (ix2 n 0) = mNew (tn q k n) 1024 o h (m (ix2 n 0)) := by
  pointwise [stM, k0_pay13, k0_pay11, k0_pay10, k0_pay3]
  rw [minf]
  rfl

theorem stA_at (n : Fin 512) (o : Nat) (h : o + 1024 ≤ 8448) (e : Fin 256) :
    stA (k0_pay3 q) (rows k 1024 o h) (rows v 1024 o h) m a (ix2 n e)
      = aNew (fun j e => v (ix2 j e)) (tn q k n) 1024 o h (m (ix2 n 0)) (fun e => a (ix2 n e)) e := by
  pointwise [stA, k0_pay12, k0_pay11, k0_pay10, k0_pay3]
  rw [minf]
  rfl

theorem lastM_at (n : Fin 512) (h : 8192 + 256 ≤ 8448) :
    k0_pay47 (k0_pay3 q) (rows k 256 8192 h) m (ix2 n 0) = mNew (tn q k n) 256 8192 h (m (ix2 n 0)) := by
  pointwise [k0_pay47, k0_pay45, k0_pay44, k0_pay3]
  rw [minf]
  rfl

theorem lastA_at (n : Fin 512) (h : 8192 + 256 ≤ 8448) (e : Fin 256) :
    k0_pay46 (k0_pay3 q) (rows k 256 8192 h) (rows v 256 8192 h) m a (ix2 n e)
      = aNew (fun j e => v (ix2 j e)) (tn q k n) 256 8192 h (m (ix2 n 0)) (fun e => a (ix2 n e)) e := by
  pointwise [k0_pay46, k0_pay45, k0_pay44, k0_pay3]
  rw [minf]
  rfl

theorem start_m (n : Fin 512) : k0_pay4 (F := Ideal) (ix2 n 0) = ⊥ := by
  pointwise [k0_pay4]
  exact minf
theorem start_a (n : Fin 512) (e : Fin 256) : k0_pay5 (F := Ideal) (ix2 n e) = 0 := by
  pointwise [k0_pay5]

variable (n : Fin 512) (s : Fin 8448 → ℝ) (hs : ∀ j, tn q k n j = (s j : EReal))
include hs

/-- After `i + 1` chunks of 1024 keys. -/
theorem upto (i : Nat) (h : i + 1 ≤ 8) :
    Upto s (fun j e => v (ix2 j e)) ((i + 1) * 1024) (by omega) ((st q k v (i + 1) h).1 (ix2 n 0)) (fun e => (st q k v (i + 1) h).2 (ix2 n e)) := by
  induction i with
  | zero =>
    have f := first s (fun j (e : Fin 256) => v (ix2 j e)) (tn q k n) hs 1024 (by decide)
    simp only [st, stM_at, stA_at, start_m, start_a]
    exact f
  | succ i ih =>
    have f := next s (fun j (e : Fin 256) => v (ix2 j e)) (tn q k n) hs 1024 ((i + 1) * 1024) (by omega) ((i + 1 + 1) * 1024) (by omega) _ _ (ih (by omega))
    rw [st]
    simp only [stM_at, stA_at]
    exact f

/-- After all the keys. -/
theorem upto_end : Upto s (fun j e => v (ix2 j e)) 8448 (Nat.le_refl _) (endM q k v (ix2 n 0)) (fun e => endA q k v (ix2 n e)) := by
  have f := next s (fun j (e : Fin 256) => v (ix2 j e)) (tn q k n) hs 256 8192 (by decide) 8448 rfl _ _ (upto q k v n s hs 7 (by decide))
  unfold endM endA
  simp only [lastM_at, lastA_at]
  exact f
end

end Cert.AttnFwdIdeal.Blk

end
-- ==== Proof.AttnOut.lean ====
module

public import proofs.«01_k».proof.Proof.AttnBlock
public import proofs.«01_k».proof.Proof.Online
public import proofs.«01_k».proof.Proof.Consts
public import Idealize.ShloMosaic.Lib.Pipeline.ReadBack
public import Idealize.ShloMosaic.Lib.Pointwise

/-! The three blocks one grid point of the attention's forward call stores, over its running maximum and running sums after
    the last chunk of keys. -/

@[expose] public section

noncomputable section

namespace Cert.AttnFwdIdeal.Blk

open Idealize.ShloMosaic Cert.AttnFwdIdeal Cert.AttnFwdIdeal.Gen Idealize.ShloMosaic.Tactic Cert.Online Cert.Consts
open Cert.KernelIdeal.Blk (row hz hz3)

variable (c : Dev nD) (i : grid0.Coords) (arg2 : Memref sig .tc .vmem S512x128 .bf16) (harg2 : arg2.IsWhole) (arg3 : Memref sig .tc .vmem S8448x128 .bf16) (harg3 : arg3.IsWhole) (arg4 : Memref sig .tc .vmem S8448x256 .bf16) (harg4 : arg4.IsWhole) (arg5 : Memref sig .tc .vmem S512x128 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S1x1x512 .f32) (harg8 : arg8.IsWhole) (arg9 : Memref sig .tc .vmem S512x1 .f32) (harg9 : arg9.IsWhole) (arg10 : Memref sig .tc .vmem S512x256 .f32) (harg10 : arg10.IsWhole)
  (x0 : Vec Ideal S512x128 .bf16) (x1 : Vec Ideal S8448x128 .bf16) (x2 : Vec Ideal S8448x256 .bf16) (x3 : Vec Ideal S512x128 .f32)

/-- A load of a chunk of rows of the keys. -/
theorem ld_k {R : Nat} (o : Nat) (inb) (h : o + R ≤ 8448) (x : Vec Ideal S8448x128 .bf16) :
    View.ld x (Rect.unit (s := S8448x128) ![o, 0] ![R, 128] inb) = rows x R o h := by
  funext y
  refine congrArg x (funext fun a => ?_)
  match a with
  | 0 => exact Fin.ext (show o + 1 * (y 0).val = o + (y 0).val by omega)
  | 1 => exact Fin.ext (show 0 + 1 * (y 1).val = (y 1).val by omega)

/-- A load of a chunk of rows of the values. -/
theorem ld_v {R : Nat} (o : Nat) (inb) (h : o + R ≤ 8448) (x : Vec Ideal S8448x256 .bf16) :
    View.ld x (Rect.unit (s := S8448x256) ![o, 0] ![R, 256] inb) = rows x R o h := by
  funext y
  refine congrArg x (funext fun a => ?_)
  match a with
  | 0 => exact Fin.ext (show o + 1 * (y 0).val = o + (y 0).val by omega)
  | 1 => exact Fin.ext (show 0 + 1 * (y 1).val = (y 1).val by omega)

/-- The block of the output. -/
theorem out_4 : out0_A_4 (F := Ideal) c i arg2 harg2 arg3 harg3 arg4 harg4 arg5 harg5 arg6 harg6 arg7 harg7 arg8 harg8 arg9 harg9 arg10 harg10 x0 x1 x2 x3 = k0_pay50 (F := Ideal) (endA x0 x1 x2) := by
  unfold out0_A_4
  rw [View.read_writes_eq_canon _ _ _ (cover0_A_4 (F := Ideal) c i arg2 harg2 arg3 harg3 arg4 harg4 arg5 harg5 arg6 harg6 arg7 harg7 arg8 harg8 arg9 harg9 arg10 harg10 x0 x1 x2 x3)]
  unfold kernelRun0_A
  dsimp only
  rw [View.canon_unit_zero hz]
  sl_unfold_words
  simp (disch := first | rfl | decide) only [↓View.readCov_skip, View.readCov_fill, View.readAt_eq_ld, harg2.read_unread, harg3.read_unread, harg4.read_unread, harg5.read_unread,
    View.ld_unit_zero (S := S512x128) hz, View.ld_unit_zero (S := S512x1) hz, View.ld_unit_zero (S := S512x256) hz, ld_k, ld_v,
    sM1, sA1, sM3, sA3, sM4, sA4, sM5, sA5, sM6, sA6, sM7, sA7, sM8, sA8]
  rfl

/-- The block of the gated output. -/
theorem out_5 : out0_A_5 (F := Ideal) c i arg2 harg2 arg3 harg3 arg4 harg4 arg5 harg5 arg6 harg6 arg7 harg7 arg8 harg8 arg9 harg9 arg10 harg10 x0 x1 x2 x3 = k0_pay1 (F := Ideal) (k0_pay49 (endA x0 x1 x2)) x3 := by
  unfold out0_A_5
  rw [View.read_writes_eq_canon _ _ _ (cover0_A_5 (F := Ideal) c i arg2 harg2 arg3 harg3 arg4 harg4 arg5 harg5 arg6 harg6 arg7 harg7 arg8 harg8 arg9 harg9 arg10 harg10 x0 x1 x2 x3)]
  unfold kernelRun0_A
  dsimp only
  rw [View.canon_unit_zero hz]
  sl_unfold_words
  simp (disch := first | rfl | decide) only [↓View.readCov_skip, View.readCov_fill, View.readAt_eq_ld, harg2.read_unread, harg3.read_unread, harg4.read_unread, harg5.read_unread,
    View.ld_unit_zero (S := S512x128) hz, View.ld_unit_zero (S := S512x1) hz, View.ld_unit_zero (S := S512x256) hz, ld_k, ld_v,
    sM1, sA1, sM3, sA3, sM4, sA4, sM5, sA5, sM6, sA6, sM7, sA7, sM8, sA8]
  rfl

/-- The block of the saved log-sums. -/
theorem out_6 : out0_A_6 (F := Ideal) c i arg2 harg2 arg3 harg3 arg4 harg4 arg5 harg5 arg6 harg6 arg7 harg7 arg8 harg8 arg9 harg9 arg10 harg10 x0 x1 x2 x3 = k0_pay2 (F := Ideal) (k0_pay48 (endA x0 x1 x2)) (endM x0 x1 x2) := by
  unfold out0_A_6
  rw [View.read_writes_eq_canon _ _ _ (cover0_A_6 (F := Ideal) c i arg2 harg2 arg3 harg3 arg4 harg4 arg5 harg5 arg6 harg6 arg7 harg7 arg8 harg8 arg9 harg9 arg10 harg10 x0 x1 x2 x3)]
  unfold kernelRun0_A
  dsimp only
  rw [View.canon_unit_zero hz3]
  sl_unfold_words
  simp (disch := first | rfl | decide) only [↓View.readCov_skip, View.readCov_fill, View.readAt_eq_ld, harg2.read_unread, harg3.read_unread, harg4.read_unread, harg5.read_unread,
    View.ld_unit_zero (S := S512x128) hz, View.ld_unit_zero (S := S512x1) hz, View.ld_unit_zero (S := S512x256) hz, ld_k, ld_v,
    sM1, sA1, sM3, sA3, sM4, sA4, sM5, sA5, sM6, sA6, sM7, sA7, sM8, sA8]
  rfl

/-- The output's block: each sum over the sum in the first lane of ones. -/
theorem o_at (a : Vec Ideal S512x256 .f32) (n : Fin 512) (d : Fin 128) :
    k0_pay50 (F := Ideal) a (ix2 n d) = Ideal.div (a (ix2 n ⟨d.val, by omega⟩)) (a (ix2 n 128)) := by
  pointwise [k0_pay50, k0_pay49, k0_pay48]

/-- The same before it is rounded. -/
theorem oo_at (a : Vec Ideal S512x256 .f32) (n : Fin 512) (d : Fin 128) :
    k0_pay49 (F := Ideal) a (ix2 n d) = Ideal.div (a (ix2 n ⟨d.val, by omega⟩)) (a (ix2 n 128)) := by
  pointwise [k0_pay49, k0_pay48]

/-- The first lane of ones. -/
theorem z_at (a : Vec Ideal S512x256 .f32) (n : Fin 512) : k0_pay48 (F := Ideal) a (ix2 n 0) = a (ix2 n 128) := by
  pointwise [k0_pay48]

/-- The gate. -/
theorem g_at (o za : Vec Ideal S512x128 .f32) (n : Fin 512) (d : Fin 128) :
    k0_pay1 (F := Ideal) o za (ix2 n d) = o (ix2 n d) * (za (ix2 n d) * Ideal.div 1 (1 + Ideal.exp (0 - za (ix2 n d)))) := by
  pointwise [k0_pay1]

/-- The log-sum, in base two. -/
theorem l_at (z m : Vec Ideal S512x1 .f32) (n : Fin 512) :
    k0_pay2 (F := Ideal) z m (ix3 0 0 n) = m (ix2 n 0) + Ideal.log (z (ix2 n 0)) * ((1 / Real.log 2 : ℝ) : EReal) := by
  pointwise [k0_pay2]
  rw [show Named.named (F := Ideal) κ "log2_e" (φ := .f32) 0x3FB8AA3B#32 = (((Real.log 2)⁻¹ : ℝ) : EReal) from
    IdealRules.named_const.ideal_named_scalar _ _ _ _ rfl, one_div]

end Cert.AttnFwdIdeal.Blk

end
-- ==== Proof.AttnRef.lean ====
module

public import proofs.«01_k».proof.Proof.HostIn
public import proofs.«01_k».proof.Proof.Gen.AttnFwdRefIdeal.Read

/-! What the reference of the attention's forward call computes, on real queries and keys and any values and gates. Its
    first operations are those of the gradient's reference, so Ref.lean's reading of them is used again. -/

@[expose] public section

noncomputable section

namespace Cert.AttnFwdRefIdeal.At

open Idealize.ShloMosaic Cert.AttnFwdRefIdeal Cert.AttnFwdRefIdeal.Read Idealize.ShloMosaic.Tactic Cert.Softmax Cert.Consts
open Cert.ReferenceIdeal.At (cr hQ hK mx)
open Cert.KernelIdeal.Acc (col kcol)

/-- The key head of a query head, and its place among the key head's four. -/
def kh (z : Fin 8) : Fin 2 := ⟨z.val / 4, by omega⟩
def gr (z : Fin 8) : Fin 4 := ⟨z.val % 4, by omega⟩

theorem head (z : Fin 8) : z.val = (kh z).val * 4 + (gr z).val := by
  show z.val = z.val / 4 * 4 + z.val % 4
  omega

/-- The probability of key `j` for query `i` of query head `z`. -/
abbrev prob (q : S8192x1024.Idx → ℝ) (k : S8448x256.Idx → ℝ) (z : Fin 8) (i : Fin 8192) (j : Fin 8448) : ℝ :=
  pr aS (hQ q (kh z) (gr z) i) (hK k (kh z)) j

theorem v17_eq (a : Vec Ideal S8192x1024 .f32) (b : Vec Ideal S8448x256 .f32) :
    val_main_v17 (F := Ideal) a b = Cert.ReferenceIdeal.Read.val_main_v31 (F := Ideal) a b := rfl

variable (q : S8192x1024.Idx → ℝ) (k : S8448x256.Idx → ℝ) (v : Vec Ideal S8448x256 .f32) (p : Vec Ideal S8192x5632 .f32)

theorem v20_at (h : Fin 2) (g : Fin 4) (i : Fin 8192) (x : Fin 128) :
    val_main_v20 (F := Ideal) (cr q) (cr k) v (ix2 i ⟨h.val * 512 + g.val * 128 + x.val, by omega⟩)
      = ∑ j : Fin 8448, v (ix2 j ⟨h.val * 128 + x.val, by omega⟩) * (pr aS (hQ q h g i) (hK k h) j : EReal) := by
  pointwise [val_main_v20, val_main_v19, val_main_v18, val_main_v2]
  simp only [v17_eq, Cert.ReferenceIdeal.At.v31_at]

/-- The attention's output. -/
theorem out_at (z : Fin 8) (i : Fin 8192) (x : Fin 128) :
    val_main_v20 (F := Ideal) (cr q) (cr k) v (ix2 i (col z x)) = ∑ j : Fin 8448, (prob q k z i j : EReal) * v (ix2 j (kcol z x)) := by
  have e : col z x = ⟨(kh z).val * 512 + (gr z).val * 128 + x.val, by omega⟩ :=
    Fin.ext (by have := head z; show z.val * 128 + x.val = (kh z).val * 512 + (gr z).val * 128 + x.val; omega)
  rw [e, v20_at]
  exact Finset.sum_congr rfl fun j _ => mul_comm _ _

theorem res0_at (z : Fin 8) (i : Fin 8192) (x : Fin 128) :
    val_main_v39 (F := Ideal) (cr q) (cr k) v (ix2 i (col z x)) = ∑ j : Fin 8448, (prob q k z i j : EReal) * v (ix2 j (kcol z x)) :=
  out_at q k v z i x

/-- The gate's column of a dimension of a query head. -/
def gcol (z : Fin 8) (x : Fin 128) : Fin 5632 := ⟨1536 + (z.val * 128 + x.val), by omega⟩

/-- The gate. -/
theorem gate_at (z : Fin 8) (i : Fin 8192) (x : Fin 128) :
    val_main_v40 (F := Ideal) p (ix2 i (col z x)) = p (ix2 i (gcol z x)) * Ideal.div 1 (1 + Ideal.exp (-p (ix2 i (gcol z x)))) := by
  pointwise [val_main_v40, val_main_call0_v5, val_main_call0_v4, val_main_call0_cst_0, val_main_call0_v3, val_main_call0_v2, val_main_call0_cst,
    val_main_call0_v1, val_main_call0_v0, val_main_v21]
  rfl

theorem res1_at (z : Fin 8) (i : Fin 8192) (x : Fin 128) :
    val_main_v42 (F := Ideal) (cr q) (cr k) v p (ix2 i (col z x))
      = (∑ j : Fin 8448, (prob q k z i j : EReal) * v (ix2 j (kcol z x)))
        * (p (ix2 i (gcol z x)) * Ideal.div 1 (1 + Ideal.exp (-p (ix2 i (gcol z x))))) := by
  rw [← out_at, ← gate_at]
  rfl

theorem v43_eq (a : Vec Ideal S8192x1024 .f32) (b : Vec Ideal S8448x256 .f32) :
    val_main_v43 (F := Ideal) a b = Cert.KernelIdeal.HostIn.lsArr a b := by
  have e := Cert.KernelIdeal.HostIn.v14_eq a b
  unfold Cert.KernelIdeal.HostIn.lsArr Cert.KernelIdeal.HostIn.lse Cert.ReferenceIdeal.Read.val_main_v28 Cert.ReferenceIdeal.Read.val_main_v27
    Cert.ReferenceIdeal.Read.val_main_v26 Cert.ReferenceIdeal.Read.val_main_v25 Cert.ReferenceIdeal.Read.val_main_v24
  rw [e]
  rfl

/-- The saved log-sums, in base two. -/
theorem res2_at (z : Fin 8) (i : Fin 8192) :
    val_main_v43 (F := Ideal) (cr q) (cr k) (ix3 z 0 i)
      = (((mx q k (kh z) (gr z) i + Real.log (Z aS (hQ q (kh z) (gr z) i) (hK k (kh z)) (mx q k (kh z) (gr z) i))) * (1 / Real.log 2) : ℝ) : EReal) := by
  rw [v43_eq]
  exact Cert.KernelIdeal.HostIn.lsArr_at q k z (kh z) (gr z) i (head z)

end Cert.AttnFwdRefIdeal.At

end
-- ==== Proof.AttnArr.lean ====
module

public import proofs.«01_k».proof.Proof.AttnOut
public import proofs.«01_k».proof.Proof.AttnRef
public import Idealize.ShloMosaic.Lib.Pipeline.ValueKit
public import Idealize.ShloMosaic.Lib.Pipeline.ValueKit.Partial
public import Idealize.ShloMosaic.Lib.StableHlo.ReadAt

/-! The three arrays the attention's forward call leaves. Grid point `t` is query head `t / 16` and query block `t % 16`,
    and every point writes its own block of each. -/

@[expose] public section

noncomputable section

namespace Cert.AttnFwdIdeal.Arr

open Idealize.ShloMosaic Cert.AttnFwdIdeal Cert.AttnFwdIdeal.Gen Cert.AttnFwdIdeal.Blk Idealize.ShloMosaic.Tactic Cert.Consts Cert.Softmax
open Cert.ReferenceIdeal.At (cr hQ hK mx)
open Cert.KernelIdeal.Acc (col kcol vcol)
open Cert.AttnFwdRefIdeal.At (kh gr head prob gcol)

variable (m : (ℓ : Loc nD τ sig) → Buf (Elt Ideal) ℓ) (c : Dev nD)

/-- The four arguments. -/
abbrev x0 : Vec Ideal S8192x1024 .f32 := m ((c.tc : Thread nD τ).loc main_arg0)
abbrev x1 : Vec Ideal S8448x256 .f32 := m ((c.tc : Thread nD τ).loc main_arg1)
abbrev x2 : Vec Ideal S8448x256 .f32 := m ((c.tc : Thread nD τ).loc main_arg2)
abbrev x3 : Vec Ideal S8192x5632 .f32 := m ((c.tc : Thread nD τ).loc main_arg3)

/-- The scaled queries, the keys, and the values with each head followed by its lanes of ones, as the region finds them. -/
abbrev aQ : Vec Ideal S8192x1024 .bf16 := V m c main_v4
abbrev aK : Vec Ideal S8448x256 .bf16 := V m c main_v14
abbrev aV : Vec Ideal S8448x512 .bf16 := V m c main_v13

theorem q_at (i : Fin 8192) (e : Fin 1024) : aQ m c (ix2 i e) = x0 m c (ix2 i e) * ((aS * (1 / Real.log 2) : ℝ) : EReal) := by
  unfold aQ V
  after_reads_at
  rw [logTwo, scale, Ideal.div_coe log_ne, ← EReal.coe_mul]

theorem k_at (j : Fin 8448) (e : Fin 256) : aK m c (ix2 j e) = x1 m c (ix2 j e) := by
  unfold aK V
  after_reads_at

theorem v_at (j : Fin 8448) (h : Fin 8) (x : Fin 128) : aV m c (ix2 j (vcol h x)) = x2 m c (ix2 j (kcol h x)) := by
  have hc : (vcol h x).val = h.val / 4 * 256 + x.val := rfl
  generalize hg : vcol h x = y at hc ⊢
  unfold aV V
  after_reads_at
  by_cases h4 : h.val < 4
  · have e : h.val / 4 = 0 := by omega
    rw [dif_pos (by omega)]
    after_reads_at
    exact congrArg (x2 m c) (congrArg (ix2 j) (Fin.ext (by show y.val = h.val / 4 * 128 + x.val; omega)))
  · have e : h.val / 4 = 1 := by omega
    rw [dif_neg (by omega), dif_neg (by omega), dif_pos (by omega)]
    after_reads_at
    exact congrArg (x2 m c) (congrArg (ix2 j) (Fin.ext (by show 128 + (y.val - 128 - 128) = h.val / 4 * 128 + x.val; omega)))

/-- The column of a head's first lane after its values. -/
def ocol (h : Fin 8) : Fin 512 := ⟨h.val / 4 * 256 + 128, by omega⟩

/-- What follows a head's values: one in the first lane, zero in the others. -/
def lanes : FVec Ideal S8448x128 .f32 :=
  select (cmpi .eq (iotaInDim S8448x128 32 1) (broadcastInDim S8448x128 ![] bcast_S_S8448x128 (constantI S_ 32 0#32)))
    (broadcastInDim S8448x128 ![] bcast_S_S8448x128 (constant (F := Ideal) S_ .f32 0x3F800000#32))
    (broadcastInDim S8448x128 ![] bcast_S_S8448x128 (constant (F := Ideal) S_ .f32 0x00000000#32))

theorem lanes_at (j : Fin 8448) (l : Fin 128) (h : l.val = 0) : lanes (ix2 j l) = 1 := by
  have e : l = 0 := Fin.ext h
  subst e
  pointwise [lanes]

/-- The first lane is one. -/
theorem one_at (j : Fin 8448) (h : Fin 8) : aV m c (ix2 j (ocol h)) = 1 := by
  have hc : (ocol h).val = h.val / 4 * 256 + 128 := rfl
  generalize hg : ocol h = y at hc ⊢
  unfold aV V
  after_reads_at
  by_cases h4 : h.val < 4
  · have e : h.val / 4 = 0 := by omega
    rw [dif_neg (by omega), dif_pos (by omega)]
    after_reads_at
    exact lanes_at j _ (by show y.val - 128 = 0; omega)
  · have e : h.val / 4 = 1 := by omega
    rw [dif_neg (by omega), dif_neg (by omega), dif_neg (by omega)]
    after_reads_at
    exact lanes_at j _ (by show y.val - 128 - 128 - 128 = 0; omega)

/-- The query head of a grid point. -/
def hd (t : Fin cfg0.N) : Fin 8 := ⟨t.val / 16, by have : t.val < 128 := t.isLt; omega⟩
/-- The row of the query array that row `n` of a grid point's block is. -/
def qrow (t : Fin cfg0.N) (n : Fin 512) : Fin 8192 := ⟨t.val % 16 * 512 + n.val, by omega⟩

/-- Every window's block index at every point, decided over the 128 points. -/
theorem idx (t : Fin cfg0.N) : win0_0.index t = ![t.val % 16, t.val / 16] ∧ win0_1.index t = ![0, t.val / 64]
    ∧ win0_2.index t = ![0, t.val / 64] ∧ win0_3.index t = ![t.val % 16, 12 + t.val / 16]
    ∧ win0_4.index t = ![t.val % 16, t.val / 16] ∧ win0_5.index t = ![t.val % 16, t.val / 16]
    ∧ win0_6.index t = ![t.val / 16, 0, t.val % 16] := by
  revert t; exact (by decide +kernel : ∀ t : Fin grid0.N, win0_0.index t = ![t.val % 16, t.val / 16] ∧ win0_1.index t = ![0, t.val / 64]
    ∧ win0_2.index t = ![0, t.val / 64] ∧ win0_3.index t = ![t.val % 16, 12 + t.val / 16]
    ∧ win0_4.index t = ![t.val % 16, t.val / 16] ∧ win0_5.index t = ![t.val % 16, t.val / 16]
    ∧ win0_6.index t = ![t.val / 16, 0, t.val % 16])

/-- A grid point's block of queries and of keys. -/
abbrev b0 (t : Fin cfg0.N) : Vec Ideal S512x128 .bf16 := iblk m c 0 t
abbrev b1 (t : Fin cfg0.N) : Vec Ideal S8448x128 .bf16 := iblk m c 1 t

theorem blk0 (t : Fin cfg0.N) (n : Fin 512) (x : Fin 128) :
    iblk m c 0 t (ix2 n x) = aQ m c (ix2 (qrow t n) (col (hd t) x)) := by
  blk_ext [iblk, (idx t).1, qrow, col, hd]
theorem blk1 (t : Fin cfg0.N) (j : Fin 8448) (x : Fin 128) :
    iblk m c 1 t (ix2 j x) = aK m c (ix2 j (kcol (hd t) x)) := by
  blk_ext [iblk, (idx t).2.1, kcol, hd]
theorem blk2 (t : Fin cfg0.N) (j : Fin 8448) (x : Fin 128) :
    iblk m c 2 t (ix2 j ⟨x.val, by omega⟩) = aV m c (ix2 j (vcol (hd t) x)) := by
  blk_ext [iblk, (idx t).2.2.1, vcol, hd]
theorem blk2_one (t : Fin cfg0.N) (j : Fin 8448) : iblk m c 2 t (ix2 j 128) = aV m c (ix2 j (ocol (hd t))) := by
  blk_ext [iblk, (idx t).2.2.1, ocol, hd]
theorem blk3 (t : Fin cfg0.N) (n : Fin 512) (x : Fin 128) :
    iblk m c 3 t (ix2 n x) = V m c main_arg3 (ix2 (qrow t n) (gcol (hd t) x)) := by
  blk_ext [iblk, (idx t).2.2.2.1, qrow, gcol, hd]

variable {m c}
variable {q : S8192x1024.Idx → ℝ} {k : S8448x256.Idx → ℝ}

/-- A grid point's scores in base two are the softmax's. -/
theorem score_at (e0 : x0 m c = cr q) (e1 : x1 m c = cr k) (t : Fin cfg0.N) (n : Fin 512) (j : Fin 8448) :
    tn (iblk m c 0 t) (iblk m c 1 t) n j
      = ((sc aS (hQ q (kh (hd t)) (gr (hd t)) (qrow t n)) (hK k (kh (hd t))) j * (1 / Real.log 2) : ℝ) : EReal) := by
  unfold tn
  have hs : ∀ x : Fin 128, b0 m c t (ix2 n x) * b1 m c t (ix2 j x)
      = ((hK k (kh (hd t)) j x * hQ q (kh (hd t)) (gr (hd t)) (qrow t n) x * (aS * (1 / Real.log 2)) : ℝ) : EReal) := fun x => by
    rw [b0, b1, blk0, blk1, k_at, q_at, e0, e1, ← Cert.KernelIdeal.HostIn.col_at q (hd t) _ _ (qrow t n) x (head _),
      ← Cert.KernelIdeal.HostIn.kcol_at k (hd t) _ _ j x (head _), mul_comm]
    show ((k (ix2 j (kcol (hd t) x)) : ℝ) : EReal) * (((q (ix2 (qrow t n) (col (hd t) x)) : ℝ) : EReal) * ((aS * (1 / Real.log 2) : ℝ) : EReal)) = _
    rw [← EReal.coe_mul, ← EReal.coe_mul, ← mul_assoc]
  refine (Finset.sum_congr rfl fun x _ => hs x).trans ?_
  rw [coe_sum, ← Finset.sum_mul, sc, mul_assoc]

/-- The sums at a grid point's end: their quotients and their log-sum. -/
theorem end_at (e0 : x0 m c = cr q) (e1 : x1 m c = cr k) (t : Fin cfg0.N) (n : Fin 512) :
    (∀ e, Ideal.div (endA (iblk m c 0 t) (iblk m c 1 t) (iblk m c 2 t) (ix2 n e)) (endA (iblk m c 0 t) (iblk m c 1 t) (iblk m c 2 t) (ix2 n 128))
      = ∑ j : Fin 8448, (prob q k (hd t) (qrow t n) j : EReal) * (iblk m c 2 t (ix2 j e) : EReal))
    ∧ ∀ N : ℝ, endM (iblk m c 0 t) (iblk m c 1 t) (iblk m c 2 t) (ix2 n 0)
        + Ideal.log (endA (iblk m c 0 t) (iblk m c 1 t) (iblk m c 2 t) (ix2 n 128)) * ((1 / Real.log 2 : ℝ) : EReal)
      = (((N + Real.log (Z aS (hQ q (kh (hd t)) (gr (hd t)) (qrow t n)) (hK k (kh (hd t))) N)) * (1 / Real.log 2) : ℝ) : EReal) :=
  Cert.Online.final aS (hQ q (kh (hd t)) (gr (hd t)) (qrow t n)) (hK k (kh (hd t)))
    (v := fun j (e : Fin 256) => (iblk m c 2 t (ix2 j e) : EReal))
    (endM (iblk m c 0 t) (iblk m c 1 t) (iblk m c 2 t) (ix2 n 0)) (fun e => endA (iblk m c 0 t) (iblk m c 1 t) (iblk m c 2 t) (ix2 n e)) (128 : Fin 256)
    (fun j => (blk2_one m c t j).trans (one_at m c j (hd t)))
    (upto_end (iblk m c 0 t) (iblk m c 1 t) (iblk m c 2 t) n _ (score_at e0 e1 t n))

/-- The quotient is the attention's output. -/
theorem quot_at (e0 : x0 m c = cr q) (e1 : x1 m c = cr k) (t : Fin cfg0.N) (n : Fin 512) (d : Fin 128) :
    Ideal.div (endA (iblk m c 0 t) (iblk m c 1 t) (iblk m c 2 t) (ix2 n ⟨d.val, by omega⟩)) (endA (iblk m c 0 t) (iblk m c 1 t) (iblk m c 2 t) (ix2 n 128))
      = ∑ j : Fin 8448, (prob q k (hd t) (qrow t n) j : EReal) * x2 m c (ix2 j (kcol (hd t) d)) := by
  refine ((end_at e0 e1 t n).1 ⟨d.val, by omega⟩).trans (Finset.sum_congr rfl fun j _ => ?_)
  rw [blk2, v_at]

theorem pt4 (e0 : x0 m c = cr q) (e1 : x1 m c = cr k) (t : Fin cfg0.N) (n : Fin 512) (d : Fin 128) :
    (outsAt0 m c t).1 (ix2 n d) = Cert.AttnFwdRefIdeal.Read.val_main_v39 (F := Ideal) (cr q) (cr k) (x2 m c) (ix2 (qrow t n) (col (hd t) d)) := by
  refine Eq.trans ?_ (Cert.AttnFwdRefIdeal.At.res0_at q k (x2 m c) (hd t) (qrow t n) d).symm
  rw [← quot_at e0 e1, ← o_at]
  unfold outsAt0
  dsimp only
  rw [out_4]

theorem pt5 (e0 : x0 m c = cr q) (e1 : x1 m c = cr k) (t : Fin cfg0.N) (n : Fin 512) (d : Fin 128) :
    (outsAt0 m c t).2.1 (ix2 n d)
      = Cert.AttnFwdRefIdeal.Read.val_main_v42 (F := Ideal) (cr q) (cr k) (x2 m c) (x3 m c) (ix2 (qrow t n) (col (hd t) d)) := by
  have e3 : (iblk m c 3 t (ix2 n d) : EReal) = x3 m c (ix2 (qrow t n) (gcol (hd t) d)) :=
    (blk3 m c t n d).trans (congrFun (V_main_arg3 m c) _)
  refine Eq.trans ?_ (Cert.AttnFwdRefIdeal.At.res1_at q k (x2 m c) (x3 m c) (hd t) (qrow t n) d).symm
  rw [← quot_at e0 e1, ← oo_at, ← zero_sub, ← e3]
  unfold outsAt0
  dsimp only
  rw [out_5]
  exact g_at _ _ n d

theorem pt6 (e0 : x0 m c = cr q) (e1 : x1 m c = cr k) (t : Fin cfg0.N) (n : Fin 512) :
    (outsAt0 m c t).2.2 (ix3 0 0 n) = Cert.AttnFwdRefIdeal.Read.val_main_v43 (F := Ideal) (cr q) (cr k) (ix3 (hd t) 0 (qrow t n)) := by
  refine Eq.trans ?_ (Cert.AttnFwdRefIdeal.At.res2_at q k (hd t) (qrow t n)).symm
  rw [← (end_at e0 e1 t n).2, ← z_at (endA (iblk m c 0 t) (iblk m c 1 t) (iblk m c 2 t)), ← l_at]
  unfold outsAt0
  dsimp only
  rw [out_6]

/-- An index of a block by its parts. -/
theorem ix (y : S512x128.Idx) : y = ix2 (y 0) (y 1) := by funext a; match a with | 0 => rfl | 1 => rfl

theorem ixl (y : S1x1x512.Idx) : y = ix3 0 0 (y 2) := by
  have h0 : (y 0).val < 1 := (y 0).isLt
  have h1 : (y 1).val < 1 := (y 1).isLt
  funext a
  match a with
  | 0 => exact Fin.ext (by show (y 0).val = 0; omega)
  | 1 => exact Fin.ext (by show (y 1).val = 0; omega)
  | 2 => rfl

/-- The array of the output. -/
theorem out4 (e0 : x0 m c = cr q) (e1 : x1 m c = cr k) :
    (dats m 0 c).arrAt 4 cfg0.N = Cert.AttnFwdRefIdeal.Read.val_main_v39 (F := Ideal) (cr q) (cr k) (x2 m c) := by
  refine (dats m 0 c).arrAt_eq_of_covers 4 _ (by decide +kernel) fun t hf y => ?_
  blk_simp
  rw [after0_4]
  refine ((congrArg _ (ix y)).trans (pt4 e0 e1 t (y 0) (y 1))).trans (congrArg _ ?_)
  blk_ext [(idx t).2.2.2.2.1, qrow, col, hd]

/-- The array of the log-sums. -/
theorem out6 (e0 : x0 m c = cr q) (e1 : x1 m c = cr k) :
    (dats m 0 c).arrAt 6 cfg0.N = Cert.AttnFwdRefIdeal.Read.val_main_v43 (F := Ideal) (cr q) (cr k) := by
  refine (dats m 0 c).arrAt_eq_of_covers 6 _ (by decide +kernel) fun t hf y => ?_
  blk_simp
  rw [after0_6]
  refine ((congrArg _ (ixl y)).trans (pt6 e0 e1 t (y 2))).trans (congrArg _ ?_)
  blk_ext [(idx t).2.2.2.2.2.2, qrow, hd]

/-- The array of the gated output, on the columns the call writes. -/
theorem out5 (e0 : x0 m c = cr q) (e1 : x1 m c = cr k) (i : Fin 8192) (y : Fin 1024) :
    (dats m 0 c).arrAt 5 cfg0.N (ix2 i ⟨y.val, by omega⟩)
      = Cert.AttnFwdRefIdeal.Read.val_main_v42 (F := Ideal) (cr q) (cr k) (x2 m c) (x3 m c) (ix2 i y) := by
  have h := (dats m 0 c).arrAt_apply_of_coversWhere 5
    (fun z : S8192x2048.Idx => Cert.AttnFwdRefIdeal.Read.val_main_v42 (F := Ideal) (cr q) (cr k) (x2 m c) (x3 m c) (ix2 (z 0) ⟨(z 1).val % 1024, by omega⟩))
    (P := fun z : S8192x2048.Idx => (z 1).val / 128 < 8)
    (fun β => β (1 : Fin 2) < 8) (by decide +kernel) (fun t hf y => ?_) (fun j => Iff.rfl) (ix2 i ⟨y.val, by omega⟩)
  · refine h.trans ((if_pos (by show y.val / 128 < 8; omega)).trans ?_)
    exact congrArg _ (congrArg (ix2 i) (Fin.ext (Nat.mod_eq_of_lt y.isLt)))
  · blk_simp
    rw [after0_5]
    refine ((congrArg _ (ix y)).trans (pt5 e0 e1 t (y 0) (y 1))).trans (congrArg _ ?_)
    blk_ext [(idx t).2.2.2.2.2.1, qrow, col, hd]

end Cert.AttnFwdIdeal.Arr

end
-- ==== Proof.AttnEq.lean ====
module

public import proofs.«01_k».proof.Defs
public import proofs.«01_k».proof.Proof.AttnArr
public import proofs.«01_k».proof.Proof.Equation
public import proofs.«01_k».proof.Proof.Gen.AttnFwdRefIdeal.Run
public import Idealize.ShloMosaic.Adequacy
public import Idealize.ShloMosaic.Init

/-! The attention's forward call: its run and its reference's, and their equal results where queries and keys are real. -/

@[expose] public section

noncomputable section

namespace Cert.AttnFwdIdeal.Claims

open Idealize.ShloMosaic Idealize.SL.Sem Cert.AttnFwdIdeal Cert.AttnFwdIdeal.Gen Cert.AttnFwdIdeal.Arr Idealize.ShloMosaic.Tactic
open Cert.ReferenceIdeal.At (cr)

/-- The facts the precondition's two broadcasts take. -/
theorem pre_facts : Cert.Pre_finite_scores.Facts where
  bcast_S_S8192x1024 := by decide +kernel
  bcast_S_S8448x256 := by decide +kernel

/-- The reference ends with its arguments unchanged; it has no semaphore. -/
theorem ref_frame : Cert.quiescent_AttnFwdRefIdeal := fun m ρ _ =>
  (θ_run Cert.AttnFwdRefIdeal.defs _ _).mono (fun r h => ⟨fun c => (h c).2.2.2, sem_eq_zero_of_no_sems (by decide) r.2⟩)
    (Cert.AttnFwdRefIdeal.Value.run (F := Ideal) m ρ)

/-- The precondition: queries and keys are real. -/
theorem reals [Cert.Pre_finite_scores.Facts] (a : FVec Ideal S8192x1024 .f32) (b : FVec Ideal S8448x256 .f32) (v : FVec Ideal S8448x256 .f32)
    (p : FVec Ideal S8192x5632 .f32)
    (h : (Cert.Pre_finite_scores.fn (F := Ideal) a b v p).1 = (fun _ => 1#1) ∧ (Cert.Pre_finite_scores.fn (F := Ideal) a b v p).2 = (fun _ => 1#1)) :
    ∃ (q : S8192x1024.Idx → ℝ) (k : S8448x256.Idx → ℝ), a = cr q ∧ b = cr k := by
  obtain ⟨q, hq⟩ := Cert.Equation.real_arr a _ (fun _ => rfl) h.1
  obtain ⟨k, hk⟩ := Cert.Equation.real_arr b _ (fun _ => rfl) h.2
  exact ⟨q, k, hq, hk⟩

/-- The gated output's columns that the call writes, as the program's last operation takes them. -/
abbrev half (x : Vec Ideal S8192x2048 .bf16) : Vec Ideal S8192x1024 .bf16 := extractStridedSlice S8192x1024 ![0, 0] x slices_S8192x2048_S8192x1024_0_0

theorem half_at (x : Vec Ideal S8192x2048 .bf16) (i : Fin 8192) (y : Fin 1024) : half x (ix2 i y) = x (ix2 i ⟨y.val, by omega⟩) := by
  unfold half
  pointwise []

variable (m : (ℓ : Loc nD τ sig) → Buf (Elt Ideal) ℓ) (ρ : Dev nD → PrngReg)

/-- The run: each result is what the call leaves. -/
theorem run_res : θ_run defs (onTc (τ := τ) (main (F := Ideal))) ⟨m, fun _ => 0, ρ⟩ fun r => ∀ c : Dev nD,
      r.2.mem ((c.tc : Thread nD τ).loc main_v15_0) = (dats m 0 c).arrAt 4 cfg0.N
      ∧ r.2.mem ((c.tc : Thread nD τ).loc main_v16) = half ((dats m 0 c).arrAt 5 cfg0.N)
      ∧ r.2.mem ((c.tc : Thread nD τ).loc main_v15_2) = (dats m 0 c).arrAt 6 cfg0.N := by
  refine (θ_run defs _ _).mono (fun r h c => ⟨(h c).1 4, ?_, (h c).1 6⟩) (run_main (F := Ideal) m ρ)
  refine ((h c).2 main_v16 (Pipeline.mem_restRefs_of main_v16 (by decide) (by decide))).trans ?_
  unfold Pipeline.afterTail₀
  after_reads_simp
  exact congrArg half (Pipeline.withArrays_arr spec0 (by decide) c (V0 m c) (fun w => (dats m 0 c).arrAt w cfg0.N) 5)

theorem half_eq {q : S8192x1024.Idx → ℝ} {k : S8448x256.Idx → ℝ} {c : Dev nD} (e0 : x0 m c = cr q) (e1 : x1 m c = cr k) :
    half ((dats m 0 c).arrAt 5 cfg0.N) = Cert.AttnFwdRefIdeal.Read.val_main_v42 (F := Ideal) (cr q) (cr k) (x2 m c) (x3 m c) := by
  funext z
  have hz : z = ix2 (z 0) (z 1) := by funext a; match a with | 0 => rfl | 1 => rfl
  rw [hz]
  exact (half_at _ (z 0) (z 1)).trans (out5 e0 e1 (z 0) (z 1))

/-- Equal results. -/
theorem value [Cert.Pre_finite_scores.Facts] : Cert.algebraic_AttnFwdIdeal_AttnFwdRefIdeal_pre_finite_scores := by
  intro m ρ m' ρ' hpre hagree
  refine ⟨fun c => (dats m 0 c).arrAt 4 cfg0.N, fun c => half ((dats m 0 c).arrAt 5 cfg0.N), fun c => (dats m 0 c).arrAt 6 cfg0.N, ?_, ?_⟩
  · refine (θ_run _ _ _).mono (fun r h c => ?_) (θ_run_and (run_res m ρ) (unchanged (F := Ideal) m ρ))
    obtain ⟨h0, h1, h2⟩ := h.1 c
    exact ⟨h0, h1, h2, h.2 c⟩
  · refine (θ_run _ _ _).mono (fun r h c => ?_) (Cert.AttnFwdRefIdeal.Value.run (F := Ideal) m' ρ')
    obtain ⟨h0, h1, h2, ha⟩ := h c
    obtain ⟨a0, a1, a2, a3⟩ := hagree c
    obtain ⟨q, k, e0, e1⟩ := reals _ _ _ _ (hpre c)
    refine ⟨h0.trans ?_, h1.trans ?_, h2.trans ?_, ha⟩
    · refine Eq.trans ?_ (out4 e0 e1).symm
      rw [Cert.AttnFwdRefIdeal.Read.val_main_v39_eq, a0, a1, a2, e0, e1]
    · refine Eq.trans ?_ (half_eq m e0 e1).symm
      rw [Cert.AttnFwdRefIdeal.Read.val_main_v42_eq, a0, a1, a2, a3, e0, e1]
    · refine Eq.trans ?_ (out6 e0 e1).symm
      rw [Cert.AttnFwdRefIdeal.Read.val_main_v43_eq, a0, a1, e0, e1]

end Cert.AttnFwdIdeal.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import proofs.«01_k».proof.Proof.InputGrad
public import proofs.«01_k».proof.Proof.InputGradEven
public import proofs.«01_k».proof.Proof.WeightGrad
public import proofs.«01_k».proof.Proof.WeightGradEven
public import proofs.«01_k».proof.Proof.MixGrad
public import proofs.«01_k».proof.Proof.OutGrad
public import proofs.«01_k».proof.Proof.InProj
public import proofs.«01_k».proof.Proof.InProjEven
public import proofs.«01_k».proof.Proof.AttnEq
public import proofs.«01_k».proof.Proof.Gen.InputGrad1
public import proofs.«01_k».proof.Proof.Gen.InputGrad1.Frame
public import proofs.«01_k».proof.Proof.Gen.InputGrad1Ideal.Value
public import proofs.«01_k».proof.Proof.Gen.InputGrad1RefIdeal
public import proofs.«01_k».proof.Proof.Gen.InputGrad1RefIdeal.Run
public import proofs.«01_k».proof.Proof.Gen.InputGrad1RefIdeal.Read
public import proofs.«01_k».proof.Proof.Gen.WeightGrad1
public import proofs.«01_k».proof.Proof.Gen.WeightGrad1.Frame
public import proofs.«01_k».proof.Proof.Gen.WeightGrad1Ideal.Value
public import proofs.«01_k».proof.Proof.Gen.WeightGrad1RefIdeal
public import proofs.«01_k».proof.Proof.Gen.WeightGrad1RefIdeal.Run
public import proofs.«01_k».proof.Proof.Gen.WeightGrad1RefIdeal.Read
public import proofs.«01_k».proof.Proof.Gen.InputGrad0
public import proofs.«01_k».proof.Proof.Gen.InputGrad0.Frame
public import proofs.«01_k».proof.Proof.Gen.InputGrad0Ideal.Value
public import proofs.«01_k».proof.Proof.Gen.InputGrad0RefIdeal
public import proofs.«01_k».proof.Proof.Gen.InputGrad0RefIdeal.Run
public import proofs.«01_k».proof.Proof.Gen.InputGrad0RefIdeal.Read
public import proofs.«01_k».proof.Proof.Gen.WeightGrad0
public import proofs.«01_k».proof.Proof.Gen.WeightGrad0.Frame
public import proofs.«01_k».proof.Proof.Gen.WeightGrad0Ideal.Value
public import proofs.«01_k».proof.Proof.Gen.WeightGrad0RefIdeal
public import proofs.«01_k».proof.Proof.Gen.WeightGrad0RefIdeal.Run
public import proofs.«01_k».proof.Proof.Gen.WeightGrad0RefIdeal.Read
public import proofs.«01_k».proof.Proof.Gen.MixGrad
public import proofs.«01_k».proof.Proof.Gen.MixGrad.Frame
public import proofs.«01_k».proof.Proof.Gen.MixGradIdeal.Value
public import proofs.«01_k».proof.Proof.Gen.MixGradRefIdeal
public import proofs.«01_k».proof.Proof.Gen.MixGradRefIdeal.Run
public import proofs.«01_k».proof.Proof.Gen.MixGradRefIdeal.Read
public import proofs.«01_k».proof.Proof.Gen.OutGrad
public import proofs.«01_k».proof.Proof.Gen.OutGrad.Frame
public import proofs.«01_k».proof.Proof.Gen.OutGradIdeal.Value
public import proofs.«01_k».proof.Proof.Gen.OutGradRefIdeal
public import proofs.«01_k».proof.Proof.Gen.OutGradRefIdeal.Run
public import proofs.«01_k».proof.Proof.Gen.OutGradRefIdeal.Read
public import proofs.«01_k».proof.Proof.Gen.InProj1
public import proofs.«01_k».proof.Proof.Gen.InProj1.Frame
public import proofs.«01_k».proof.Proof.Gen.InProj1Ideal.Value
public import proofs.«01_k».proof.Proof.Gen.InProj1RefIdeal
public import proofs.«01_k».proof.Proof.Gen.InProj1RefIdeal.Run
public import proofs.«01_k».proof.Proof.Gen.InProj1RefIdeal.Read
public import proofs.«01_k».proof.Proof.Gen.InProj0
public import proofs.«01_k».proof.Proof.Gen.InProj0.Frame
public import proofs.«01_k».proof.Proof.Gen.InProj0Ideal.Value
public import proofs.«01_k».proof.Proof.Gen.InProj0RefIdeal
public import proofs.«01_k».proof.Proof.Gen.InProj0RefIdeal.Run
public import proofs.«01_k».proof.Proof.Gen.InProj0RefIdeal.Read
public import proofs.«01_k».proof.Proof.Gen.AttnFwd
public import proofs.«01_k».proof.Proof.Gen.AttnFwd.Frame
public import proofs.«01_k».proof.Proof.Gen.AttnFwdIdeal.Frame
public import proofs.«01_k».proof.Proof.Gen.AttnFwdRefIdeal
public import proofs.«01_k».proof.Proof.Gen.AttnFwdRefIdeal.Run
public import proofs.«01_k».proof.Proof.Gen.AttnFwdRefIdeal.Read
public import Idealize.ShloMosaic.Adequacy
public import Idealize.ShloMosaic.Init

@[expose] public section

noncomputable section

namespace Cert.Proof

open Idealize.ShloMosaic Idealize.SL.Sem

/-- The facts the precondition's two broadcasts take. -/
theorem pre_facts : Cert.Pre_finite.Facts where
  bcast_S_S8192x1024 := by decide +kernel
  bcast_S_S8448x256 := by decide +kernel

/-- The reference ends with its arguments unchanged; it has no semaphore. -/
theorem ref_frame : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- Equal results. -/
theorem value [Cert.Pre_finite.Facts] : Cert.algebraic_KernelIdeal_ReferenceIdeal_pre_finite := by
  intro m ρ m' ρ' hpre hagree
  refine ⟨fun c => Cert.KernelIdeal.Acc.arrDq m c, fun c => Cert.KernelIdeal.Acc.arrDk m c, fun c => Cert.KernelIdeal.Acc.arrDv m c, ?_, ?_⟩
  · refine (θ_run _ _ _).mono (fun r h c => ?_) (Cert.KernelIdeal.Value.run_blocks (F := Ideal) m ρ)
    obtain ⟨h0, h1, h2, ha⟩ := h c
    exact ⟨h0.trans (Cert.KernelIdeal.Acc.out7 m c), h1.trans (Cert.KernelIdeal.Acc.out8 m c), h2.trans (Cert.KernelIdeal.Acc.out9 m c), ha⟩
  · refine (θ_run _ _ _).mono (fun r h c => ?_) (Cert.ReferenceIdeal.Value.run (F := Ideal) m' ρ')
    obtain ⟨h0, h1, h2, ha⟩ := h c
    obtain ⟨a0, a1, a2, a3⟩ := hagree c
    obtain ⟨q, d, k, v, e0, e1, e2, e3⟩ := Cert.Equation.reals _ _ _ _ (hpre c)
    refine ⟨h0.trans ?_, h1.trans ?_, h2.trans ?_, ha⟩
    · refine Eq.trans ?_ (Cert.Equation.dq_arr e0 e1 e2 e3).symm
      rw [Cert.ReferenceIdeal.Read.val_main_v68_eq, a0, a1, a2, a3, e0, e1, e2, e3]
    · refine Eq.trans ?_ (Cert.Equation.dk_arr e0 e1 e2 e3).symm
      rw [Cert.ReferenceIdeal.Read.val_main_v63_eq, a0, a1, a2, a3, e0, e1, e2, e3]
    · refine Eq.trans ?_ (Cert.Equation.dv_arr e0 e1 e3).symm
      rw [Cert.ReferenceIdeal.Read.val_main_v62_eq, a0, a1, a3, e0, e1, e3]

theorem claim : Cert.Claim :=
  ⟨Cert.Kernel.Gen.facts, Cert.KernelIdeal.Gen.facts, Cert.ReferenceIdeal.Gen.facts,
    Cert.InputGrad1.Gen.facts, Cert.InputGrad1Ideal.Gen.facts, Cert.InputGrad1RefIdeal.Gen.facts,
    Cert.WeightGrad1.Gen.facts, Cert.WeightGrad1Ideal.Gen.facts, Cert.WeightGrad1RefIdeal.Gen.facts,
    Cert.InputGrad0.Gen.facts, Cert.InputGrad0Ideal.Gen.facts, Cert.InputGrad0RefIdeal.Gen.facts,
    Cert.WeightGrad0.Gen.facts, Cert.WeightGrad0Ideal.Gen.facts, Cert.WeightGrad0RefIdeal.Gen.facts,
    Cert.MixGrad.Gen.facts, Cert.MixGradIdeal.Gen.facts, Cert.MixGradRefIdeal.Gen.facts,
    Cert.OutGrad.Gen.facts, Cert.OutGradIdeal.Gen.facts, Cert.OutGradRefIdeal.Gen.facts,
    Cert.InProj1.Gen.facts, Cert.InProj1Ideal.Gen.facts, Cert.InProj1RefIdeal.Gen.facts,
    Cert.InProj0.Gen.facts, Cert.InProj0Ideal.Gen.facts, Cert.InProj0RefIdeal.Gen.facts,
    Cert.AttnFwd.Gen.facts, Cert.AttnFwdIdeal.Gen.facts, Cert.AttnFwdRefIdeal.Gen.facts,
    pre_facts, Cert.AttnFwdIdeal.Claims.pre_facts,
    fun m ρ _ => Cert.Kernel.Gen.frame m ρ,
    fun m ρ _ => Cert.KernelIdeal.Gen.frame m ρ,
    fun m ρ _ => Cert.KernelIdeal.Gen.frame m ρ,
    ref_frame,
    fun m ρ _ => ref_frame m ρ trivial,
    fun m ρ _ => Cert.InputGrad1.Gen.frame m ρ, fun m ρ _ => Cert.InputGrad1Ideal.Gen.frame m ρ, Cert.InputGrad1Ideal.Claims.ref_frame,
    fun m ρ _ => Cert.WeightGrad1.Gen.frame m ρ, fun m ρ _ => Cert.WeightGrad1Ideal.Gen.frame m ρ, Cert.WeightGrad1Ideal.Claims.ref_frame,
    fun m ρ _ => Cert.InputGrad0.Gen.frame m ρ, fun m ρ _ => Cert.InputGrad0Ideal.Gen.frame m ρ, Cert.InputGrad0Ideal.Claims.ref_frame,
    fun m ρ _ => Cert.WeightGrad0.Gen.frame m ρ, fun m ρ _ => Cert.WeightGrad0Ideal.Gen.frame m ρ, Cert.WeightGrad0Ideal.Claims.ref_frame,
    fun m ρ _ => Cert.MixGrad.Gen.frame m ρ, fun m ρ _ => Cert.MixGradIdeal.Gen.frame m ρ, Cert.MixGradIdeal.Claims.ref_frame,
    fun m ρ _ => Cert.OutGrad.Gen.frame m ρ, fun m ρ _ => Cert.OutGradIdeal.Gen.frame m ρ, Cert.OutGradIdeal.Claims.ref_frame,
    fun m ρ _ => Cert.InProj1.Gen.frame m ρ, fun m ρ _ => Cert.InProj1Ideal.Gen.frame m ρ, Cert.InProj1Ideal.Claims.ref_frame,
    fun m ρ _ => Cert.InProj0.Gen.frame m ρ, fun m ρ _ => Cert.InProj0Ideal.Gen.frame m ρ, Cert.InProj0Ideal.Claims.ref_frame,
    fun m ρ _ => Cert.AttnFwd.Gen.frame m ρ, fun m ρ _ => Cert.AttnFwdIdeal.Gen.frame m ρ, fun m ρ _ => Cert.AttnFwdIdeal.Gen.frame m ρ,
    Cert.AttnFwdIdeal.Claims.ref_frame, fun m ρ _ => Cert.AttnFwdIdeal.Claims.ref_frame m ρ trivial,
    trivial,
    @value pre_facts,
    trivial, Cert.InputGrad1Ideal.Claims.value,
    trivial, Cert.WeightGrad1Ideal.Claims.value,
    trivial, Cert.InputGrad0Ideal.Claims.value,
    trivial, Cert.WeightGrad0Ideal.Claims.value,
    trivial, Cert.MixGradIdeal.Claims.value,
    trivial, Cert.OutGradIdeal.Claims.value,
    trivial, Cert.InProj1Ideal.Claims.value,
    trivial, Cert.InProj0Ideal.Claims.value,
    IdealRules.named_const.statement Cert.AttnFwdIdeal.κ "log2_e" .f32 0x3FB8AA3B#32 (((Real.log 2)⁻¹ : ℝ) : EReal) rfl,
    @Cert.AttnFwdIdeal.Claims.value Cert.AttnFwdIdeal.Claims.pre_facts⟩

end Cert.Proof

end
